-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  IdealRules.named_const.Statement Cert.KernelIdeal.κ "exp2_scale" .f32 0x3E16C740#32 (((3424635 / 33554432) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)) (v3 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_v8_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "sqrt_half" .f32 0x3F3504F3#32 (((Real.sqrt 2)⁻¹ : ℝ) : EReal)
  ∧ IdealRules.named_const.Statement Cert.Kernel2Ideal.κ "normal" .f32 0x3ECC422A#32 (((9465531 / 16777216) * (Real.sqrt 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v20)) (v1 : (c : Dev Cert.Kernel2Ideal.nD) → Buf (Elt Ideal) ((c.tc : Thread Cert.Kernel2Ideal.nD Cert.Kernel2Ideal.τ).loc Cert.Kernel2Ideal.main_v19)) (v2 : (c : Dev Cert.Kernel2Ideal.nD) → Buf (Elt Ideal) ((c.tc : Thread Cert.Kernel2Ideal.nD Cert.Kernel2Ideal.τ).loc Cert.Kernel2Ideal.main_v14_1)) (v3 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_v19) = v1 c
          ∧ r.2.mem ((c.tc : Thread Cert.Kernel2Ideal.nD Cert.Kernel2Ideal.τ).loc Cert.Kernel2Ideal.main_v14_1) = v2 c
          ∧ r.2.mem ((c.tc : Thread Cert.Kernel2Ideal.nD Cert.Kernel2Ideal.τ).loc Cert.Kernel2Ideal.main_v14_2) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v99) = v1 c
          ∧ r.2.mem ((c.tc : Thread Cert.Reference2Ideal.nD Cert.Reference2Ideal.τ).loc Cert.Reference2Ideal.main_v92) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S4x2048x16x96 : Shape := ⟨4, ![4, 2048, 16, 96]⟩
abbrev S4x2304x16x128 : Shape := ⟨4, ![4, 2304, 16, 128]⟩
abbrev S4x2304x32 : Shape := ⟨3, ![4, 2304, 32]⟩
abbrev S4x2048x1024 : Shape := ⟨3, ![4, 2048, 1024]⟩
abbrev S_ : Shape := ⟨0, ![]⟩

class Facts : Prop where
  bcast_S_S4x2048x16x96 : S_.BroadcastsInDim S4x2048x16x96 (![] : Fin 0 → Fin S4x2048x16x96.rank)
  reducesTo_S4x2048x16x96_S_d0_1_2_3 : S4x2048x16x96.ReducesTo [0, 1, 2, 3] S_
  h_S_ : 0 < S_.numel
  bcast_S_S4x2304x16x128 : S_.BroadcastsInDim S4x2304x16x128 (![] : Fin 0 → Fin S4x2304x16x128.rank)
  reducesTo_S4x2304x16x128_S_d0_1_2_3 : S4x2304x16x128.ReducesTo [0, 1, 2, 3] S_
  bcast_S_S4x2304x32 : S_.BroadcastsInDim S4x2304x32 (![] : Fin 0 → Fin S4x2304x32.rank)
  reducesTo_S4x2304x32_S_d0_1_2 : S4x2304x32.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_arg2 : FVec F S4x2304x32 .f32) (main_arg3 : FVec F S4x2048x1024 .f32) (main_v12 : IVec S_ 1) (main_v14 : IVec S4x2304x32 1) (main_v15 : FVec F S4x2304x32 .f32) : IVec S_ 1 :=
  let main_v16 : IVec S4x2304x32 1 := cmpf .ogt main_arg2 main_v15
  let main_v17 : IVec S4x2304x32 1 := andi main_v14 main_v16
  let main_c_6 : IVec S_ 1 := constantI S_ 1 1#1
  let main_v18 : IVec S_ 1 := (fun x v => Host.reduce IntOp.andi x v reducesTo_S4x2304x32_S_d0_1_2 h_S_) main_v17 main_c_6
  let main_v19 : IVec S_ 1 := andi main_v12 main_v18
  let main_cst_7 : FVec F S_ .f32 := constant S_ .f32 0x7F800000#32
  let main_v20 : FVec F S4x2048x1024 .f32 := broadcastInDim S4x2048x1024 ![] bcast_S_S4x2048x1024 main_cst_7
  let main_v21 : IVec S4x2048x1024 1 := cmpf .olt main_arg3 main_v20
  let main_cst_8 : FVec F S_ .f32 := constant S_ .f32 0xFF800000#32
  let main_v22 : FVec F S4x2048x1024 .f32 := broadcastInDim S4x2048x1024 ![] bcast_S_S4x2048x1024 main_cst_8
  let main_v23 : IVec S4x2048x1024 1 := cmpf .ogt main_arg3 main_v22
  let main_v24 : IVec S4x2048x1024 1 := andi main_v21 main_v23
  let main_c_9 : IVec S_ 1 := constantI S_ 1 1#1
  let main_v25 : IVec S_ 1 := (fun x v => Host.reduce IntOp.andi x v reducesTo_S4x2048x1024_S_d0_1_2 h_S_) main_v24 main_c_9
  let main_v26 : IVec S_ 1 := andi main_v19 main_v25
  main_v26

def fn {F : FTy → Type} [FloatOps F] (main_arg0 : FVec F S4x2048x16x96 .f32) (main_arg1 : FVec F S4x2304x16x128 .f32) (main_arg2 : FVec F S4x2304x32 .f32) (main_arg3 : FVec F S4x2048x1024 .f32) : IVec S_ 1 :=
  let main_cst : FVec F S_ .f32 := constant S_ .f32 0x7F800000#32
  let main_v0 : FVec F S4x2048x16x96 .f32 := broadcastInDim S4x2048x16x96 ![] bcast_S_S4x2048x16x96 main_cst
  let main_v1 : IVec S4x2048x16x96 1 := cmpf .olt main_arg0 main_v0
  let main_cst_0 : FVec F S_ .f32 := constant S_ .f32 0xFF800000#32
  let main_v2 : FVec F S4x2048x16x96 .f32 := broadcastInDim S4x2048x16x96 ![] bcast_S_S4x2048x16x96 main_cst_0
  let main_v3 : IVec S4x2048x16x96 1 := cmpf .ogt main_arg0 main_v2
  let main_v4 : IVec S4x2048x16x96 1 := andi main_v1 main_v3
  let main_c : IVec S_ 1 := constantI S_ 1 1#1
  let main_v5 : IVec S_ 1 := (fun x v => Host.reduce IntOp.andi x v reducesTo_S4x2048x16x96_S_d0_1_2_3 h_S_) main_v4 main_c
  let main_cst_1 : FVec F S_ .f32 := constant S_ .f32 0x7F800000#32
  let main_v6 : FVec F S4x2304x16x128 .f32 := broadcastInDim S4x2304x16x128 ![] bcast_S_S4x2304x16x128 main_cst_1
  let main_v7 : IVec S4x2304x16x128 1 := cmpf .olt main_arg1 main_v6
  let main_cst_2 : FVec F S_ .f32 := constant S_ .f32 0xFF800000#32
  let main_v8 : FVec F S4x2304x16x128 .f32 := broadcastInDim S4x2304x16x128 ![] bcast_S_S4x2304x16x128 main_cst_2
  let main_v9 : IVec S4x2304x16x128 1 := cmpf .ogt main_arg1 main_v8
  let main_v10 : IVec S4x2304x16x128 1 := andi main_v7 main_v9
  let main_c_3 : IVec S_ 1 := constantI S_ 1 1#1
  let main_v11 : IVec S_ 1 := (fun x v => Host.reduce IntOp.andi x v reducesTo_S4x2304x16x128_S_d0_1_2_3 h_S_) main_v10 main_c_3
  let main_v12 : IVec S_ 1 := andi main_v5 main_v11
  let main_cst_4 : FVec F S_ .f32 := constant S_ .f32 0x7F800000#32
  let main_v13 : FVec F S4x2304x32 .f32 := broadcastInDim S4x2304x32 ![] bcast_S_S4x2304x32 main_cst_4
  let main_v14 : IVec S4x2304x32 1 := cmpf .olt main_arg2 main_v13
  let main_cst_5 : FVec F S_ .f32 := constant S_ .f32 0xFF800000#32
  let main_v15 : FVec F S4x2304x32 .f32 := broadcastInDim S4x2304x32 ![] bcast_S_S4x2304x32 main_cst_5
  fn_part1 (F := F) main_arg2 main_arg3 main_v12 main_v14 main_v15
-- ==== Pre_finite2.lean ====
abbrev S4x2048x1024 : Shape := ⟨3, ![4, 2048, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg5 : FVec F S4x2048x1024 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S4x2048x1024 .f32 := broadcastInDim S4x2048x1024 ![] bcast_S_S4x2048x1024 main_cst_13
  let main_v35 : IVec S4x2048x1024 1 := cmpf .olt main_arg5 main_v34
  let main_cst_14 : FVec F S_ .f32 := constant S_ .f32 0xFF800000#32
  let main_v36 : FVec F S4x2048x1024 .f32 := broadcastInDim S4x2048x1024 ![] bcast_S_S4x2048x1024 main_cst_14
  let main_v37 : IVec S4x2048x1024 1 := cmpf .ogt main_arg5 main_v36
  let main_v38 : IVec S4x2048x1024 1 := andi main_v35 main_v37
  let main_c_15 : IVec S_ 1 := constantI S_ 1 1#1
  let main_v39 : IVec S_ 1 := (fun x v => Host.reduce IntOp.andi x v reducesTo_S4x2048x1024_S_d0_1_2 h_S_) main_v38 main_c_15
  let main_v40 : IVec S_ 1 := andi main_v33 main_v39
  main_v40

def fn_part1 {F : FTy → Type} [FloatOps F] (main_arg2 : FVec F S3x2816 .f32) (main_arg3 : FVec F S1x2816 .f32) (main_arg4 : FVec F S2816x1024 .f32) (main_arg5 : FVec F S4x2048x1024 .f32) (main_v12 : IVec S_ 1) (main_v14 : IVec S3x2816 1) (main_v15 : FVec F S3x2816 .f32) : IVec S_ 1 :=
  let main_v16 : IVec S3x2816 1 := cmpf .ogt main_arg2 main_v15
  let main_v17 : IVec S3x2816 1 := andi main_v14 main_v16
  let main_c_6 : IVec S_ 1 := constantI S_ 1 1#1
  let main_v18 : IVec S_ 1 := (fun x v => Host.reduce IntOp.andi x v reducesTo_S3x2816_S_d0_1 h_S_) main_v17 main_c_6
  let main_v19 : IVec S_ 1 := andi main_v12 main_v18
  let main_cst_7 : FVec F S_ .f32 := constant S_ .f32 0x7F800000#32
  let main_v20 : FVec F S1x2816 .f32 := broadcastInDim S1x2816 ![] bcast_S_S1x2816 main_cst_7
  let main_v21 : IVec S1x2816 1 := cmpf .olt main_arg3 main_v20
  let main_cst_8 : FVec F S_ .f32 := constant S_ .f32 0xFF800000#32
  let main_v22 : FVec F S1x2816 .f32 := broadcastInDim S1x2816 ![] bcast_S_S1x2816 main_cst_8
  let main_v23 : IVec S1x2816 1 := cmpf .ogt main_arg3 main_v22
  let main_v24 : IVec S1x2816 1 := andi main_v21 main_v23
  let main_c_9 : IVec S_ 1 := constantI S_ 1 1#1
  let main_v25 : IVec S_ 1 := (fun x v => Host.reduce IntOp.andi x v reducesTo_S1x2816_S_d0_1 h_S_) main_v24 main_c_9
  let main_v26 : IVec S_ 1 := andi main_v19 main_v25
  let main_cst_10 : FVec F S_ .f32 := constant S_ .f32 0x7F800000#32
  let main_v27 : FVec F S2816x1024 .f32 := broadcastInDim S2816x1024 ![] bcast_S_S2816x1024 main_cst_10
  let main_v28 : IVec S2816x1024 1 := cmpf .olt main_arg4 main_v27
  let main_cst_11 : FVec F S_ .f32 := constant S_ .f32 0xFF800000#32
  let main_v29 : FVec F S2816x1024 .f32 := broadcastInDim S2816x1024 ![] bcast_S_S2816x1024 main_cst_11
  let main_v30 : IVec S2816x1024 1 := cmpf .ogt main_arg4 main_v29
  let main_v31 : IVec S2816x1024 1 := andi main_v28 main_v30
  let main_c_12 : IVec S_ 1 := constantI S_ 1 1#1
  let main_v32 : IVec S_ 1 := (fun x v => Host.reduce IntOp.andi x v reducesTo_S2816x1024_S_d0_1 h_S_) main_v31 main_c_12
  fn_part2 (F := F) main_arg5 main_v26 main_v32

def fn {F : FTy → Type} [FloatOps F] (main_arg0 : FVec F S4x2048x1024 .f32) (main_arg1 : FVec F S1024x5632 .f32) (main_arg2 : FVec F S3x2816 .f32) (main_arg3 : FVec F S1x2816 .f32) (main_arg4 : FVec F S2816x1024 .f32) (main_arg5 : FVec F S4x2048x1024 .f32) : IVec S_ 1 :=
  let main_cst : FVec F S_ .f32 := constant S_ .f32 0x7F800000#32
  let main_v0 : FVec F S4x2048x1024 .f32 := broadcastInDim S4x2048x1024 ![] bcast_S_S4x2048x1024 main_cst
  let main_v1 : IVec S4x2048x1024 1 := cmpf .olt main_arg0 main_v0
  let main_cst_0 : FVec F S_ .f32 := constant S_ .f32 0xFF800000#32
  let main_v2 : FVec F S4x2048x1024 .f32 := broadcastInDim S4x2048x1024 ![] bcast_S_S4x2048x1024 main_cst_0
  let main_v3 : IVec S4x2048x1024 1 := cmpf .ogt main_arg0 main_v2
  let main_v4 : IVec S4x2048x1024 1 := andi main_v1 main_v3
  let main_c : IVec S_ 1 := constantI S_ 1 1#1
  let main_v5 : IVec S_ 1 := (fun x v => Host.reduce IntOp.andi x v reducesTo_S4x2048x1024_S_d0_1_2 h_S_) main_v4 main_c
  let main_cst_1 : FVec F S_ .f32 := constant S_ .f32 0x7F800000#32
  let main_v6 : FVec F S1024x5632 .f32 := broadcastInDim S1024x5632 ![] bcast_S_S1024x5632 main_cst_1
  let main_v7 : IVec S1024x5632 1 := cmpf .olt main_arg1 main_v6
  let main_cst_2 : FVec F S_ .f32 := constant S_ .f32 0xFF800000#32
  let main_v8 : FVec F S1024x5632 .f32 := broadcastInDim S1024x5632 ![] bcast_S_S1024x5632 main_cst_2
  let main_v9 : IVec S1024x5632 1 := cmpf .ogt main_arg1 main_v8
  let main_v10 : IVec S1024x5632 1 := andi main_v7 main_v9
  let main_c_3 : IVec S_ 1 := constantI S_ 1 1#1
  let main_v11 : IVec S_ 1 := (fun x v => Host.reduce IntOp.andi x v reducesTo_S1024x5632_S_d0_1 h_S_) main_v10 main_c_3
  let main_v12 : IVec S_ 1 := andi main_v5 main_v11
  let main_cst_4 : FVec F S_ .f32 := constant S_ .f32 0x7F800000#32
  let main_v13 : FVec F S3x2816 .f32 := broadcastInDim S3x2816 ![] bcast_S_S3x2816 main_cst_4
  let main_v14 : IVec S3x2816 1 := cmpf .olt main_arg2 main_v13
  let main_cst_5 : FVec F S_ .f32 := constant S_ .f32 0xFF800000#32
  let main_v15 : FVec F S3x2816 .f32 := broadcastInDim S3x2816 ![] bcast_S_S3x2816 main_cst_5
  fn_part1 (F := F) main_arg2 main_arg3 main_arg4 main_arg5 main_v12 main_v14 main_v15
-- ==== Kernel.lean ====
abbrev S4x2048x16x96 : Shape := ⟨4, ![4, 2048, 16, 96]⟩
abbrev S4x2304x16x128 : Shape := ⟨4, ![4, 2304, 16, 128]⟩
abbrev S4x2304x32 : Shape := ⟨3, ![4, 2304, 32]⟩
abbrev S4x2048x1024 : Shape := ⟨3, ![4, 2048, 1024]⟩
abbrev S_ : Shape := ⟨0, ![]⟩
abbrev S4x2048x16x128 : Shape := ⟨4, ![4, 2048, 16, 128]⟩
abbrev S4x2048x2048 : Shape := ⟨3, ![4, 2048, 2048]⟩
abbrev S4x2304x2048 : Shape := ⟨3, ![4, 2304, 2048]⟩
abbrev S4x2304x128 : Shape := ⟨3, ![4, 2304, 128]⟩
abbrev S4x16x2048x1 : Shape := ⟨4, ![4, 16, 2048, 1]⟩
abbrev S1x256x256 : Shape := ⟨3, ![1, 256, 256]⟩
abbrev S1x2304x256 : Shape := ⟨3, ![1, 2304, 256]⟩
abbrev S1x2304x128 : Shape := ⟨3, ![1, 2304, 128]⟩
abbrev S1x256x128 : Shape := ⟨3, ![1, 256, 128]⟩
abbrev S1x2x256x1 : Shape := ⟨4, ![1, 2, 256, 1]⟩
abbrev S1x128 : Shape := ⟨2, ![1, 128]⟩
abbrev S2304x128 : Shape := ⟨2, ![2304, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩
abbrev S1x1x256x1 : Shape := ⟨4, ![1, 1, 256, 1]⟩

abbrev nBuf : Space → Nat
  | .hbm => 20
  | .vmem => 28
  | .smem => 0
  | _ => 0

abbrev bufTy : (tb : Table) → Fin (tcTables nBuf tb) → BufTy
  | .hbm, ⟨0, _⟩ => ⟨S4x2048x16x96, .f32⟩
  | .hbm, ⟨1, _⟩ => ⟨S4x2304x16x128, .f32⟩
  | .hbm, ⟨2, _⟩ => ⟨S4x2304x32, .f32⟩
  | .hbm, ⟨3, _⟩ => ⟨S4x2048x1024, .f32⟩
  | .hbm, ⟨4, _⟩ => ⟨S_, .i32⟩
  | .hbm, ⟨5, _⟩ => ⟨S_, .f32⟩
  | .hbm, ⟨6, _⟩ => ⟨S4x2048x16x128, .f32⟩
  | .hbm, ⟨7, _⟩ => ⟨S4x2048x2048, .f32⟩
  | .hbm, ⟨8, _⟩ => ⟨S4x2048x2048, .bf16⟩
  | .hbm, ⟨9, _⟩ => ⟨S4x2304x2048, .f32⟩
  | .hbm, ⟨10, _⟩ => ⟨S4x2304x2048, .bf16⟩
  | .hbm, ⟨11, _⟩ => ⟨S4x2304x32, .bf16⟩
  | .hbm, ⟨12, _⟩ => ⟨S_, .i32⟩
  | .hbm, ⟨13, _⟩ => ⟨S_, .bf16⟩
  | .hbm, ⟨14, _⟩ => ⟨S4x2304x128, .bf16⟩
  | .hbm, ⟨15, _⟩ => ⟨S4x2048x1024, .f32⟩
  | .hbm, ⟨16, _⟩ => ⟨S4x16x2048x1, .f32⟩
  | .hbm, ⟨17, _⟩ => ⟨S4x2048x2048, .f32⟩
  | .hbm, ⟨18, _⟩ => ⟨S4x2304x2048, .f32⟩
  | .hbm, ⟨19, _⟩ => ⟨S4x2304x128, .f32⟩
  | .local _ .vmem, ⟨0, _⟩ => ⟨S1x256x256, .bf16⟩
  | .local _ .vmem, ⟨1, _⟩ => ⟨S1x256x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x128, .f32⟩
  | .local _ .vmem, ⟨7, _⟩ => ⟨S1x256x128, .f32⟩
  | .local _ .vmem, ⟨8, _⟩ => ⟨S1x2x256x1, .f32⟩
  | .local _ .vmem, ⟨9, _⟩ => ⟨S1x2x256x1, .f32⟩
  | .local _ .vmem, ⟨10, _⟩ => ⟨S1x256x256, .bf16⟩
  | .local _ .vmem, ⟨11, _⟩ => ⟨S1x256x256, .bf16⟩
  | .local _ .vmem, ⟨12, _⟩ => ⟨S1x2304x256, .bf16⟩
  | .local _ .vmem, ⟨13, _⟩ => ⟨S1x2304x256, .bf16⟩
  | .local _ .vmem, ⟨14, _⟩ => ⟨S1x2304x128, .bf16⟩
  | .local _ .vmem, ⟨15, _⟩ => ⟨S1x2304x128, .bf16⟩
  | .local _ .vmem, ⟨16, _⟩ => ⟨S1x256x128, .f32⟩
  | .local _ .vmem, ⟨17, _⟩ => ⟨S1x256x128, .f32⟩
  | .local _ .vmem, ⟨18, _⟩ => ⟨S1x2x256x1, .f32⟩
  | .local _ .vmem, ⟨19, _⟩ => ⟨S1x2x256x1, .f32⟩
  | .local _ .vmem, ⟨20, _⟩ => ⟨S1x256x128, .f32⟩
  | .local _ .vmem, ⟨21, _⟩ => ⟨S1x256x128, .f32⟩
  | .local _ .vmem, ⟨22, _⟩ => ⟨S1x256x256, .f32⟩
  | .local _ .vmem, ⟨23, _⟩ => ⟨S1x256x256, .f32⟩
  | .local _ .vmem, ⟨24, _⟩ => ⟨S1x2304x256, .f32⟩
  | .local _ .vmem, ⟨25, _⟩ => ⟨S1x2304x256, .f32⟩
  | .local _ .vmem, ⟨26, _⟩ => ⟨S1x2304x128, .f32⟩
  | .local _ .vmem, ⟨27, _⟩ => ⟨S1x2304x128, .f32⟩
  | _, _ => ⟨S4x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![4, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2304x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2304x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x2x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x2304x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x2304x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== KernelIdeal.lean ====
variable {F : FTy → Type} [FloatOps F] [Named F]
def κ : String → Option EReal := fun
  | "exp2_scale" => some (((3424635 / 33554432) * (Real.log 2)⁻¹ : ℝ) : EReal)
  | "log2e" => some (((Real.log 2)⁻¹ : ℝ) : EReal)
  | _ => none
-- ==== ReferenceIdeal.lean ====
abbrev S4x2048x16x96 : Shape := ⟨4, ![4, 2048, 16, 96]⟩
abbrev S4x2304x16x128 : Shape := ⟨4, ![4, 2304, 16, 128]⟩
abbrev S4x2304x32 : Shape := ⟨3, ![4, 2304, 32]⟩
abbrev S4x2048x1024 : Shape := ⟨3, ![4, 2048, 1024]⟩
abbrev S4x2048x16x64 : Shape := ⟨4, ![4, 2048, 16, 64]⟩
abbrev S4x2048x16x32 : Shape := ⟨4, ![4, 2048, 16, 32]⟩
abbrev S4x2304x16x64 : Shape := ⟨4, ![4, 2304, 16, 64]⟩
abbrev S4x16x2048x2304 : Shape := ⟨4, ![4, 16, 2048, 2304]⟩
abbrev S4x2304x2048x16 : Shape := ⟨4, ![4, 2304, 2048, 16]⟩
abbrev S_ : Shape := ⟨0, ![]⟩
abbrev S4x16x2048 : Shape := ⟨3, ![4, 16, 2048]⟩
abbrev S4x16x2048x1 : Shape := ⟨4, ![4, 16, 2048, 1]⟩
abbrev S4x16x64x2048 : Shape := ⟨4, ![4, 16, 64, 2048]⟩
abbrev S4x16x64x2304 : Shape := ⟨4, ![4, 16, 64, 2304]⟩
abbrev S4x16x2304x64 : Shape := ⟨4, ![4, 16, 2304, 64]⟩
abbrev S4x16x2048x64 : Shape := ⟨4, ![4, 16, 2048, 64]⟩
abbrev S4x2048x16x128 : Shape := ⟨4, ![4, 2048, 16, 128]⟩
abbrev S4x2048x2048 : Shape := ⟨3, ![4, 2048, 2048]⟩
abbrev S4x2304x128 : Shape := ⟨3, ![4, 2304, 128]⟩
abbrev S4x2304x2048 : Shape := ⟨3, ![4, 2304, 2048]⟩

abbrev nBuf : Space → Nat
  | .hbm => 103
  | .vmem => 0
  | .smem => 0
  | _ => 0

abbrev bufTy : (tb : Table) → Fin (tcTables nBuf tb) → BufTy
  | .hbm, ⟨0, _⟩ => ⟨S4x2048x16x96, .f32⟩
  | .hbm, ⟨1, _⟩ => ⟨S4x2304x16x128, .f32⟩
  | .hbm, ⟨2, _⟩ => ⟨S4x2304x32, .f32⟩
  | .hbm, ⟨3, _⟩ => ⟨S4x2048x1024, .f32⟩
  | .hbm, ⟨4, _⟩ => ⟨S4x2048x16x64, .f32⟩
  | .hbm, ⟨5, _⟩ => ⟨S4x2048x16x32, .f32⟩
  | .hbm, ⟨6, _⟩ => ⟨S4x2304x16x64, .f32⟩
  | .hbm, ⟨7, _⟩ => ⟨S4x2304x16x64, .f32⟩
  | .hbm, ⟨8, _⟩ => ⟨S4x16x2048x2304, .f32⟩
  | .hbm, ⟨9, _⟩ => ⟨S4x2304x2048x16, .f32⟩
  | .hbm, ⟨10, _⟩ => ⟨S4x16x2048x2304, .f32⟩
  | .hbm, ⟨11, _⟩ => ⟨S4x16x2048x2304, .f32⟩
  | .hbm, ⟨12, _⟩ => ⟨S_, .f32⟩
  | .hbm, ⟨13, _⟩ => ⟨S4x16x2048x2304, .f32⟩
  | .hbm, ⟨14, _⟩ => ⟨S4x16x2048x2304, .f32⟩
  | .hbm, ⟨15, _⟩ => ⟨S_, .f32⟩
  | .hbm, ⟨16, _⟩ => ⟨S4x16x2048, .f32⟩
  | .hbm, ⟨17, _⟩ => ⟨S4x16x2048x1, .f32⟩
  | .hbm, ⟨18, _⟩ => ⟨S4x16x2048x2304, .f32⟩
  | .hbm, ⟨19, _⟩ => ⟨S4x16x2048x2304, .i1⟩
  | .hbm, ⟨20, _⟩ => ⟨S4x16x2048x2304, .f32⟩
  | .hbm, ⟨21, _⟩ => ⟨S_, .f32⟩
  | .hbm, ⟨22, _⟩ => ⟨S4x16x2048, .f32⟩
  | .hbm, ⟨23, _⟩ => ⟨S_, .f32⟩
  | .hbm, ⟨24, _⟩ => ⟨S4x16x2048, .f32⟩
  | .hbm, ⟨25, _⟩ => ⟨S4x16x2048, .f32⟩
  | .hbm, ⟨26, _⟩ => ⟨S_, .f32⟩
  | .hbm, ⟨27, _⟩ => ⟨S4x16x2048, .f32⟩
  | .hbm, ⟨28, _⟩ => ⟨S4x16x2048, .i1⟩
  | .hbm, ⟨29, _⟩ => ⟨S_, .f32⟩
  | .hbm, ⟨30, _⟩ => ⟨S4x16x2048, .f32⟩
  | .hbm, ⟨31, _⟩ => ⟨S4x16x2048, .i1⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048, .f32⟩
  | .hbm, ⟨40, _⟩ => ⟨S4x16x2048x1, .f32⟩
  | .hbm, ⟨41, _⟩ => ⟨S4x16x2048x2304, .f32⟩
  | .hbm, ⟨42, _⟩ => ⟨S4x16x2048x2304, .f32⟩
  | .hbm, ⟨43, _⟩ => ⟨S4x16x2048x2304, .f32⟩
  | .hbm, ⟨44, _⟩ => ⟨S_, .f32⟩
  | .hbm, ⟨45, _⟩ => ⟨S4x16x2048, .f32⟩
  | .hbm, ⟨46, _⟩ => ⟨S4x16x2048x1, .f32⟩
  | .hbm, ⟨47, _⟩ => ⟨S4x16x2048x2304, .f32⟩
  | .hbm, ⟨48, _⟩ => ⟨S4x16x2048x2304, .f32⟩
  | .hbm, ⟨49, _⟩ => ⟨S4x16x2048x1, .f32⟩
  | .hbm, ⟨50, _⟩ => ⟨S_, .f32⟩
  | .hbm, ⟨51, _⟩ => ⟨S4x16x2048x1, .f32⟩
  | .hbm, ⟨52, _⟩ => ⟨S4x16x2048x1, .f32⟩
  | .hbm, ⟨53, _⟩ => ⟨S4x16x64x2048, .f32⟩
  | .hbm, ⟨54, _⟩ => ⟨S4x2048x16x64, .f32⟩
  | .hbm, ⟨55, _⟩ => ⟨S4x2048x1024, .f32⟩
  | .hbm, ⟨56, _⟩ => ⟨S4x2048x16x64, .f32⟩
  | .hbm, ⟨57, _⟩ => ⟨S4x16x64x2048, .f32⟩
  | .hbm, ⟨58, _⟩ => ⟨S4x16x2048x2304, .f32⟩
  | .hbm, ⟨59, _⟩ => ⟨S4x16x64x2304, .f32⟩
  | .hbm, ⟨60, _⟩ => ⟨S4x2304x16x64, .f32⟩
  | .hbm, ⟨61, _⟩ => ⟨S4x16x2048x2304, .f32⟩
  | .hbm, ⟨62, _⟩ => ⟨S4x16x2048x2304, .f32⟩
  | .hbm, ⟨63, _⟩ => ⟨S4x16x2048x2304, .f32⟩
  | .hbm, ⟨64, _⟩ => ⟨S_, .f32⟩
  | .hbm, ⟨65, _⟩ => ⟨S4x16x2048, .f32⟩
  | .hbm, ⟨66, _⟩ => ⟨S4x16x2048x1, .f32⟩
  | .hbm, ⟨67, _⟩ => ⟨S4x16x2048x1, .f32⟩
  | .hbm, ⟨68, _⟩ => ⟨S4x16x2048x2304, .f32⟩
  | .hbm, ⟨69, _⟩ => ⟨S4x16x2048x2304, .f32⟩
  | .hbm, ⟨70, _⟩ => ⟨S_, .f32⟩
  | .hbm, ⟨71, _⟩ => ⟨S4x16x2048, .f32⟩
  | .hbm, ⟨72, _⟩ => ⟨S4x16x2048x2304, .f32⟩
  | .hbm, ⟨73, _⟩ => ⟨S4x16x2048x2304, .f32⟩
  | .hbm, ⟨74, _⟩ => ⟨S4x16x2048x2304, .f32⟩
  | .hbm, ⟨75, _⟩ => ⟨S_, .f32⟩
  | .hbm, ⟨76, _⟩ => ⟨S4x16x2048x2304, .f32⟩
  | .hbm, ⟨77, _⟩ => ⟨S4x16x2048x2304, .f32⟩
  | .hbm, ⟨78, _⟩ => ⟨S4x2304x2048x16, .f32⟩
  | .hbm, ⟨79, _⟩ => ⟨S4x2048x16x32, .f32⟩
  | .hbm, ⟨80, _⟩ => ⟨S4x2304x32, .f32⟩
  | .hbm, ⟨81, _⟩ => ⟨S4x16x2304x64, .f32⟩
  | .hbm, ⟨82, _⟩ => ⟨S4x2304x16x64, .f32⟩
  | .hbm, ⟨83, _⟩ => ⟨S4x16x2048x64, .f32⟩
  | .hbm, ⟨84, _⟩ => ⟨S4x2048x16x64, .f32⟩
  | .hbm, ⟨85, _⟩ => ⟨S_, .f32⟩
  | .hbm, ⟨86, _⟩ => ⟨S4x2304x16x128, .f32⟩
  | .hbm, ⟨87, _⟩ => ⟨S_, .f32⟩
  | .hbm, ⟨88, _⟩ => ⟨S4x2304x16x128, .f32⟩
  | .hbm, ⟨89, _⟩ => ⟨S4x2304x16x128, .f32⟩
  | .hbm, ⟨90, _⟩ => ⟨S_, .f32⟩
  | .hbm, ⟨91, _⟩ => ⟨S4x2048x16x96, .f32⟩
  | .hbm, ⟨92, _⟩ => ⟨S_, .f32⟩
  | .hbm, ⟨93, _⟩ => ⟨S4x2048x16x96, .f32⟩
  | .hbm, ⟨94, _⟩ => ⟨S4x2048x16x96, .f32⟩
  | .hbm, ⟨95, _⟩ => ⟨S_, .i32⟩
  | .hbm, ⟨96, _⟩ => ⟨S_, .f32⟩
  | .hbm, ⟨97, _⟩ => ⟨S4x2048x16x128, .f32⟩
  | .hbm, ⟨98, _⟩ => ⟨S4x2048x2048, .f32⟩
  | .hbm, ⟨99, _⟩ => ⟨S_, .i32⟩
  | .hbm, ⟨100, _⟩ => ⟨S_, .f32⟩
  | .hbm, ⟨101, _⟩ => ⟨S4x2304x128, .f32⟩
  | .hbm, ⟨102, _⟩ => ⟨S4x2304x2048, .f32⟩
  | _, _ => ⟨S4x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩
abbrev main_c : Ref sig .tc := ⟨.hbm, 95, rfl⟩
abbrev main_call0_v0 : Ref sig .tc := ⟨.hbm, 96, rfl⟩
abbrev main_v73 : Ref sig .tc := ⟨.hbm, 97, rfl⟩
abbrev main_v74 : Ref sig .tc := ⟨.hbm, 98, rfl⟩
abbrev main_c_17 : Ref sig .tc := ⟨.hbm, 99, rfl⟩
abbrev main_call1_v0 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Kernel2.lean ====
abbrev S4x2048x1024 : Shape := ⟨3, ![4, 2048, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024x2x11x256 : Shape := ⟨4, ![1024, 2, 11, 256]⟩
abbrev S1024x11x2x256 : Shape := ⟨4, ![1024, 11, 2, 256]⟩
abbrev S8192x1024 : Shape := ⟨2, ![8192, 1024]⟩
abbrev S8192x5632 : Shape := ⟨2, ![8192, 5632]⟩
abbrev S1024x1024 : Shape := ⟨2, ![1024, 1024]⟩
abbrev S1024x512 : Shape := ⟨2, ![1024, 512]⟩
abbrev S4x2048x5632 : Shape := ⟨3, ![4, 2048, 5632]⟩
abbrev S4x2048x2816 : Shape := ⟨3, ![4, 2048, 2816]⟩
abbrev S1x2048x512 : Shape := ⟨3, ![1, 2048, 512]⟩
abbrev S3x256 : Shape := ⟨2, ![3, 256]⟩
abbrev S1x256 : Shape := ⟨2, ![1, 256]⟩
abbrev S1x2048x256 : Shape := ⟨3, ![1, 2048, 256]⟩
abbrev S2048x512 : Shape := ⟨2, ![2048, 512]⟩
abbrev S2048x256 : Shape := ⟨2, ![2048, 256]⟩
abbrev S3x1 : Shape := ⟨2, ![3, 1]⟩
abbrev S256 : Shape := ⟨1, ![256]⟩
abbrev S8192x2816 : Shape := ⟨2, ![8192, 2816]⟩
abbrev S256x1024 : Shape := ⟨2, ![256, 1024]⟩
abbrev S1024x256 : Shape := ⟨2, ![1024, 256]⟩
abbrev S8192x11x2x256 : Shape := ⟨4, ![8192, 11, 2, 256]⟩
abbrev S8192x2x11x256 : Shape := ⟨4, ![8192, 2, 11, 256]⟩

abbrev nBuf : Space → Nat
  | .hbm => 29
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S3x2816, .f32⟩
  | .hbm, ⟨3, _⟩ => ⟨S1x2816, .f32⟩
  | .hbm, ⟨4, _⟩ => ⟨S2816x1024, .f32⟩
  | .hbm, ⟨5, _⟩ => ⟨S4x2048x1024, .f32⟩
  | .hbm, ⟨6, _⟩ => ⟨S4x2048x1024, .bf16⟩
  | .hbm, ⟨7, _⟩ => ⟨S1024x5632, .bf16⟩
  | .hbm, ⟨8, _⟩ => ⟨S1024x2x11x256, .bf16⟩
  | .hbm, ⟨9, _⟩ => ⟨S1024x11x2x256, .bf16⟩
  | .hbm, ⟨10, _⟩ => ⟨S1024x5632, .bf16⟩
  | .hbm, ⟨11, _⟩ => ⟨S2816x1024, .bf16⟩
  | .hbm, ⟨12, _⟩ => ⟨S4x2048x1024, .bf16⟩
  | .hbm, ⟨13, _⟩ => ⟨S8192x1024, .bf16⟩
  | .hbm, ⟨14, _⟩ => ⟨S8192x1024, .bf16⟩
  | .hbm, ⟨15, _⟩ => ⟨S8192x5632, .f32⟩
  | .hbm, ⟨16, _⟩ => ⟨S4x2048x5632, .f32⟩
  | .hbm, ⟨17, _⟩ => ⟨S4x2048x2816, .bf16⟩
  | .hbm, ⟨18, _⟩ => ⟨S8192x2816, .bf16⟩
  | .hbm, ⟨19, _⟩ => ⟨S4x2048x2816, .bf16⟩
  | .hbm, ⟨20, _⟩ => ⟨S4x2048x5632, .bf16⟩
  | .hbm, ⟨21, _⟩ => ⟨S3x2816, .f32⟩
  | .hbm, ⟨22, _⟩ => ⟨S1x2816, .f32⟩
  | .hbm, ⟨23, _⟩ => ⟨S8192x5632, .bf16⟩
  | .hbm, ⟨24, _⟩ => ⟨S8192x11x2x256, .bf16⟩
  | .hbm, ⟨25, _⟩ => ⟨S8192x2x11x256, .bf16⟩
  | .hbm, ⟨26, _⟩ => ⟨S8192x5632, .bf16⟩
  | .hbm, ⟨27, _⟩ => ⟨S8192x5632, .f32⟩
  | .hbm, ⟨28, _⟩ => ⟨S4x2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x2048x512, .f32⟩
  | .local _ .vmem, ⟨7, _⟩ => ⟨S1x2048x512, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x2048x256, .bf16⟩
  | .local _ .vmem, ⟨13, _⟩ => ⟨S1x2048x256, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x256, .bf16⟩
  | .local _ .vmem, ⟨19, _⟩ => ⟨S1024x256, .bf16⟩
  | .local _ .vmem, ⟨20, _⟩ => ⟨S1x2048x512, .f32⟩
  | .local _ .vmem, ⟨21, _⟩ => ⟨S1x2048x512, .f32⟩
  | .local _ .vmem, ⟨22, _⟩ => ⟨S3x256, .f32⟩
  | .local _ .vmem, ⟨23, _⟩ => ⟨S3x256, .f32⟩
  | .local _ .vmem, ⟨24, _⟩ => ⟨S1x256, .f32⟩
  | .local _ .vmem, ⟨25, _⟩ => ⟨S1x256, .f32⟩
  | .local _ .vmem, ⟨26, _⟩ => ⟨S1x2048x256, .bf16⟩
  | .local _ .vmem, ⟨27, _⟩ => ⟨S1x2048x256, .bf16⟩
  | .local _ .vmem, ⟨28, _⟩ => ⟨S1x2048x512, .bf16⟩
  | .local _ .vmem, ⟨29, _⟩ => ⟨S1x2048x512, .bf16⟩
  | .local _ .vmem, ⟨30, _⟩ => ⟨S3x256, .f32⟩
  | .local _ .vmem, ⟨31, _⟩ => ⟨S3x256, .f32⟩
  | .local _ .vmem, ⟨32, _⟩ => ⟨S1x256, .f32⟩
  | .local _ .vmem, ⟨33, _⟩ => ⟨S1x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![11, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![8, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![11, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1x2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S3x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x2048x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x2048x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S3x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]
-- ==== Kernel2Ideal.lean ====
variable {F : FTy → Type} [FloatOps F] [Named F]
def κ : String → Option EReal := fun
  | "normal" => some (((9465531 / 16777216) * (Real.sqrt 2)⁻¹ : ℝ) : EReal)
  | "sqrt_half" => some (((Real.sqrt 2)⁻¹ : ℝ) : EReal)
  | _ => none
-- ==== Reference2Ideal.lean ====
abbrev S4x2048x1024 : Shape := ⟨3, ![4, 2048, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S4x2048x5632 : Shape := ⟨3, ![4, 2048, 5632]⟩
abbrev S4x2048x2816 : Shape := ⟨3, ![4, 2048, 2816]⟩
abbrev S_ : Shape := ⟨0, ![]⟩
abbrev S4x1x2816 : Shape := ⟨3, ![4, 1, 2816]⟩
abbrev S4x2050x2816 : Shape := ⟨3, ![4, 2050, 2816]⟩
abbrev S2816 : Shape := ⟨1, ![2816]⟩
abbrev S1x1x2816 : Shape := ⟨3, ![1, 1, 2816]⟩
abbrev S8192x5632 : Shape := ⟨2, ![8192, 5632]⟩

abbrev nBuf : Space → Nat
  | .hbm => 129
  | .vmem => 0
  | .smem => 0
  | _ => 0

abbrev hbmTy0_0 (i : Nat) : BufTy := match i % 128 with
  | 0 => ⟨S4x2048x1024, .f32⟩
  | 1 => ⟨S1024x5632, .f32⟩
  | 2 => ⟨S3x2816, .f32⟩
  | 3 => ⟨S1x2816, .f32⟩
  | 4 => ⟨S2816x1024, .f32⟩
  | 5 => ⟨S4x2048x1024, .f32⟩
  | 6 => ⟨S4x2048x5632, .f32⟩
  | 7 => ⟨S4x2048x2816, .f32⟩
  | 8 => ⟨S4x2048x2816, .f32⟩
  | 9 => ⟨S_, .f32⟩
  | 10 => ⟨S4x1x2816, .f32⟩
  | 11 => ⟨S4x2050x2816, .f32⟩
  | 12 => ⟨S_, .f32⟩
  | 13 => ⟨S4x1x2816, .f32⟩
  | 14 => ⟨S_, .f32⟩
  | 15 => ⟨S4x1x2816, .f32⟩
  | 16 => ⟨S4x2048x2816, .f32⟩
  | 17 => ⟨S1x2816, .f32⟩
  | 18 => ⟨S2816, .f32⟩
  | 19 => ⟨S1x1x2816, .f32⟩
  | 20 => ⟨S4x2048x2816, .f32⟩
  | 21 => ⟨S4x2048x2816, .f32⟩
  | 22 => ⟨S_, .f32⟩
  | 23 => ⟨S4x2048x2816, .f32⟩
  | 24 => ⟨S4x2048x2816, .f32⟩
  | 25 => ⟨S4x2048x2816, .f32⟩
  | 26 => ⟨S1x2816, .f32⟩
  | 27 => ⟨S2816, .f32⟩
  | 28 => ⟨S1x1x2816, .f32⟩
  | 29 => ⟨S4x2048x2816, .f32⟩
  | 30 => ⟨S4x2048x2816, .f32⟩
  | 31 => ⟨S4x2048x2816, .f32⟩
  | 32 => ⟨S4x2048x2816, .f32⟩
  | 33 => ⟨S1x2816, .f32⟩
  | 34 => ⟨S2816, .f32⟩
  | 35 => ⟨S1x1x2816, .f32⟩
  | 36 => ⟨S4x2048x2816, .f32⟩
  | 37 => ⟨S4x2048x2816, .f32⟩
  | 38 => ⟨S4x2048x2816, .f32⟩
  | 39 => ⟨S1x1x2816, .f32⟩
  | 40 => ⟨S4x2048x2816, .f32⟩
  | 41 => ⟨S4x2048x2816, .f32⟩
  | 42 => ⟨S_, .f32⟩
  | 43 => ⟨S_, .f32⟩
  | 44 => ⟨S_, .f32⟩
  | 45 => ⟨S4x2048x2816, .f32⟩
  | 46 => ⟨S4x2048x2816, .f32⟩
  | 47 => ⟨S4x2048x2816, .f32⟩
  | 48 => ⟨S4x2048x2816, .f32⟩
  | 49 => ⟨S4x2048x2816, .f32⟩
  | 50 => ⟨S4x2048x2816, .f32⟩
  | 51 => ⟨S_, .f32⟩
  | 52 => ⟨S4x2048x2816, .f32⟩
  | 53 => ⟨S4x2048x2816, .f32⟩
  | 54 => ⟨S4x2048x2816, .f32⟩
  | 55 => ⟨S_, .f32⟩
  | 56 => ⟨S4x2048x2816, .f32⟩
  | 57 => ⟨S4x2048x2816, .f32⟩
  | 58 => ⟨S4x2048x2816, .f32⟩
  | 59 => ⟨S4x2048x1024, .f32⟩
  | 60 => ⟨S4x2048x2816, .f32⟩
  | 61 => ⟨S4x2048x2816, .f32⟩
  | 62 => ⟨S4x2048x2816, .f32⟩
  | 63 => ⟨S_, .f32⟩
  | 64 => ⟨S4x2048x2816, .f32⟩
  | 65 => ⟨S4x2048x2816, .f32⟩
  | 66 => ⟨S4x2048x2816, .f32⟩
  | 67 => ⟨S4x2048x2816, .f32⟩
  | 68 => ⟨S_, .f32⟩
  | 69 => ⟨S4x2048x2816, .f32⟩
  | 70 => ⟨S4x2048x2816, .f32⟩
  | 71 => ⟨S4x2048x2816, .f32⟩
  | 72 => ⟨S4x2048x2816, .f32⟩
  | 73 => ⟨S4x2048x2816, .f32⟩
  | 74 => ⟨S4x2048x2816, .f32⟩
  | 75 => ⟨S_, .f32⟩
  | 76 => ⟨S2816, .f32⟩
  | 77 => ⟨S1x1x2816, .f32⟩
  | 78 => ⟨S_, .f32⟩
  | 79 => ⟨S2816, .f32⟩
  | 80 => ⟨S1x2816, .f32⟩
  | 81 => ⟨S4x2048x2816, .f32⟩
  | 82 => ⟨S_, .f32⟩
  | 83 => ⟨S2816, .f32⟩
  | 84 => ⟨S1x1x2816, .f32⟩
  | 85 => ⟨S4x2048x2816, .f32⟩
  | 86 => ⟨S4x2048x2816, .f32⟩
  | 87 => ⟨S_, .f32⟩
  | 88 => ⟨S2816, .f32⟩
  | 89 => ⟨S1x2816, .f32⟩
  | 90 => ⟨S_, .f32⟩
  | 91 => ⟨S3x2816, .f32⟩
  | 92 => ⟨S_, .f32⟩
  | 93 => ⟨S4x2050x2816, .f32⟩
  | 94 => ⟨S4x2048x2816, .f32⟩
  | 95 => ⟨S_, .f32⟩
  | 96 => ⟨S2816, .f32⟩
  | 97 => ⟨S1x1x2816, .f32⟩
  | 98 => ⟨S4x2048x2816, .f32⟩
  | 99 => ⟨S4x2048x2816, .f32⟩
  | 100 => ⟨S_, .f32⟩
  | 101 => ⟨S2816, .f32⟩
  | 102 => ⟨S1x2816, .f32⟩
  | 103 => ⟨S_, .f32⟩
  | 104 => ⟨S3x2816, .f32⟩
  | 105 => ⟨S3x2816, .f32⟩
  | 106 => ⟨S_, .f32⟩
  | 107 => ⟨S4x2050x2816, .f32⟩
  | 108 => ⟨S4x2050x2816, .f32⟩
  | 109 => ⟨S4x2048x2816, .f32⟩
  | 110 => ⟨S_, .f32⟩
  | 111 => ⟨S2816, .f32⟩
  | 112 => ⟨S1x1x2816, .f32⟩
  | 113 => ⟨S4x2048x2816, .f32⟩
  | 114 => ⟨S4x2048x2816, .f32⟩
  | 115 => ⟨S_, .f32⟩
  | 116 => ⟨S2816, .f32⟩
  | 117 => ⟨S1x2816, .f32⟩
  | 118 => ⟨S_, .f32⟩
  | 119 => ⟨S3x2816, .f32⟩
  | 120 => ⟨S3x2816, .f32⟩
  | 121 => ⟨S_, .f32⟩
  | 122 => ⟨S4x2050x2816, .f32⟩
  | 123 => ⟨S4x2050x2816, .f32⟩
  | 124 => ⟨S4x1x2816, .f32⟩
  | 125 => ⟨S4x2048x2816, .f32⟩
  | 126 => ⟨S4x1x2816, .f32⟩
  | 127 => ⟨S4x2048x5632, .f32⟩
  | _ => ⟨S4x2048x1024, .f32⟩

abbrev hbmTy0_1 (i : Nat) : BufTy := match i % 128 with
  | 0 => ⟨S8192x5632, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_18 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_cst_21 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S8192x5632 : Shape := ⟨2, ![8192, 5632]⟩
abbrev S8192x2x11x256 : Shape := ⟨4, ![8192, 2, 11, 256]⟩
abbrev S8192x11x2x256 : Shape := ⟨4, ![8192, 11, 2, 256]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩
abbrev S1024x11x2x256 : Shape := ⟨4, ![1024, 11, 2, 256]⟩
abbrev S1024x2x11x256 : Shape := ⟨4, ![1024, 2, 11, 256]⟩

abbrev nBuf : Space → Nat
  | .hbm => 11
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S8192x2x11x256, .bf16⟩
  | .hbm, ⟨5, _⟩ => ⟨S8192x11x2x256, .bf16⟩
  | .hbm, ⟨6, _⟩ => ⟨S8192x5632, .bf16⟩
  | .hbm, ⟨7, _⟩ => ⟨S1024x5632, .f32⟩
  | .hbm, ⟨8, _⟩ => ⟨S1024x11x2x256, .f32⟩
  | .hbm, ⟨9, _⟩ => ⟨S1024x2x11x256, .f32⟩
  | .hbm, ⟨10, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x5632 : Shape := ⟨2, ![8192, 5632]⟩
abbrev S1024x5632 : Shape := ⟨2, ![1024, 5632]⟩
abbrev S8192x2x11x256 : Shape := ⟨4, ![8192, 2, 11, 256]⟩
abbrev S8192x11x2x256 : Shape := ⟨4, ![8192, 11, 2, 256]⟩
abbrev S1024x2x11x256 : Shape := ⟨4, ![1024, 2, 11, 256]⟩
abbrev S1024x11x2x256 : Shape := ⟨4, ![1024, 11, 2, 256]⟩
abbrev S8192x1024 : Shape := ⟨2, ![8192, 1024]⟩
abbrev S1024x1408 : Shape := ⟨2, ![1024, 1408]⟩
abbrev S512x1408 : Shape := ⟨2, ![512, 1408]⟩
abbrev S1024x512 : Shape := ⟨2, ![1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x5632, .bf16⟩
  | .hbm, ⟨3, _⟩ => ⟨S8192x2x11x256, .bf16⟩
  | .hbm, ⟨4, _⟩ => ⟨S8192x11x2x256, .bf16⟩
  | .hbm, ⟨5, _⟩ => ⟨S8192x5632, .bf16⟩
  | .hbm, ⟨6, _⟩ => ⟨S1024x5632, .bf16⟩
  | .hbm, ⟨7, _⟩ => ⟨S1024x2x11x256, .bf16⟩
  | .hbm, ⟨8, _⟩ => ⟨S1024x11x2x256, .bf16⟩
  | .hbm, ⟨9, _⟩ => ⟨S1024x5632, .bf16⟩
  | .hbm, ⟨10, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S9216x384 : Shape := ⟨2, ![9216, 384]⟩
abbrev S9216x256 : Shape := ⟨2, ![9216, 256]⟩
abbrev S9216x1024 : Shape := ⟨2, ![9216, 1024]⟩
abbrev S9216x1536 : Shape := ⟨2, ![9216, 1536]⟩
abbrev S9216x128 : Shape := ⟨2, ![9216, 128]⟩
abbrev S1024x384 : Shape := ⟨2, ![1024, 384]⟩
abbrev S1024x256 : Shape := ⟨2, ![1024, 256]⟩
abbrev S1024x1024 : Shape := ⟨2, ![1024, 1024]⟩
abbrev S1024x1536 : Shape := ⟨2, ![1024, 1536]⟩
abbrev S1024x128 : Shape := ⟨2, ![1024, 128]⟩
abbrev S512x384 : Shape := ⟨2, ![512, 384]⟩
abbrev S512x256 : Shape := ⟨2, ![512, 256]⟩
abbrev S512x1024 : Shape := ⟨2, ![512, 1024]⟩
abbrev S512x1536 : Shape := ⟨2, ![512, 1536]⟩
abbrev S512x128 : Shape := ⟨2, ![512, 128]⟩
abbrev S1024x512 : Shape := ⟨2, ![1024, 512]⟩

abbrev nBuf : Space → Nat
  | .hbm => 21
  | .vmem => 22
  | .smem => 0
  | _ => 0

abbrev bufTy : (tb : Table) → Fin (tcTables nBuf tb) → BufTy
  | .hbm, ⟨0, _⟩ => ⟨S9216x384, .f32⟩
  | .hbm, ⟨1, _⟩ => ⟨S9216x256, .f32⟩
  | .hbm, ⟨2, _⟩ => ⟨S9216x1024, .f32⟩
  | .hbm, ⟨3, _⟩ => ⟨S9216x1536, .f32⟩
  | .hbm, ⟨4, _⟩ => ⟨S9216x128, .f32⟩
  | .hbm, ⟨5, _⟩ => ⟨S1024x384, .f32⟩
  | .hbm, ⟨6, _⟩ => ⟨S1024x256, .f32⟩
  | .hbm, ⟨7, _⟩ => ⟨S1024x1024, .f32⟩
  | .hbm, ⟨8, _⟩ => ⟨S1024x1536, .f32⟩
  | .hbm, ⟨9, _⟩ => ⟨S1024x128, .f32⟩
  | .hbm, ⟨10, _⟩ => ⟨S9216x384, .bf16⟩
  | .hbm, ⟨11, _⟩ => ⟨S9216x256, .bf16⟩
  | .hbm, ⟨12, _⟩ => ⟨S9216x1024, .bf16⟩
  | .hbm, ⟨13, _⟩ => ⟨S9216x1536, .bf16⟩
  | .hbm, ⟨14, _⟩ => ⟨S9216x128, .bf16⟩
  | .hbm, ⟨15, _⟩ => ⟨S1024x384, .bf16⟩
  | .hbm, ⟨16, _⟩ => ⟨S1024x256, .bf16⟩
  | .hbm, ⟨17, _⟩ => ⟨S1024x1024, .bf16⟩
  | .hbm, ⟨18, _⟩ => ⟨S1024x1536, .bf16⟩
  | .hbm, ⟨19, _⟩ => ⟨S1024x128, .bf16⟩
  | .hbm, ⟨20, _⟩ => ⟨S9216x1024, .f32⟩
  | .local _ .vmem, ⟨0, _⟩ => ⟨S1024x384, .bf16⟩
  | .local _ .vmem, ⟨1, _⟩ => ⟨S1024x384, .bf16⟩
  | .local _ .vmem, ⟨2, _⟩ => ⟨S512x384, .bf16⟩
  | .local _ .vmem, ⟨3, _⟩ => ⟨S512x384, .bf16⟩
  | .local _ .vmem, ⟨4, _⟩ => ⟨S1024x256, .bf16⟩
  | .local _ .vmem, ⟨5, _⟩ => ⟨S1024x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1536, .bf16⟩
  | .local _ .vmem, ⟨13, _⟩ => ⟨S1024x1536, .bf16⟩
  | .local _ .vmem, ⟨14, _⟩ => ⟨S512x1536, .bf16⟩
  | .local _ .vmem, ⟨15, _⟩ => ⟨S512x1536, .bf16⟩
  | .local _ .vmem, ⟨16, _⟩ => ⟨S1024x128, .bf16⟩
  | .local _ .vmem, ⟨17, _⟩ => ⟨S1024x128, .bf16⟩
  | .local _ .vmem, ⟨18, _⟩ => ⟨S512x128, .bf16⟩
  | .local _ .vmem, ⟨19, _⟩ => ⟨S512x128, .bf16⟩
  | .local _ .vmem, ⟨20, _⟩ => ⟨S1024x512, .f32⟩
  | .local _ .vmem, ⟨21, _⟩ => ⟨S1024x512, .f32⟩
  | _, _ => ⟨S9216x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S9216x384 : Shape := ⟨2, ![9216, 384]⟩
abbrev S9216x256 : Shape := ⟨2, ![9216, 256]⟩
abbrev S9216x1024 : Shape := ⟨2, ![9216, 1024]⟩
abbrev S9216x1536 : Shape := ⟨2, ![9216, 1536]⟩
abbrev S9216x128 : Shape := ⟨2, ![9216, 128]⟩
abbrev S1024x384 : Shape := ⟨2, ![1024, 384]⟩
abbrev S1024x256 : Shape := ⟨2, ![1024, 256]⟩
abbrev S1024x1024 : Shape := ⟨2, ![1024, 1024]⟩
abbrev S1024x1536 : Shape := ⟨2, ![1024, 1536]⟩
abbrev S1024x128 : Shape := ⟨2, ![1024, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S9216x384, .f32⟩
  | .hbm, ⟨1, _⟩ => ⟨S9216x256, .f32⟩
  | .hbm, ⟨2, _⟩ => ⟨S9216x1024, .f32⟩
  | .hbm, ⟨3, _⟩ => ⟨S9216x1536, .f32⟩
  | .hbm, ⟨4, _⟩ => ⟨S9216x128, .f32⟩
  | .hbm, ⟨5, _⟩ => ⟨S1024x384, .f32⟩
  | .hbm, ⟨6, _⟩ => ⟨S1024x256, .f32⟩
  | .hbm, ⟨7, _⟩ => ⟨S1024x1024, .f32⟩
  | .hbm, ⟨8, _⟩ => ⟨S1024x1536, .f32⟩
  | .hbm, ⟨9, _⟩ => ⟨S1024x128, .f32⟩
  | .hbm, ⟨10, _⟩ => ⟨S_, .f32⟩
  | .hbm, ⟨11, _⟩ => ⟨S9216x1024, .f32⟩
  | .hbm, ⟨12, _⟩ => ⟨S9216x384, .f32⟩
  | .hbm, ⟨13, _⟩ => ⟨S9216x256, .f32⟩
  | .hbm, ⟨14, _⟩ => ⟨S9216x1024, .f32⟩
  | .hbm, ⟨15, _⟩ => ⟨S9216x1536, .f32⟩
  | .hbm, ⟨16, _⟩ => ⟨S9216x128, .f32⟩
  | .hbm, ⟨17, _⟩ => ⟨S9216x1024, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S9216x1024, .f32⟩
  | .hbm, ⟨22, _⟩ => ⟨S9216x1024, .f32⟩
  | .hbm, ⟨23, _⟩ => ⟨S9216x1024, .f32⟩
  | .hbm, ⟨24, _⟩ => ⟨S9216x1024, .f32⟩
  | .hbm, ⟨25, _⟩ => ⟨S9216x1024, .f32⟩
  | _, _ => ⟨S9216x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Kernel10.lean ====
abbrev S9216x1024 : Shape := ⟨2, ![9216, 1024]⟩
abbrev S1024x1024 : Shape := ⟨2, ![1024, 1024]⟩
abbrev S1536x1024 : Shape := ⟨2, ![1536, 1024]⟩
abbrev S1536x512 : Shape := ⟨2, ![1536, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .bf16⟩
  | .hbm, ⟨3, _⟩ => ⟨S9216x1024, .bf16⟩
  | .hbm, ⟨4, _⟩ => ⟨S1024x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x512, .bf16⟩
  | .local _ .vmem, ⟨3, _⟩ => ⟨S1536x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S1024x1024, .f32⟩
  | .hbm, ⟨6, _⟩ => ⟨S1024x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S9216x1024 : Shape := ⟨2, ![9216, 1024]⟩
abbrev S9216x1536 : Shape := ⟨2, ![9216, 1536]⟩
abbrev S1024x1536 : Shape := ⟨2, ![1024, 1536]⟩
abbrev S1536x1024 : Shape := ⟨2, ![1536, 1024]⟩
abbrev S1536x512 : Shape := ⟨2, ![1536, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216x1536, .f32⟩
  | .hbm, ⟨2, _⟩ => ⟨S9216x1024, .bf16⟩
  | .hbm, ⟨3, _⟩ => ⟨S9216x1536, .bf16⟩
  | .hbm, ⟨4, _⟩ => ⟨S1024x1536, .f32⟩
  | .local _ .vmem, ⟨0, _⟩ => ⟨S1536x1024, .bf16⟩
  | .local _ .vmem, ⟨1, _⟩ => ⟨S1536x1024, .bf16⟩
  | .local _ .vmem, ⟨2, _⟩ => ⟨S1536x512, .bf16⟩
  | .local _ .vmem, ⟨3, _⟩ => ⟨S1536x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S9216x1024 : Shape := ⟨2, ![9216, 1024]⟩
abbrev S9216x1536 : Shape := ⟨2, ![9216, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1536, .f32⟩
  | .hbm, ⟨2, _⟩ => ⟨S_, .f32⟩
  | .hbm, ⟨3, _⟩ => ⟨S1024x1536, .f32⟩
  | .hbm, ⟨4, _⟩ => ⟨S9216x1536, .f32⟩
  | .hbm, ⟨5, _⟩ => ⟨S1536x1024, .f32⟩
  | .hbm, ⟨6, _⟩ => ⟨S1024x1536, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S9216x1024 : Shape := ⟨2, ![9216, 1024]⟩
abbrev S9216x384 : Shape := ⟨2, ![9216, 384]⟩
abbrev S1024x384 : Shape := ⟨2, ![1024, 384]⟩
abbrev S1536x1024 : Shape := ⟨2, ![1536, 1024]⟩
abbrev S1536x384 : Shape := ⟨2, ![1536, 384]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x384, .f32⟩
  | .hbm, ⟨2, _⟩ => ⟨S9216x1024, .bf16⟩
  | .hbm, ⟨3, _⟩ => ⟨S9216x384, .bf16⟩
  | .hbm, ⟨4, _⟩ => ⟨S1024x384, .f32⟩
  | .local _ .vmem, ⟨0, _⟩ => ⟨S1536x1024, .bf16⟩
  | .local _ .vmem, ⟨1, _⟩ => ⟨S1536x1024, .bf16⟩
  | .local _ .vmem, ⟨2, _⟩ => ⟨S1536x384, .bf16⟩
  | .local _ .vmem, ⟨3, _⟩ => ⟨S1536x384, .bf16⟩
  | .local _ .vmem, ⟨4, _⟩ => ⟨S1024x384, .f32⟩
  | .local _ .vmem, ⟨5, _⟩ => ⟨S1024x384, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S9216x1024 : Shape := ⟨2, ![9216, 1024]⟩
abbrev S9216x384 : Shape := ⟨2, ![9216, 384]⟩
abbrev S_ : Shape := ⟨0, ![]⟩
abbrev S1024x384 : Shape := ⟨2, ![1024, 384]⟩
abbrev S384x1024 : Shape := ⟨2, ![384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x384, .f32⟩
  | .hbm, ⟨2, _⟩ => ⟨S_, .f32⟩
  | .hbm, ⟨3, _⟩ => ⟨S1024x384, .f32⟩
  | .hbm, ⟨4, _⟩ => ⟨S9216x384, .f32⟩
  | .hbm, ⟨5, _⟩ => ⟨S384x1024, .f32⟩
  | .hbm, ⟨6, _⟩ => ⟨S1024x384, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S9216x1024 : Shape := ⟨2, ![9216, 1024]⟩
abbrev S9216x256 : Shape := ⟨2, ![9216, 256]⟩
abbrev S1024x256 : Shape := ⟨2, ![1024, 256]⟩
abbrev S1536x1024 : Shape := ⟨2, ![1536, 1024]⟩
abbrev S1536x256 : Shape := ⟨2, ![1536, 256]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x256, .f32⟩
  | .hbm, ⟨2, _⟩ => ⟨S9216x1024, .bf16⟩
  | .hbm, ⟨3, _⟩ => ⟨S9216x256, .bf16⟩
  | .hbm, ⟨4, _⟩ => ⟨S1024x256, .f32⟩
  | .local _ .vmem, ⟨0, _⟩ => ⟨S1536x1024, .bf16⟩
  | .local _ .vmem, ⟨1, _⟩ => ⟨S1536x1024, .bf16⟩
  | .local _ .vmem, ⟨2, _⟩ => ⟨S1536x256, .bf16⟩
  | .local _ .vmem, ⟨3, _⟩ => ⟨S1536x256, .bf16⟩
  | .local _ .vmem, ⟨4, _⟩ => ⟨S1024x256, .f32⟩
  | .local _ .vmem, ⟨5, _⟩ => ⟨S1024x256, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S9216x1024 : Shape := ⟨2, ![9216, 1024]⟩
abbrev S9216x256 : Shape := ⟨2, ![9216, 256]⟩
abbrev S_ : Shape := ⟨0, ![]⟩
abbrev S1024x256 : Shape := ⟨2, ![1024, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x256, .f32⟩
  | .hbm, ⟨2, _⟩ => ⟨S_, .f32⟩
  | .hbm, ⟨3, _⟩ => ⟨S1024x256, .f32⟩
  | .hbm, ⟨4, _⟩ => ⟨S9216x256, .f32⟩
  | .hbm, ⟨5, _⟩ => ⟨S256x1024, .f32⟩
  | .hbm, ⟨6, _⟩ => ⟨S1024x256, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S9216x1024 : Shape := ⟨2, ![9216, 1024]⟩
abbrev S9216x128 : Shape := ⟨2, ![9216, 128]⟩
abbrev S1024x128 : Shape := ⟨2, ![1024, 128]⟩
abbrev S1536x1024 : Shape := ⟨2, ![1536, 1024]⟩
abbrev S1536x128 : Shape := ⟨2, ![1536, 128]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x128, .f32⟩
  | .hbm, ⟨2, _⟩ => ⟨S9216x1024, .bf16⟩
  | .hbm, ⟨3, _⟩ => ⟨S9216x128, .bf16⟩
  | .hbm, ⟨4, _⟩ => ⟨S1024x128, .f32⟩
  | .local _ .vmem, ⟨0, _⟩ => ⟨S1536x1024, .bf16⟩
  | .local _ .vmem, ⟨1, _⟩ => ⟨S1536x1024, .bf16⟩
  | .local _ .vmem, ⟨2, _⟩ => ⟨S1536x128, .bf16⟩
  | .local _ .vmem, ⟨3, _⟩ => ⟨S1536x128, .bf16⟩
  | .local _ .vmem, ⟨4, _⟩ => ⟨S1024x128, .f32⟩
  | .local _ .vmem, ⟨5, _⟩ => ⟨S1024x128, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S9216x1024 : Shape := ⟨2, ![9216, 1024]⟩
abbrev S9216x128 : Shape := ⟨2, ![9216, 128]⟩
abbrev S_ : Shape := ⟨0, ![]⟩
abbrev S1024x128 : Shape := ⟨2, ![1024, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x128, .f32⟩
  | .hbm, ⟨2, _⟩ => ⟨S_, .f32⟩
  | .hbm, ⟨3, _⟩ => ⟨S1024x128, .f32⟩
  | .hbm, ⟨4, _⟩ => ⟨S9216x128, .f32⟩
  | .hbm, ⟨5, _⟩ => ⟨S128x1024, .f32⟩
  | .hbm, ⟨6, _⟩ => ⟨S1024x128, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x384 : Shape := ⟨2, ![8192, 384]⟩
abbrev S8192x2048 : Shape := ⟨2, ![8192, 2048]⟩
abbrev S384x2048 : Shape := ⟨2, ![384, 2048]⟩
abbrev S2048x384 : Shape := ⟨2, ![2048, 384]⟩
abbrev S2048x512 : Shape := ⟨2, ![2048, 512]⟩
abbrev S384x512 : Shape := ⟨2, ![384, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x384, .f32⟩
  | .hbm, ⟨1, _⟩ => ⟨S8192x2048, .f32⟩
  | .hbm, ⟨2, _⟩ => ⟨S8192x384, .bf16⟩
  | .hbm, ⟨3, _⟩ => ⟨S8192x2048, .bf16⟩
  | .hbm, ⟨4, _⟩ => ⟨S384x2048, .f32⟩
  | .local _ .vmem, ⟨0, _⟩ => ⟨S2048x384, .bf16⟩
  | .local _ .vmem, ⟨1, _⟩ => ⟨S2048x384, .bf16⟩
  | .local _ .vmem, ⟨2, _⟩ => ⟨S2048x512, .bf16⟩
  | .local _ .vmem, ⟨3, _⟩ => ⟨S2048x512, .bf16⟩
  | .local _ .vmem, ⟨4, _⟩ => ⟨S384x512, .f32⟩
  | .local _ .vmem, ⟨5, _⟩ => ⟨S384x512, .f32⟩
  | .local _ .vmem, ⟨6, _⟩ => ⟨S384x512, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x384 : Shape := ⟨2, ![8192, 384]⟩
abbrev S8192x2048 : Shape := ⟨2, ![8192, 2048]⟩
abbrev S_ : Shape := ⟨0, ![]⟩
abbrev S384x2048 : Shape := ⟨2, ![384, 2048]⟩
abbrev S2048x384 : Shape := ⟨2, ![2048, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x2048, .f32⟩
  | .hbm, ⟨2, _⟩ => ⟨S_, .f32⟩
  | .hbm, ⟨3, _⟩ => ⟨S384x2048, .f32⟩
  | .hbm, ⟨4, _⟩ => ⟨S8192x2048, .f32⟩
  | .hbm, ⟨5, _⟩ => ⟨S2048x384, .f32⟩
  | .hbm, ⟨6, _⟩ => ⟨S384x2048, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x2048 : Shape := ⟨2, ![8192, 2048]⟩
abbrev S384x2048 : Shape := ⟨2, ![384, 2048]⟩
abbrev S8192x384 : Shape := ⟨2, ![8192, 384]⟩
abbrev S1024x2048 : Shape := ⟨2, ![1024, 2048]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S384x2048, .f32⟩
  | .hbm, ⟨2, _⟩ => ⟨S8192x2048, .bf16⟩
  | .hbm, ⟨3, _⟩ => ⟨S384x2048, .bf16⟩
  | .hbm, ⟨4, _⟩ => ⟨S8192x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .f32⟩
  | .local _ .vmem, ⟨4, _⟩ => ⟨S1024x384, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S384x2048 : Shape := ⟨2, ![384, 2048]⟩
abbrev S_ : Shape := ⟨0, ![]⟩
abbrev S8192x384 : Shape := ⟨2, ![8192, 384]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S384x2048, .f32⟩
  | .hbm, ⟨2, _⟩ => ⟨S_, .f32⟩
  | .hbm, ⟨3, _⟩ => ⟨S8192x384, .f32⟩
  | .hbm, ⟨4, _⟩ => ⟨S8192x2048, .f32⟩
  | .hbm, ⟨5, _⟩ => ⟨S8192x384, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S9216x256 : Shape := ⟨2, ![9216, 256]⟩
abbrev S9216x2048 : Shape := ⟨2, ![9216, 2048]⟩
abbrev S256x2048 : Shape := ⟨2, ![256, 2048]⟩
abbrev S1536x256 : Shape := ⟨2, ![1536, 256]⟩
abbrev S1536x512 : Shape := ⟨2, ![1536, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S9216x256, .f32⟩
  | .hbm, ⟨1, _⟩ => ⟨S9216x2048, .f32⟩
  | .hbm, ⟨2, _⟩ => ⟨S9216x256, .bf16⟩
  | .hbm, ⟨3, _⟩ => ⟨S256x2048, .f32⟩
  | .local _ .vmem, ⟨0, _⟩ => ⟨S1536x256, .bf16⟩
  | .local _ .vmem, ⟨1, _⟩ => ⟨S1536x256, .bf16⟩
  | .local _ .vmem, ⟨2, _⟩ => ⟨S1536x512, .f32⟩
  | .local _ .vmem, ⟨3, _⟩ => ⟨S1536x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S9216x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S9216x256 : Shape := ⟨2, ![9216, 256]⟩
abbrev S9216x2048 : Shape := ⟨2, ![9216, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S9216x256, .f32⟩
  | .hbm, ⟨1, _⟩ => ⟨S9216x2048, .f32⟩
  | .hbm, ⟨2, _⟩ => ⟨S_, .f32⟩
  | .hbm, ⟨3, _⟩ => ⟨S256x2048, .f32⟩
  | .hbm, ⟨4, _⟩ => ⟨S9216x2048, .f32⟩
  | .hbm, ⟨5, _⟩ => ⟨S2048x256, .f32⟩
  | .hbm, ⟨6, _⟩ => ⟨S256x2048, .f32⟩
  | _, _ => ⟨S9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S9216x2048 : Shape := ⟨2, ![9216, 2048]⟩
abbrev S256x2048 : Shape := ⟨2, ![256, 2048]⟩
abbrev S9216x256 : Shape := ⟨2, ![9216, 256]⟩
abbrev S1024x2048 : Shape := ⟨2, ![1024, 2048]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S256x2048, .f32⟩
  | .hbm, ⟨2, _⟩ => ⟨S256x2048, .bf16⟩
  | .hbm, ⟨3, _⟩ => ⟨S9216x256, .f32⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S9216x2048 : Shape := ⟨2, ![9216, 2048]⟩
abbrev S256x2048 : Shape := ⟨2, ![256, 2048]⟩
abbrev S_ : Shape := ⟨0, ![]⟩
abbrev S9216x256 : Shape := ⟨2, ![9216, 256]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S256x2048, .f32⟩
  | .hbm, ⟨2, _⟩ => ⟨S_, .f32⟩
  | .hbm, ⟨3, _⟩ => ⟨S9216x256, .f32⟩
  | .hbm, ⟨4, _⟩ => ⟨S9216x2048, .f32⟩
  | .hbm, ⟨5, _⟩ => ⟨S9216x256, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S8192x1024 : Shape := ⟨2, ![8192, 1024]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S8192x1024, .bf16⟩
  | .hbm, ⟨4, _⟩ => ⟨S2048x1024, .bf16⟩
  | .hbm, ⟨5, _⟩ => ⟨S1024x1024, .bf16⟩
  | .hbm, ⟨6, _⟩ => ⟨S1024x1024, .bf16⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference19Ideal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S8192x2048, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel20.lean ====
abbrev S9216x1024 : Shape := ⟨2, ![9216, 1024]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S1024x1024, .f32⟩
  | .hbm, ⟨2, _⟩ => ⟨S9216x1024, .bf16⟩
  | .hbm, ⟨3, _⟩ => ⟨S1024x1024, .bf16⟩
  | .hbm, ⟨4, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S9216x1024 : Shape := ⟨2, ![9216, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x1024, .f32⟩
  | .hbm, ⟨2, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S9216x1024 : Shape := ⟨2, ![9216, 1024]⟩
abbrev S1024x1536 : Shape := ⟨2, ![1024, 1536]⟩
abbrev S9216x1536 : Shape := ⟨2, ![9216, 1536]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S1024x1536, .f32⟩
  | .hbm, ⟨2, _⟩ => ⟨S9216x1024, .bf16⟩
  | .hbm, ⟨3, _⟩ => ⟨S1024x1536, .bf16⟩
  | .hbm, ⟨4, _⟩ => ⟨S9216x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S9216x1024 : Shape := ⟨2, ![9216, 1024]⟩
abbrev S1024x1536 : Shape := ⟨2, ![1024, 1536]⟩
abbrev S9216x1536 : Shape := ⟨2, ![9216, 1536]⟩

abbrev nBuf : Space → Nat
  | .hbm => 3
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x1536, .f32⟩
  | .hbm, ⟨2, _⟩ => ⟨S9216x1536, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S9216x1024 : Shape := ⟨2, ![9216, 1024]⟩
abbrev S1024x384 : Shape := ⟨2, ![1024, 384]⟩
abbrev S9216x384 : Shape := ⟨2, ![9216, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x384, .f32⟩
  | .hbm, ⟨2, _⟩ => ⟨S9216x1024, .bf16⟩
  | .hbm, ⟨3, _⟩ => ⟨S1024x384, .bf16⟩
  | .hbm, ⟨4, _⟩ => ⟨S9216x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S9216x1024 : Shape := ⟨2, ![9216, 1024]⟩
abbrev S1024x384 : Shape := ⟨2, ![1024, 384]⟩
abbrev S9216x384 : Shape := ⟨2, ![9216, 384]⟩

abbrev nBuf : Space → Nat
  | .hbm => 3
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x384, .f32⟩
  | .hbm, ⟨2, _⟩ => ⟨S9216x384, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S9216x1024 : Shape := ⟨2, ![9216, 1024]⟩
abbrev S1024x256 : Shape := ⟨2, ![1024, 256]⟩
abbrev S9216x256 : Shape := ⟨2, ![9216, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x256, .f32⟩
  | .hbm, ⟨2, _⟩ => ⟨S9216x1024, .bf16⟩
  | .hbm, ⟨3, _⟩ => ⟨S1024x256, .bf16⟩
  | .hbm, ⟨4, _⟩ => ⟨S9216x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S9216x1024 : Shape := ⟨2, ![9216, 1024]⟩
abbrev S1024x256 : Shape := ⟨2, ![1024, 256]⟩
abbrev S9216x256 : Shape := ⟨2, ![9216, 256]⟩

abbrev nBuf : Space → Nat
  | .hbm => 3
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x256, .f32⟩
  | .hbm, ⟨2, _⟩ => ⟨S9216x256, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S9216x1024 : Shape := ⟨2, ![9216, 1024]⟩
abbrev S1024x128 : Shape := ⟨2, ![1024, 128]⟩
abbrev S9216x128 : Shape := ⟨2, ![9216, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x128, .f32⟩
  | .hbm, ⟨2, _⟩ => ⟨S9216x1024, .bf16⟩
  | .hbm, ⟨3, _⟩ => ⟨S1024x128, .bf16⟩
  | .hbm, ⟨4, _⟩ => ⟨S9216x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S9216x1024 : Shape := ⟨2, ![9216, 1024]⟩
abbrev S1024x128 : Shape := ⟨2, ![1024, 128]⟩
abbrev S9216x128 : Shape := ⟨2, ![9216, 128]⟩

abbrev nBuf : Space → Nat
  | .hbm => 3
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x128, .f32⟩
  | .hbm, ⟨2, _⟩ => ⟨S9216x128, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel25.lean ====
abbrev S8192x384 : Shape := ⟨2, ![8192, 384]⟩
abbrev S384x2048 : Shape := ⟨2, ![384, 2048]⟩
abbrev S8192x2048 : Shape := ⟨2, ![8192, 2048]⟩
abbrev S1024x384 : Shape := ⟨2, ![1024, 384]⟩
abbrev S384x512 : Shape := ⟨2, ![384, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x384, .bf16⟩
  | .hbm, ⟨3, _⟩ => ⟨S384x2048, .bf16⟩
  | .hbm, ⟨4, _⟩ => ⟨S8192x2048, .f32⟩
  | .local _ .vmem, ⟨0, _⟩ => ⟨S1024x384, .bf16⟩
  | .local _ .vmem, ⟨1, _⟩ => ⟨S1024x384, .bf16⟩
  | .local _ .vmem, ⟨2, _⟩ => ⟨S384x512, .bf16⟩
  | .local _ .vmem, ⟨3, _⟩ => ⟨S384x512, .bf16⟩
  | .local _ .vmem, ⟨4, _⟩ => ⟨S1024x512, .f32⟩
  | .local _ .vmem, ⟨5, _⟩ => ⟨S1024x512, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x384 : Shape := ⟨2, ![8192, 384]⟩
abbrev S384x2048 : Shape := ⟨2, ![384, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x2048, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S9216x256 : Shape := ⟨2, ![9216, 256]⟩
abbrev S256x2048 : Shape := ⟨2, ![256, 2048]⟩
abbrev S9216x2048 : Shape := ⟨2, ![9216, 2048]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S9216x256, .f32⟩
  | .hbm, ⟨1, _⟩ => ⟨S256x2048, .f32⟩
  | .hbm, ⟨2, _⟩ => ⟨S9216x256, .bf16⟩
  | .hbm, ⟨3, _⟩ => ⟨S256x2048, .bf16⟩
  | .hbm, ⟨4, _⟩ => ⟨S9216x2048, .bf16⟩
  | .hbm, ⟨5, _⟩ => ⟨S9216x2048, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .bf16⟩
  | .local _ .vmem, ⟨5, _⟩ => ⟨S1024x512, .bf16⟩
  | _, _ => ⟨S9216x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S9216x256 : Shape := ⟨2, ![9216, 256]⟩
abbrev S256x2048 : Shape := ⟨2, ![256, 2048]⟩
abbrev S9216x2048 : Shape := ⟨2, ![9216, 2048]⟩

abbrev nBuf : Space → Nat
  | .hbm => 3
  | .vmem => 0
  | .smem => 0
  | _ => 0

abbrev bufTy : (tb : Table) → Fin (tcTables nBuf tb) → BufTy
  | .hbm, ⟨0, _⟩ => ⟨S9216x256, .f32⟩
  | .hbm, ⟨1, _⟩ => ⟨S256x2048, .f32⟩
  | .hbm, ⟨2, _⟩ => ⟨S9216x2048, .f32⟩
  | _, _ => ⟨S9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Model.lean ====
/-
  The attention of one head and its gradient, over the real numbers, with no program in sight.

  A head sees one query row `x` (a real per lane), the key rows `k t` and the value rows `v t` (a real per lane
  each), and one row `g` of the gradient that arrives at its output. Rows are functions of the lane number, arrays
  of rows functions of the row number and the lane number; there are 2304 keys of 128 lanes. `scale` is the
  constant that multiplies the scores.
-/
module

public import Mathlib.Analysis.SpecialFunctions.Log.Basic
public import Mathlib.Analysis.SpecialFunctions.Pow.Real
public import Mathlib.Data.EReal.Operations
public import Mathlib.Algebra.BigOperators.Fin

@[expose] public section

noncomputable section

namespace Cert.Att

/-- The constant that multiplies the scores: the float32 word of `96 ^ (-1/2)`, as a real. -/
def scale : ℝ := 3424635 / 33554432

/-- The score of a query row against key `t`, unscaled. -/
def sc (x : ℕ → ℝ) (k : ℕ → ℕ → ℝ) (t : ℕ) : ℝ := ∑ l : Fin 128, x l * k t l

/-- The softmax's denominator of a query row. -/
def den (x : ℕ → ℝ) (k : ℕ → ℕ → ℝ) : ℝ := ∑ t : Fin 2304, Real.exp (scale * sc x k t)

/-- The probability that the query row `x` gives to key `t`. -/
def prob (x : ℕ → ℝ) (k : ℕ → ℕ → ℝ) (t : ℕ) : ℝ := Real.exp (scale * sc x k t) / den x k

/-- The output's lane `l`: the values' mean under the probabilities. -/
def out (x : ℕ → ℝ) (k v : ℕ → ℕ → ℝ) (l : ℕ) : ℝ := ∑ t : Fin 2304, prob x k t * v t l

/-- The gradient that arrives at the probability of key `t`. -/
def dprob (g : ℕ → ℝ) (v : ℕ → ℕ → ℝ) (t : ℕ) : ℝ := ∑ l : Fin 128, g l * v t l

/-- The row's mean of `dprob` under the probabilities. -/
def delta (x : ℕ → ℝ) (k : ℕ → ℕ → ℝ) (g : ℕ → ℝ) (v : ℕ → ℕ → ℝ) : ℝ :=
  ∑ t : Fin 2304, prob x k t * dprob g v t

/-- The gradient of the scaled score of key `t`. -/
def dscore (x : ℕ → ℝ) (k : ℕ → ℕ → ℝ) (g : ℕ → ℝ) (v : ℕ → ℕ → ℝ) (t : ℕ) : ℝ :=
  prob x k t * (dprob g v t - delta x k g v)

/-- The gradient of the query row's lane `l`. -/
def dquery (x : ℕ → ℝ) (k : ℕ → ℕ → ℝ) (g : ℕ → ℝ) (v : ℕ → ℕ → ℝ) (l : ℕ) : ℝ :=
  (∑ t : Fin 2304, dscore x k g v t * k t l) * scale

theorem den_pos (x : ℕ → ℝ) (k : ℕ → ℕ → ℝ) : 0 < den x k :=
  Finset.sum_pos (fun _ _ => Real.exp_pos _) ⟨0, Finset.mem_univ _⟩

/-- The exponentials less any constant `m` sum to the denominator over `exp (scale * m)`. -/
theorem sum_shift (x : ℕ → ℝ) (k : ℕ → ℕ → ℝ) (m : ℝ) :
    ∑ t : Fin 2304, Real.exp (scale * (sc x k t - m)) = den x k * Real.exp (-(scale * m)) := by
  rw [den, Finset.sum_mul]
  refine Finset.sum_congr rfl fun t _ => ?_
  rw [← Real.exp_add]
  congr 1
  ring

/-- The softmax may subtract any constant from the scores. -/
theorem prob_shift (x : ℕ → ℝ) (k : ℕ → ℕ → ℝ) (m : ℝ) (t : ℕ) :
    Real.exp (scale * (sc x k t - m)) / (den x k * Real.exp (-(scale * m))) = prob x k t := by
  have h : Real.exp (scale * (sc x k t - m)) = Real.exp (scale * sc x k t) * Real.exp (-(scale * m)) := by
    rw [← Real.exp_add]
    congr 1
    ring
  rw [h, prob, mul_div_mul_right _ _ (Real.exp_pos _).ne']

/-- The probability from the scores and the row's log-sum. -/
theorem prob_of_logsum (x : ℕ → ℝ) (k : ℕ → ℕ → ℝ) (m : ℝ) (t : ℕ) :
    Real.exp (scale * sc x k t - (scale * m + Real.log (den x k * Real.exp (-(scale * m))))) = prob x k t := by
  rw [Real.log_mul (den_pos x k).ne' (Real.exp_pos _).ne', Real.log_exp, prob, Real.exp_sub]
  congr 1
  rw [show scale * m + (Real.log (den x k) + -(scale * m)) = Real.log (den x k) by ring,
    Real.exp_log (den_pos x k)]

/-- The mean of `dprob` is the product of the arriving gradient with the output. -/
theorem sum_mul_out (x : ℕ → ℝ) (k : ℕ → ℕ → ℝ) (g : ℕ → ℝ) (v : ℕ → ℕ → ℝ) :
    ∑ l : Fin 128, g l * out x k v l = delta x k g v := by
  simp only [out, delta, dprob, Finset.mul_sum]
  rw [Finset.sum_comm]
  exact Finset.sum_congr rfl fun t _ => Finset.sum_congr rfl fun l _ => by ring

/-- A head's key rows: the lower 64 lanes from its own tile, the others from the tile that the heads share. -/
def keys (kv kr : ℕ → ℕ → ℝ) (t l : ℕ) : ℝ := if l < 64 then kv t l else kr t l

/-- The gradient row that the pair's first head sees: the lower half of the pair's row, in the upper lanes. -/
def fst64 (d : ℕ → ℝ) (l : ℕ) : ℝ := if l < 64 then 0 else d (l - 64)

/-- The gradient row that the pair's second head sees: the upper half of the pair's row. -/
def snd64 (d : ℕ → ℝ) (l : ℕ) : ℝ := if l < 64 then 0 else d l

/-- A sum over 128 lanes is the sum over the lower and the upper half. -/
theorem sum_halves (f : ℕ → ℝ) : ∑ l : Fin 128, f l = ∑ l : Fin 64, f l + ∑ l : Fin 64, f (64 + l) := by
  have h := Fin.sum_univ_add (a := 64) (b := 64) fun l : Fin (64 + 64) => f l
  exact h

/-- The lower half of a product with the outputs of the pair is the first head's `delta`. -/
theorem delta_fst (x : ℕ → ℝ) (k v : ℕ → ℕ → ℝ) (d o : ℕ → ℝ) (ho : ∀ l < 64, o l = out x k v (l + 64)) :
    ∑ l : Fin 128, (if l.val < 64 then d l * o l else 0) = delta x k (fst64 d) v := by
  rw [← sum_mul_out, sum_halves fun l => if l < 64 then d l * o l else 0, sum_halves fun l => fst64 d l * out x k v l]
  rw [add_comm]
  congr 1
  · refine Finset.sum_congr rfl fun l _ => ?_
    simp [fst64, l.isLt]
  · refine Finset.sum_congr rfl fun l _ => ?_
    have h : 64 + l.val - 64 = l.val := by omega
    simp only [fst64, if_pos l.isLt, ho l l.isLt, h]
    rw [if_neg (by omega), add_comm 64 l.val]

/-- The upper half of a product with the outputs of the pair is the second head's `delta`. -/
theorem delta_snd (x : ℕ → ℝ) (k v : ℕ → ℕ → ℝ) (d o : ℕ → ℝ) (ho : ∀ l, 64 ≤ l → o l = out x k v l) :
    ∑ l : Fin 128, (if l.val < 64 then 0 else d l * o l) = delta x k (snd64 d) v := by
  rw [← sum_mul_out]
  refine Finset.sum_congr rfl fun l _ => ?_
  by_cases h : l.val < 64
  · simp [snd64, h]
  · simp only [snd64, if_neg h, ho l (not_lt.1 h)]

/-- What 256 query rows add to the gradient of key row `t`'s lane `l`, unscaled. -/
def dkPart (q : ℕ → ℕ → ℝ) (k : ℕ → ℕ → ℝ) (g : ℕ → ℕ → ℝ) (v : ℕ → ℕ → ℝ) (t l : ℕ) : ℝ :=
  ∑ i : Fin 256, dscore (q i) k (g i) v t * q i l

/-- What 256 query rows add to the gradient of value row `t`'s lane `l`. -/
def dvPart (q : ℕ → ℕ → ℝ) (k : ℕ → ℕ → ℝ) (g : ℕ → ℕ → ℝ) (t l : ℕ) : ℝ :=
  ∑ i : Fin 256, prob (q i) k t * g i l

end Cert.Att
-- ==== Proof.Scalars.lean ====
/-
  From the programs' extended reals to the model's reals: sums, products, exponentials and maxima of coerced reals.
-/
module

public import proofs.«01_k».proof.Proof.Model
public import Idealize.ShloMosaic.PureOps.Ideal.Laws
public import Idealize.ShloMosaic.Lib.IdealHost

@[expose] public section

noncomputable section

open Idealize.ShloMosaic

namespace Cert.Att

/-- The base-two form of `scale`, as the kernel's exponentials name it. -/
def scale2 : ℝ := 3424635 / 33554432 * (Real.log 2)⁻¹

theorem scale2_eq : scale2 = scale / Real.log 2 := by rw [scale2, scale, div_eq_mul_inv _ (Real.log 2)]

/-- The row's log-sum, in base two. -/
def logsum (x : ℕ → ℝ) (k : ℕ → ℕ → ℝ) : ℝ := Real.log (den x k) * (Real.log 2)⁻¹

theorem log_two_ne : Real.log 2 ≠ 0 := (Real.log_pos one_lt_two).ne'

/-- A sum of coerced reals is the coerced sum. -/
theorem coe_sum {ι : Type*} (s : Finset ι) (f : ι → ℝ) : ∑ i ∈ s, ((f i : ℝ) : EReal) = ((∑ i ∈ s, f i : ℝ) : EReal) :=
  (map_sum (⟨⟨fun r : ℝ => (r : EReal), EReal.coe_zero⟩, EReal.coe_add⟩ : ℝ →+ EReal) f s).symm

/-- A sum of coerced reals, each term given as equal to one. -/
theorem sum_eq_coe {ι : Type*} (s : Finset ι) (F : ι → EReal) (f : ι → ℝ) (h : ∀ i ∈ s, F i = (f i : EReal)) :
    ∑ i ∈ s, F i = ((∑ i ∈ s, f i : ℝ) : EReal) := (Finset.sum_congr rfl h).trans (coe_sum s f)

/-- The maximum of finitely many reals, at least one, from minus infinity is a real. -/
theorem fold_max_coe {ι : Type*} (s : Finset ι) (hs : s.Nonempty) (f : ι → ℝ) :
    ∃ m : ℝ, s.fold max (⊥ : EReal) (fun i => ((f i : ℝ) : EReal)) = (m : EReal) := by
  classical
  induction hs using Finset.Nonempty.cons_induction with
  | singleton a => exact ⟨f a, by simp⟩
  | cons a s ha hs ih =>
    obtain ⟨m, hm⟩ := ih
    exact ⟨max (f a) m, by rw [Finset.fold_cons, hm, ← EReal.coe_strictMono.monotone.map_max]⟩

/-- The f32 pattern of minus infinity. -/
theorem ofBits_neg_inf : Ideal.ofBits .f32 0xFF800000#32 = ⊥ := by
  simp [Ideal.ofBits, Ideal.ieee]

/-- The f32 pattern of plus infinity. -/
theorem ofBits_pos_inf : Ideal.ofBits .f32 0x7F800000#32 = ⊤ := by
  simp [Ideal.ofBits, Ideal.ieee]

/-- The f32 pattern `0x3DD105EC` is `scale`. -/
theorem ofBits_scale : Ideal.ofBits .f32 0x3DD105EC#32 = ((scale : ℝ) : EReal) := by
  simp [Ideal.ofBits, Ideal.ieee, scale, -EReal.coe_mul]; norm_num

/-- Two to the power of `y / log 2` is the exponential of `y`. -/
theorem rpow_two (y : ℝ) : Real.rpow 2 (y * (Real.log 2)⁻¹) = Real.exp y := by
  show (2 : ℝ) ^ (y * (Real.log 2)⁻¹) = _
  rw [Real.rpow_def_of_pos two_pos]
  congr 1
  rw [mul_comm y, ← mul_assoc, mul_inv_cancel₀ log_two_ne, one_mul]

/-- The forward kernel's exponential. -/
theorem exp2_shift (s m : ℝ) :
    Ideal.exp2 (((s : EReal) - (m : EReal)) * ((scale2 : ℝ) : EReal)) = ((Real.exp (scale * (s - m)) : ℝ) : EReal) := by
  rw [← EReal.coe_sub, ← EReal.coe_mul, Ideal.exp2_coe, ← rpow_two]
  congr 2
  rw [scale2_eq]
  ring

/-- The backward kernel's exponential. -/
theorem exp2_logsum (x : ℕ → ℝ) (k : ℕ → ℕ → ℝ) (t : ℕ) :
    Ideal.exp2 ((sc x k t : EReal) * ((scale2 : ℝ) : EReal) - ((logsum x k : ℝ) : EReal)) = ((prob x k t : ℝ) : EReal) := by
  rw [← EReal.coe_mul, ← EReal.coe_sub, Ideal.exp2_coe, prob, ← Real.exp_log (den_pos x k), ← Real.exp_sub, ← rpow_two]
  congr 2
  rw [scale2_eq, logsum]
  ring

/-- The log-sum, from the maximum and the sum of the shifted exponentials. -/
theorem logsum_coe (x : ℕ → ℝ) (k : ℕ → ℕ → ℝ) (m : ℝ) :
    (m : EReal) * ((scale2 : ℝ) : EReal)
        + Ideal.log ((den x k * Real.exp (-(scale * m)) : ℝ) : EReal) * (((Real.log 2)⁻¹ : ℝ) : EReal)
      = ((logsum x k : ℝ) : EReal) := by
  rw [Ideal.log_coe, if_neg (not_le.2 (mul_pos (den_pos x k) (Real.exp_pos _))), ← EReal.coe_mul, ← EReal.coe_mul,
    ← EReal.coe_add, Real.log_mul (den_pos x k).ne' (Real.exp_pos _).ne', Real.log_exp, logsum, scale2_eq]
  congr 1
  ring

/-- A quotient of reals whose divisor is not zero. -/
theorem div_coe_coe (a : ℝ) {b : ℝ} (h : b ≠ 0) : Ideal.div (a : EReal) (b : EReal) = ((a / b : ℝ) : EReal) := by
  rw [Ideal.div_coe h, ← EReal.coe_mul, mul_one_div]

end Cert.Att
-- ==== Proof.Glu.lean ====
/-
  The gated layer over the extended reals, one column of 2048 positions at a time: a convolution of three taps with zero
  edges, the exact GELU, the product with the other half, and the gradient of all three.
-/
module

public import Idealize.ShloMosaic.PureOps.Ideal.Laws
public import Idealize.ShloMosaic.Lib.IdealHost

@[expose] public section

noncomputable section

open Idealize.ShloMosaic

namespace Cert.Glu

/-- A column of positions. -/
abbrev Col := Fin 2048 → EReal

/-- The column moved one position on, a zero at the front. -/
def prev (u : Col) (r : Fin 2048) : EReal := if r.val = 0 then 0 else u ⟨(r.val + 2048 - 1) % 2048, Nat.mod_lt _ (by norm_num)⟩

/-- The column moved one position back, a zero at the end. -/
def next (u : Col) (r : Fin 2048) : EReal :=
  if r.val = 2047 then 0 else u ⟨(r.val + 2048 - 2047) % 2048, Nat.mod_lt _ (by norm_num)⟩

/-- A product, the first two taps of a convolution, and the whole of one with its bias. -/
def times (a b : EReal) : EReal := a * b
def twoTaps (p a u b : EReal) : EReal := p * a + u * b
def threeTaps (y n c β : EReal) : EReal := y + n * c + β

/-- The convolution of three taps and the bias. -/
def conv (u : Col) (w : Fin 3 → EReal) (β : EReal) (r : Fin 2048) : EReal :=
  threeTaps (twoTaps (prev u r) (w 0) (u r) (w 1)) (next u r) (w 2) β

/-- Half, one over the square root of two, and the normal density's factor as the programs have it: half of the float
    slope of the error function, over the square root of two. -/
def half : EReal := ((1 / 2 : ℝ) : EReal)
def rsqrt2 : EReal := (((Real.sqrt 2)⁻¹ : ℝ) : EReal)
def normal : EReal := ((9465531 / 16777216 * (Real.sqrt 2)⁻¹ : ℝ) : EReal)

/-- GELU at `x`, times `v`: `h` stands for a half and `s` for one over the square root of two. -/
def geluOf (h s x v : EReal) : EReal := h * x * (1 + Ideal.erf (x * s)) * v

/-- GELU's slope at `x`, times `g`: `k` stands for minus a half and `n` for the density's factor. -/
def slopeOf (h s k n x g : EReal) : EReal := g * (h * (1 + Ideal.erf (x * s)) + x * (Ideal.exp (k * x * x) * n))

/-- The layer's value. -/
def act (u v : Col) (w : Fin 3 → EReal) (β : EReal) (r : Fin 2048) : EReal := geluOf half rsqrt2 (conv u w β r) (v r)

/-- The gradient of the convolution's output, for a gradient `d` of the value. That of the ungated half is
    `act u d w β`. -/
def dconv (u v d : Col) (w : Fin 3 → EReal) (β : EReal) (r : Fin 2048) : EReal :=
  slopeOf half rsqrt2 (-half) normal (conv u w β r) (times (d r) (v r))

/-- The gradient of the gated half from the gradient `x` of the convolution's output: the taps applied backwards. -/
def back (x : Col) (w : Fin 3 → EReal) (r : Fin 2048) : EReal :=
  prev (fun i => times (x i) (w 2)) r + times (x r) (w 1) + next (fun i => times (x i) (w 0)) r

/-- What a tap multiplies. -/
def seen (u : Col) (t : Fin 3) : Col := ![prev u, u, next u] t

/-- One batch row's share of the gradient of a tap, and of the bias. -/
def dtap (u x : Col) (t : Fin 3) : EReal := ∑ r : Fin 2048, times (seen u t r) (x r)
def dbias (x : Col) : EReal := ∑ r : Fin 2048, x r

end Cert.Glu
end
-- ==== Proof.GluRef.lean ====
/-
  The gated layer's reference: its four results as terms over its arguments, named stage by stage, and what each stage
  holds at an index.
-/
module

public import proofs.«01_k».proof.Proof.Gen.Reference2Ideal.Run
public import proofs.«01_k».proof.Proof.Glu
public import Idealize.ShloMosaic.Lib.Tactic
public import Idealize.ShloMosaic.Lib.Pointwise
public import Idealize.ShloMosaic.Lib.ValueIdx
public import Idealize.ShloMosaic.Lib.IdealHost

@[expose] public section

set_option maxRecDepth 16384

noncomputable section

open Idealize.ShloMosaic Idealize.ShloMosaic.TcCoe Idealize.SL.Sem

namespace Cert.Reference2Ideal.Glu
open Cert.Reference2Ideal Cert.Reference2Ideal.Gen Cert.Glu

abbrev Rows := FVec Ideal S4x2048x2816 .f32

/-- The up-projection and its two halves, and the gradient of the layer's value. -/
def up (x0 : FVec Ideal S4x2048x1024 .f32) (x1 : FVec Ideal S1024x5632 .f32) : FVec Ideal S4x2048x5632 .f32 :=
  Host.dotGeneral dot_S4x2048x1024_S1024x5632_S4x2048x5632_2_0_01_1_n_n none x0 x1
def gateHalf (u : FVec Ideal S4x2048x5632 .f32) : Rows := extractStridedSlice S4x2048x2816 ![0, 0, 0] u slices_S4x2048x5632_S4x2048x2816_0_0_0
def plainHalf (u : FVec Ideal S4x2048x5632 .f32) : Rows := extractStridedSlice S4x2048x2816 ![0, 0, 2816] u slices_S4x2048x5632_S4x2048x2816_0_0_2816
def down (x5 : FVec Ideal S4x2048x1024 .f32) (x4 : FVec Ideal S2816x1024 .f32) : Rows :=
  Host.dotGeneral dot_S4x2048x1024_S2816x1024_S4x2048x2816_2_1_01_0_n_n none x5 x4

/-- A constant over all rows. -/
def fill (v : FVec Ideal S_ .f32) : Rows := broadcastInDim S4x2048x2816 ![] bcast_S_S4x2048x2816 v

def zeroRow : FVec Ideal S4x1x2816 .f32 := broadcastInDim S4x1x2816 ![] bcast_S_S4x1x2816 (constant S_ .f32 0x00000000#32)

/-- The rows with a row of zeros before and after, and the three places at which the taps meet them. -/
def padded (g : Rows) : FVec Ideal S4x2050x2816 .f32 :=
  concatenate S4x2050x2816 1 [⟨S4x1x2816, zeroRow⟩,
    ⟨S4x2048x2816, g⟩,
    ⟨S4x1x2816, zeroRow⟩]
    concatenates_S4x1x2816_S4x2048x2816_S4x1x2816_S4x2050x2816_d1
def seen0 (p : FVec Ideal S4x2050x2816 .f32) : Rows := extractStridedSlice S4x2048x2816 ![0, 0, 0] p slices_S4x2050x2816_S4x2048x2816_0_0_0
def seen1 (p : FVec Ideal S4x2050x2816 .f32) : Rows := extractStridedSlice S4x2048x2816 ![0, 1, 0] p slices_S4x2050x2816_S4x2048x2816_0_1_0
def seen2 (p : FVec Ideal S4x2050x2816 .f32) : Rows := extractStridedSlice S4x2048x2816 ![0, 2, 0] p slices_S4x2050x2816_S4x2048x2816_0_2_0

/-- A tap over all rows. -/
def over (w : FVec Ideal S1x2816 .f32) : Rows :=
  broadcastInDim S4x2048x2816 ![0, 1, 2] bcast_S1x1x2816_S4x2048x2816_0_1_2
    (broadcastInDim S1x1x2816 ![2] bcast_S2816_S1x1x2816_2 (shapeCast _ w shapeCasts_S1x2816_S2816))
def tap0 (w : FVec Ideal S3x2816 .f32) : FVec Ideal S1x2816 .f32 := extractStridedSlice S1x2816 ![0, 0] w slices_S3x2816_S1x2816_0_0
def tap1 (w : FVec Ideal S3x2816 .f32) : FVec Ideal S1x2816 .f32 := extractStridedSlice S1x2816 ![1, 0] w slices_S3x2816_S1x2816_1_0
def tap2 (w : FVec Ideal S3x2816 .f32) : FVec Ideal S1x2816 .f32 := extractStridedSlice S1x2816 ![2, 0] w slices_S3x2816_S1x2816_2_0
def biasRows (β : FVec Ideal S1x2816 .f32) : Rows :=
  broadcastInDim S4x2048x2816 ![0, 1, 2] bcast_S1x1x2816_S4x2048x2816_0_1_2 (broadcastInDim S1x1x2816 ![1, 2] bcast_S1x2816_S1x1x2816_1_2 β)

/-- The convolution's output. -/
def sums (s0 s1 s2 w0 w1 w2 β : Rows) : Rows :=
  addf (addf (addf (addf (fill (constant S_ .f32 0x00000000#32)) (mulf s0 w0)) (mulf s1 w1)) (mulf s2 w2)) β
def convRows (g : Rows) (w : FVec Ideal S3x2816 .f32) (β : FVec Ideal S1x2816 .f32) : Rows :=
  sums (seen0 (padded g)) (seen1 (padded g)) (seen2 (padded g)) (over (tap0 w)) (over (tap1 w)) (over (tap2 w)) (biasRows β)

/-- The square root of two, and the convolution's output over it. -/
def root : FVec Ideal S_ .f32 := id (Host.sqrt (constant S_ .f32 0x40000000#32))
def arg (x : Rows) : Rows := Host.divf x (fill root)
def onePlus (x : Rows) : Rows := addf (fill (constant S_ .f32 0x3F800000#32)) (Host.erf (arg x))
def geluRows (x : Rows) : Rows := mulf (mulf x (onePlus x)) (fill (constant S_ .f32 0x3F000000#32))

/-- The gradient of the convolution's output: `p` is the plain half, `d` the gradient of the layer's value. -/
def halfGrad (p d : Rows) : Rows := mulf (mulf d p) (fill (constant S_ .f32 0x3F000000#32))
def dx (x q : Rows) : Rows :=
  addf (mulf q (onePlus x))
    (Host.divf (mulf (mulf (fill (constant S_ .f32 0x3F906EBB#32)) (mulf x q)) (Host.exp (Host.negf (mulf (arg x) (arg x))))) (fill root))

/-- A sum over all rows. -/
def total (x : Rows) : FVec Ideal S1x2816 .f32 :=
  broadcastInDim S1x2816 ![1] bcast_S2816_S1x2816_1 (Host.reduceAdd (shapeCast _
    (Host.reduceAdd x (constant S_ .f32 0x00000000#32) reducesTo_S4x2048x2816_S2816_d0_1 h_S_) shapeCasts_S2816_S1x1x2816)
    (constant S_ .f32 0x00000000#32) reducesTo_S1x1x2816_S2816_d0_1 h_S_)
def threeRows (t0 t1 t2 : FVec Ideal S1x2816 .f32) : FVec Ideal S3x2816 .f32 :=
  addf (addf (pad S3x2816 ![2, 0] ![0, 0] ![0, 0] t2 (constant S_ .f32 0x00000000#32) pads_S1x2816_S3x2816_200_000 h_S_)
      (pad S3x2816 ![1, 0] ![1, 0] ![0, 0] t1 (constant S_ .f32 0x00000000#32) pads_S1x2816_S3x2816_110_000 h_S_))
    (pad S3x2816 ![0, 0] ![2, 0] ![0, 0] t0 (constant S_ .f32 0x00000000#32) pads_S1x2816_S3x2816_020_000 h_S_)
/-- The gradient of the gated half. -/
def backRows (y0 y1 y2 : Rows) : Rows :=
  extractStridedSlice S4x2048x2816 ![0, 1, 0]
    (addf (addf (pad S4x2050x2816 ![0, 2, 0] ![0, 0, 0] ![0, 0, 0] y2 (constant S_ .f32 0x00000000#32) pads_S4x2048x2816_S4x2050x2816_000_200_000 h_S_)
        (pad S4x2050x2816 ![0, 1, 0] ![0, 1, 0] ![0, 0, 0] y1 (constant S_ .f32 0x00000000#32) pads_S4x2048x2816_S4x2050x2816_000_110_000 h_S_))
      (pad S4x2050x2816 ![0, 0, 0] ![0, 2, 0] ![0, 0, 0] y0 (constant S_ .f32 0x00000000#32) pads_S4x2048x2816_S4x2050x2816_000_020_000 h_S_))
    slices_S4x2050x2816_S4x2048x2816_0_1_0
def joined (a b : Rows) : FVec Ideal S8192x5632 .f32 :=
  shapeCast _ (concatenate S4x2048x5632 2 [⟨S4x2048x2816, a⟩, ⟨S4x2048x2816, b⟩] concatenates_S4x2048x2816_S4x2048x2816_S4x2048x5632_d2)
    shapeCasts_S4x2048x5632_S8192x5632

section
variable (m : (ℓ : Loc nD τ sig) → Buf (Elt Ideal) ℓ) (c : Dev nD)

def gateA : Rows := gateHalf (up (m ((c.tc : Thread nD τ).loc main_arg0)) (m ((c.tc : Thread nD τ).loc main_arg1)))
def plainA : Rows := plainHalf (up (m ((c.tc : Thread nD τ).loc main_arg0)) (m ((c.tc : Thread nD τ).loc main_arg1)))
def downA : Rows := down (m ((c.tc : Thread nD τ).loc main_arg5)) (m ((c.tc : Thread nD τ).loc main_arg4))
def convA : Rows := convRows (gateA m c) (m ((c.tc : Thread nD τ).loc main_arg2)) (m ((c.tc : Thread nD τ).loc main_arg3))
def dxA : Rows := dx (convA m c) (halfGrad (plainA m c) (downA m c))

theorem res0_eq : Value.res_main_v45 m c = mulf (geluRows (convA m c)) (plainA m c) := rfl

theorem res3_eq : Value.res_main_v63 m c = total (dxA m c) := rfl

theorem res2_eq : Value.res_main_v92 m c = threeRows (total (mulf (seen0 (padded (gateA m c))) (dxA m c)))
    (total (mulf (seen1 (padded (gateA m c))) (dxA m c))) (total (mulf (seen2 (padded (gateA m c))) (dxA m c))) := rfl

theorem res1_eq : Value.res_main_v99 m c = joined
    (backRows (mulf (dxA m c) (over (tap0 (m ((c.tc : Thread nD τ).loc main_arg2)))))
      (mulf (dxA m c) (over (tap1 (m ((c.tc : Thread nD τ).loc main_arg2)))))
      (mulf (dxA m c) (over (tap2 (m ((c.tc : Thread nD τ).loc main_arg2))))))
    (mulf (geluRows (convA m c)) (downA m c)) := rfl

end

/-! ## The stages at an index -/

theorem up_at (x0 : FVec Ideal S4x2048x1024 .f32) (x1 : FVec Ideal S1024x5632 .f32) (b : Fin 4) (r : Fin 2048) (k : Fin 5632) :
    up x0 x1 (ix3 b r k) = ∑ i : Fin 1024, times (x0 (ix3 b r i)) (x1 (ix2 i k)) := by
  unfold up times
  pointwise

theorem down_at (x5 : FVec Ideal S4x2048x1024 .f32) (x4 : FVec Ideal S2816x1024 .f32) (b : Fin 4) (r : Fin 2048) (k : Fin 2816) :
    down x5 x4 (ix3 b r k) = ∑ i : Fin 1024, times (x5 (ix3 b r i)) (x4 (ix2 k i)) := by
  unfold down times
  pointwise

theorem gateHalf_at (u : FVec Ideal S4x2048x5632 .f32) (b : Fin 4) (r : Fin 2048) (k : Fin 2816) :
    gateHalf u (ix3 b r k) = u (ix3 b r ⟨k.val, by omega⟩) := by
  unfold gateHalf
  pointwise

theorem plainHalf_at (u : FVec Ideal S4x2048x5632 .f32) (b : Fin 4) (r : Fin 2048) (k : Fin 2816) :
    plainHalf u (ix3 b r k) = u (ix3 b r ⟨2816 + k.val, by omega⟩) := by
  unfold plainHalf
  pointwise

theorem fill_at (v : FVec Ideal S_ .f32) (b : Fin 4) (r : Fin 2048) (k : Fin 2816) : fill v (ix3 b r k) = v ix0 := by
  unfold fill
  pointwise

theorem over0_at (w : FVec Ideal S3x2816 .f32) (b : Fin 4) (r : Fin 2048) (k : Fin 2816) : over (tap0 w) (ix3 b r k) = w (ix2 0 k) := by
  unfold over tap0
  pointwise

theorem over1_at (w : FVec Ideal S3x2816 .f32) (b : Fin 4) (r : Fin 2048) (k : Fin 2816) : over (tap1 w) (ix3 b r k) = w (ix2 1 k) := by
  unfold over tap1
  pointwise

theorem over2_at (w : FVec Ideal S3x2816 .f32) (b : Fin 4) (r : Fin 2048) (k : Fin 2816) : over (tap2 w) (ix3 b r k) = w (ix2 2 k) := by
  unfold over tap2
  pointwise

theorem biasRows_at (β : FVec Ideal S1x2816 .f32) (b : Fin 4) (r : Fin 2048) (k : Fin 2816) : biasRows β (ix3 b r k) = β (ix2 0 k) := by
  unfold biasRows
  pointwise

/-- A column of rows. -/
def col (g : Rows) (b : Fin 4) (k : Fin 2816) : Col := fun r => g (ix3 b r k)

theorem seen0_at (g : Rows) (b : Fin 4) (r : Fin 2048) (k : Fin 2816) : seen0 (padded g) (ix3 b r k) = prev (col g b k) r := by
  unfold seen0 padded zeroRow prev col
  pointwise
  by_cases h : r.val = 0
  · rw [dif_pos (by omega), if_pos h]
  · rw [dif_neg (by omega), dif_pos (by omega), if_neg h]
    congr 3
    omega

theorem seen1_at (g : Rows) (b : Fin 4) (r : Fin 2048) (k : Fin 2816) : seen1 (padded g) (ix3 b r k) = col g b k r := by
  unfold seen1 padded zeroRow col
  pointwise

theorem seen2_at (g : Rows) (b : Fin 4) (r : Fin 2048) (k : Fin 2816) : seen2 (padded g) (ix3 b r k) = next (col g b k) r := by
  unfold seen2 padded zeroRow next col
  pointwise
  by_cases h : r.val = 2047
  · rw [dif_neg (by omega), dif_neg (by omega), if_pos h]
  · rw [dif_neg (by omega), dif_pos (by omega), if_neg h]
    congr 3
    omega

def sumsOf (z s0 s1 s2 w0 w1 w2 β : EReal) : EReal := z + s0 * w0 + s1 * w1 + s2 * w2 + β

theorem sums_at (s0 s1 s2 w0 w1 w2 β : Rows) (b : Fin 4) (r : Fin 2048) (k : Fin 2816) : sums s0 s1 s2 w0 w1 w2 β (ix3 b r k)
    = sumsOf 0 (s0 (ix3 b r k)) (s1 (ix3 b r k)) (s2 (ix3 b r k)) (w0 (ix3 b r k)) (w1 (ix3 b r k)) (w2 (ix3 b r k)) (β (ix3 b r k)) := by
  unfold sums fill sumsOf
  pointwise

def rootTwo : EReal := Ideal.sqrt (Ideal.ofBits .f32 0x40000000#32)
def geluRef (h x : EReal) : EReal := x * (1 + Ideal.erf (Ideal.div x rootTwo)) * h

theorem geluRows_at (x : Rows) (b : Fin 4) (r : Fin 2048) (k : Fin 2816) :
    geluRows x (ix3 b r k) = geluRef (Ideal.ofBits .f32 0x3F000000#32) (x (ix3 b r k)) := by
  unfold geluRows onePlus arg root fill geluRef rootTwo
  pointwise
  rfl

def halfOf (h p d : EReal) : EReal := d * p * h

theorem halfGrad_at (p d : Rows) (b : Fin 4) (r : Fin 2048) (k : Fin 2816) :
    halfGrad p d (ix3 b r k) = halfOf (Ideal.ofBits .f32 0x3F000000#32) (p (ix3 b r k)) (d (ix3 b r k)) := by
  unfold halfGrad fill halfOf
  pointwise

def dxRef (W x q : EReal) : EReal :=
  q * (1 + Ideal.erf (Ideal.div x rootTwo)) + Ideal.div (W * (x * q) * Ideal.exp (-(Ideal.div x rootTwo * Ideal.div x rootTwo))) rootTwo

theorem dx_at (x q : Rows) (b : Fin 4) (r : Fin 2048) (k : Fin 2816) :
    dx x q (ix3 b r k) = dxRef (Ideal.ofBits .f32 0x3F906EBB#32) (x (ix3 b r k)) (q (ix3 b r k)) := by
  unfold dx onePlus arg root fill dxRef rootTwo
  pointwise
  rfl

/-- A sum over the first two axes of three. -/
theorem fiber_two {n0 n1 n2 : Nat} (h : (⟨3, ![n0, n1, n2]⟩ : Shape).ReducesTo [0, 1] ⟨1, ![n2]⟩) (k : Fin n2)
    (i : (⟨3, ![n0, n1, n2]⟩ : Shape).Idx) : h.drop i = ix1 k ↔ ∃ p : Fin n0 × Fin n1, ix3 p.1 p.2 k = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    match b with
    | ⟨0, _⟩ => rfl

theorem sum_two {n0 n1 n2 : Nat} (h : (⟨3, ![n0, n1, n2]⟩ : Shape).ReducesTo [0, 1] ⟨1, ![n2]⟩) (v : (⟨3, ![n0, n1, n2]⟩ : Shape).Idx → EReal)
    (init : EReal) (k : Fin n2) : Ideal.hostReduceAdd h v init (ix1 k) = init + ∑ a : Fin n0, ∑ b : Fin n1, v (ix3 a b k) := by
  unfold Ideal.hostReduceAdd
  rw [Finset.sum_filter_eq_sum_of_fiber _ (fun p : Fin n0 × Fin n1 => ix3 p.1 p.2 k)
    (fun p q e => Prod.ext (congrFun e 0) (congrFun e 1)) (fiber_two h k) v, Fintype.sum_prod_type]

theorem total_at (x : Rows) (k : Fin 2816) : total x (ix2 0 k) = ∑ b : Fin 4, ∑ r : Fin 2048, col x b k r := by
  unfold total col
  pointwise
  rw [sum_two]
  rw [Fin.sum_univ_one, Fin.sum_univ_one, zero_add]
  pointwise
  rw [sum_two, zero_add]

theorem threeRows_at (t0 t1 t2 : FVec Ideal S1x2816 .f32) (t : Fin 3) (k : Fin 2816) :
    threeRows t0 t1 t2 (ix2 t k) = (![t0 (ix2 0 k), t1 (ix2 0 k), t2 (ix2 0 k)] : Fin 3 → EReal) t := by
  unfold threeRows
  pointwise
  match t with
  | ⟨0, _⟩ => simp
  | ⟨1, _⟩ => simp
  | ⟨2, _⟩ => simp

theorem backRows_at (y0 y1 y2 : Rows) (b : Fin 4) (r : Fin 2048) (k : Fin 2816) :
    backRows y0 y1 y2 (ix3 b r k) = prev (col y2 b k) r + col y1 b k r + next (col y0 b k) r := by
  unfold backRows prev next col
  pointwise
  refine congrArg₂ (fun p q : EReal => p + y1 (ix3 b r k) + q) ?_ ?_
  · by_cases h : r.val = 0
    · rw [dif_neg (by omega), if_pos h]
    · rw [dif_pos (by omega), if_neg h]
      congr 3
      omega
  · by_cases h : r.val = 2047
    · rw [dif_neg (by omega), if_pos h]
    · rw [dif_pos (by omega), if_neg h]
      congr 3
      omega

theorem joined_at (a d : Rows) (R : Fin 8192) (k : Fin 5632) : joined a d (ix2 R k)
    = if h : k.val < 2816 then a (ix3 ⟨R.val / 2048, by omega⟩ ⟨R.val % 2048, by omega⟩ ⟨k.val, h⟩)
      else d (ix3 ⟨R.val / 2048, by omega⟩ ⟨R.val % 2048, by omega⟩ ⟨k.val - 2816, by omega⟩) := by
  unfold joined
  pointwise

theorem mul_at (x y : Rows) (b : Fin 4) (r : Fin 2048) (k : Fin 2816) : mulf x y (ix3 b r k) = times (x (ix3 b r k)) (y (ix3 b r k)) := rfl

end Cert.Reference2Ideal.Glu
end
-- ==== Proof.GluReal.lean ====
/-
  The gated layer's precondition, and what holds of real numbers alone: the two ways GELU's slope is written agree.
-/
module

public import proofs.«01_k».proof.Pre_finite2
public import proofs.«01_k».proof.Proof.Scalars
public import proofs.«01_k».proof.Proof.GluRef
public import Idealize.ShloMosaic.Lib.ReduceAll
public import Idealize.ShloMosaic.Lib.WordArith
public import Idealize.ShloMosaic.Lib.Decide

@[expose] public section

set_option maxRecDepth 16384

noncomputable section

open Idealize.ShloMosaic Idealize.ShloMosaic.WordArith

namespace Cert.Glu

/-- A number that is real. -/
def Real1 (x : EReal) : Prop := ∃ r : ℝ, x = (r : EReal)

theorem Real1.zero : Real1 0 := ⟨0, rfl⟩

theorem Real1.add {x y : EReal} (hx : Real1 x) (hy : Real1 y) : Real1 (x + y) := by
  obtain ⟨a, rfl⟩ := hx
  obtain ⟨b, rfl⟩ := hy
  exact ⟨a + b, (EReal.coe_add a b).symm⟩

theorem Real1.mul {x y : EReal} (hx : Real1 x) (hy : Real1 y) : Real1 (x * y) := by
  obtain ⟨a, rfl⟩ := hx
  obtain ⟨b, rfl⟩ := hy
  exact ⟨a * b, (EReal.coe_mul a b).symm⟩

theorem Real1.sum {ι : Type*} {s : Finset ι} {f : ι → EReal} (h : ∀ i ∈ s, Real1 (f i)) : Real1 (∑ i ∈ s, f i) := by
  classical
  induction s using Finset.induction_on with
  | empty => rw [Finset.sum_empty]; exact Real1.zero
  | insert a s ha ih =>
    rw [Finset.sum_insert ha]
    exact (h a (Finset.mem_insert_self _ _)).add (ih fun i hi => h i (Finset.mem_insert_of_mem hi))

theorem Real1.prev {u : Col} (h : ∀ r, Real1 (u r)) (r : Fin 2048) : Real1 (prev u r) := by
  unfold Cert.Glu.prev
  split
  · exact Real1.zero
  · exact h _

theorem Real1.next {u : Col} (h : ∀ r, Real1 (u r)) (r : Fin 2048) : Real1 (next u r) := by
  unfold Cert.Glu.next
  split
  · exact Real1.zero
  · exact h _

theorem Real1.conv {u : Col} {w : Fin 3 → EReal} {β : EReal} (h : ∀ r, Real1 (u r)) (hw : ∀ t, Real1 (w t)) (hβ : Real1 β)
    (r : Fin 2048) : Real1 (conv u w β r) := by
  unfold Cert.Glu.conv threeTaps twoTaps
  exact ((((Real1.prev h r).mul (hw 0)).add ((h r).mul (hw 1))).add ((Real1.next h r).mul (hw 2))).add hβ

open Cert.Reference2Ideal.Glu

theorem word_half : Ideal.ofBits .f32 0x3F000000#32 = half := by
  simp [Ideal.ofBits, Ideal.ieee, half, -EReal.coe_mul]; norm_num

theorem word_two : Ideal.ofBits .f32 0x40000000#32 = ((2 : ℝ) : EReal) := by
  simp [Ideal.ofBits, Ideal.ieee, -EReal.coe_mul]; norm_num

theorem word_slope : Ideal.ofBits .f32 0x3F906EBB#32 = ((9465531 / 8388608 : ℝ) : EReal) := by
  simp [Ideal.ofBits, Ideal.ieee, -EReal.coe_mul]; norm_num

theorem rootTwo_eq : rootTwo = ((Real.sqrt 2 : ℝ) : EReal) := by
  rw [rootTwo, word_two, Ideal.sqrt_coe, if_neg (by norm_num)]

theorem root_ne : Real.sqrt 2 ≠ 0 := (Real.sqrt_pos.2 two_pos).ne'

/-- Dividing by the square root of two is multiplying by one over it. -/
theorem over_root (x : EReal) : Ideal.div x rootTwo = x * rsqrt2 := by
  rw [rootTwo_eq, Ideal.div_coe root_ne, rsqrt2, one_div]

/-- GELU times a factor, as the reference has it and as the kernel has it. -/
theorem gelu_eq (x v : EReal) : geluRef half x * v = geluOf half rsqrt2 x v := by
  rw [geluRef, geluOf, over_root, mul_comm half x, mul_right_comm x half]

/-- The slope of GELU times a factor, of real numbers. -/
theorem slope_eq {x v d : EReal} (hx : Real1 x) (hv : Real1 v) (hd : Real1 d) :
    dxRef ((9465531 / 8388608 : ℝ) : EReal) x (halfOf half v d) = slopeOf half rsqrt2 (-half) normal x (times d v) := by
  obtain ⟨x, rfl⟩ := hx
  obtain ⟨v, rfl⟩ := hv
  obtain ⟨d, rfl⟩ := hd
  have hs : (Real.sqrt 2)⁻¹ * (Real.sqrt 2)⁻¹ = 1 / 2 := by
    rw [← mul_inv, Real.mul_self_sqrt (by norm_num)]; norm_num
  have he : -(x * (Real.sqrt 2)⁻¹ * (x * (Real.sqrt 2)⁻¹)) = -(1 / 2) * x * x := by
    rw [mul_mul_mul_comm, hs]; ring
  rw [dxRef, over_root, over_root, halfOf, slopeOf, times, half, rsqrt2, normal]
  simp only [← EReal.coe_mul, ← EReal.coe_neg, Ideal.erf_coe, Ideal.exp_coe, ← EReal.coe_one, ← EReal.coe_add]
  rw [he]
  refine congrArg (fun r : ℝ => (r : EReal)) ?_
  ring

end Cert.Glu

namespace Cert.Pre_finite2.Glu
open Cert.Pre_finite2 Cert.Att Cert.Glu

/-- The side conditions the precondition's operations take. -/
instance facts : Cert.Pre_finite2.Facts where
  bcast_S_S4x2048x1024 := by decide
  reducesTo_S4x2048x1024_S_d0_1_2 := by decide
  h_S_ := by decide
  bcast_S_S1024x5632 := by decide
  reducesTo_S1024x5632_S_d0_1 := by decide
  bcast_S_S3x2816 := by decide
  reducesTo_S3x2816_S_d0_1 := by decide
  bcast_S_S1x2816 := by decide
  reducesTo_S1x2816_S_d0_1 := by decide
  bcast_S_S2816x1024 := by decide
  reducesTo_S2816x1024_S_d0_1 := by decide

theorem both_one : ∀ a b : BitVec 1, IntOp.andi a b = 1#1 → a = 1#1 ∧ b = 1#1 := by decide

/-- Where all elements of an array compare below plus infinity and above minus infinity, each is a real. -/
theorem real_at {s : Shape} {axes : List (Fin s.rank)} (x : FVec Ideal s .f32) (hb : S_.BroadcastsInDim s ![])
    (hr : s.ReducesTo axes S_) (hu : 0 < S_.numel) (j : S_.Idx)
    (e : Host.reduce IntOp.andi (andi (cmpf .olt x (broadcastInDim s ![] hb (constant S_ .f32 0x7F800000#32)))
        (cmpf .ogt x (broadcastInDim s ![] hb (constant S_ .f32 0xFF800000#32)))) (constantI S_ 1 1#1) hr hu j = 1#1)
    (i : s.Idx) : Real1 (x i) := by
  haveI : Subsingleton S_.Idx := ⟨fun a b => funext fun k => k.elim0⟩
  have h := both_one _ _ (Host.reduce_andi_all _ _ _ _ j e i)
  have h1 : BitVec.ofBool (decide ((x i : EReal) < Ideal.ofBits .f32 0x7F800000#32)) = 1#1 := h.1
  have h2 : BitVec.ofBool (decide (Ideal.ofBits .f32 0xFF800000#32 < (x i : EReal))) = 1#1 := h.2
  rw [ofBits_pos_inf, ofBool_eq_one_iff, decide_eq_true_eq] at h1
  rw [ofBits_neg_inf, ofBool_eq_one_iff, decide_eq_true_eq] at h2
  exact ⟨_, (EReal.coe_toReal h1.ne h2.ne').symm⟩

/-- Under the precondition every element of the six arguments is a real. -/
theorem real_of {x0 : FVec Ideal S4x2048x1024 .f32} {x1 : FVec Ideal S1024x5632 .f32} {x2 : FVec Ideal S3x2816 .f32}
    {x3 : FVec Ideal S1x2816 .f32} {x4 : FVec Ideal S2816x1024 .f32} {x5 : FVec Ideal S4x2048x1024 .f32}
    (h : fn x0 x1 x2 x3 x4 x5 = fun _ => 1#1) :
    (∀ i, Real1 (x0 i)) ∧ (∀ i, Real1 (x1 i)) ∧ (∀ i, Real1 (x2 i)) ∧ (∀ i, Real1 (x3 i)) ∧ (∀ i, Real1 (x4 i)) ∧ (∀ i, Real1 (x5 i)) := by
  have e : fn x0 x1 x2 x3 x4 x5 (fun k => k.elim0) = 1#1 := congrFun h _
  unfold fn fn_part1 fn_part2 at e
  have a := both_one _ _ e
  have b := both_one _ _ a.1
  have c := both_one _ _ b.1
  have d := both_one _ _ c.1
  have f := both_one _ _ d.1
  exact ⟨real_at x0 _ _ _ _ f.1, real_at x1 _ _ _ _ f.2, real_at x2 _ _ _ _ d.2, real_at x3 _ _ _ _ c.2, real_at x4 _ _ _ _ b.2,
    real_at x5 _ _ _ _ a.2⟩

end Cert.Pre_finite2.Glu
end
-- ==== Proof.GluCols.lean ====
/-
  The gated layer's reference by columns: its stages at an index as the convolution, GELU and slope of the columns its
  operands hold.
-/
module

public import proofs.«01_k».proof.Proof.GluReal

@[expose] public section

set_option maxRecDepth 16384

noncomputable section

open Idealize.ShloMosaic

namespace Cert.Reference2Ideal.Glu
open Cert.Reference2Ideal Cert.Reference2Ideal.Gen Cert.Glu

/-- The taps and the bias of a column. -/
def tapsAt (w : FVec Ideal S3x2816 .f32) (k : Fin 2816) : Fin 3 → EReal := fun t => w (ix2 t k)
def biasAt (β : FVec Ideal S1x2816 .f32) (k : Fin 2816) : EReal := β (ix2 0 k)

section
variable (g p d : Rows) (w : FVec Ideal S3x2816 .f32) (β : FVec Ideal S1x2816 .f32) (b : Fin 4) (r : Fin 2048) (k : Fin 2816)

theorem sumsOf_eq (s0 s1 s2 w0 w1 w2 β : EReal) : sumsOf 0 s0 s1 s2 w0 w1 w2 β = threeTaps (twoTaps s0 w0 s1 w1) s2 w2 β := by
  rw [sumsOf, threeTaps, twoTaps, zero_add]

theorem convRows_at : convRows g w β (ix3 b r k) = conv (col g b k) (tapsAt w k) (biasAt β k) r := by
  rw [convRows, sums_at, seen0_at, seen1_at, seen2_at, over0_at, over1_at, over2_at, biasRows_at, sumsOf_eq]
  rfl

theorem act_at : mulf (geluRows (convRows g w β)) p (ix3 b r k) = act (col g b k) (col p b k) (tapsAt w k) (biasAt β k) r := by
  rw [mul_at, geluRows_at, convRows_at, word_half, times, gelu_eq]
  rfl

variable {g p d w β} (hg : ∀ i, Real1 (g i)) (hp : ∀ i, Real1 (p i)) (hd : ∀ i, Real1 (d i)) (hw : ∀ i, Real1 (w i)) (hβ : ∀ i, Real1 (β i))
include hg hp hd hw hβ

theorem dx_col : dx (convRows g w β) (halfGrad p d) (ix3 b r k)
    = dconv (col g b k) (col p b k) (col d b k) (tapsAt w k) (biasAt β k) r := by
  rw [dx_at, halfGrad_at, convRows_at, word_half, word_slope]
  exact slope_eq (Real1.conv (u := col g b k) (w := tapsAt w k) (fun _ => hg _) (fun _ => hw _) (hβ _) r) (hp _) (hd _)

theorem dx_cols : col (dx (convRows g w β) (halfGrad p d)) b k
    = dconv (col g b k) (col p b k) (col d b k) (tapsAt w k) (biasAt β k) :=
  funext fun r => dx_col b r k hg hp hd hw hβ

/-- The bias gradient. -/
theorem db_col : total (dx (convRows g w β) (halfGrad p d)) (ix2 0 k)
    = ∑ b : Fin 4, dbias (dconv (col g b k) (col p b k) (col d b k) (tapsAt w k) (biasAt β k)) := by
  rw [total_at]
  refine Finset.sum_congr rfl fun b _ => ?_
  rw [dx_cols b k hg hp hd hw hβ, dbias]

theorem dtap_col (x : Rows) (t : Fin 3) (h : ∀ b r, x (ix3 b r k) = seen (col g b k) t r) :
    total (mulf x (dx (convRows g w β) (halfGrad p d))) (ix2 0 k)
    = ∑ b : Fin 4, dtap (col g b k) (dconv (col g b k) (col p b k) (col d b k) (tapsAt w k) (biasAt β k)) t := by
  rw [total_at]
  refine Finset.sum_congr rfl fun b _ => ?_
  rw [dtap]
  refine Finset.sum_congr rfl fun r _ => ?_
  rw [col, mul_at, h, dx_col b r k hg hp hd hw hβ]

/-- The taps' gradient. -/
theorem dw_col (t : Fin 3) : threeRows (total (mulf (seen0 (padded g)) (dx (convRows g w β) (halfGrad p d))))
      (total (mulf (seen1 (padded g)) (dx (convRows g w β) (halfGrad p d))))
      (total (mulf (seen2 (padded g)) (dx (convRows g w β) (halfGrad p d)))) (ix2 t k)
    = ∑ b : Fin 4, dtap (col g b k) (dconv (col g b k) (col p b k) (col d b k) (tapsAt w k) (biasAt β k)) t := by
  rw [threeRows_at, dtap_col k hg hp hd hw hβ _ 0 fun b r => seen0_at g b r k, dtap_col k hg hp hd hw hβ _ 1 fun b r => seen1_at g b r k,
    dtap_col k hg hp hd hw hβ _ 2 fun b r => seen2_at g b r k]
  match t with
  | ⟨0, _⟩ => rfl
  | ⟨1, _⟩ => rfl
  | ⟨2, _⟩ => rfl

theorem tapped_col (v : Rows) (t : Fin 3) (h : ∀ b r, v (ix3 b r k) = tapsAt w k t) :
    col (mulf (dx (convRows g w β) (halfGrad p d)) v) b k
    = fun r => times (dconv (col g b k) (col p b k) (col d b k) (tapsAt w k) (biasAt β k) r) (tapsAt w k t) := by
  funext r
  rw [col, mul_at, h, dx_col b r k hg hp hd hw hβ]

/-- The gradient of the gated half. -/
theorem dgate_col : backRows (mulf (dx (convRows g w β) (halfGrad p d)) (over (tap0 w)))
      (mulf (dx (convRows g w β) (halfGrad p d)) (over (tap1 w))) (mulf (dx (convRows g w β) (halfGrad p d)) (over (tap2 w))) (ix3 b r k)
    = back (dconv (col g b k) (col p b k) (col d b k) (tapsAt w k) (biasAt β k)) (tapsAt w k) r := by
  rw [backRows_at, tapped_col b k hg hp hd hw hβ _ 0 fun b r => over0_at w b r k, tapped_col b k hg hp hd hw hβ _ 1 fun b r => over1_at w b r k,
    tapped_col b k hg hp hd hw hβ _ 2 fun b r => over2_at w b r k]
  rfl

end

/-- The projections hold reals. -/
theorem up_real {x0 : FVec Ideal S4x2048x1024 .f32} {x1 : FVec Ideal S1024x5632 .f32} (h0 : ∀ i, Real1 (x0 i)) (h1 : ∀ i, Real1 (x1 i))
    (i : S4x2048x5632.Idx) : Real1 (up x0 x1 i) := by
  rw [eq_ix3 i]
  refine (congrArg Real1 (up_at x0 x1 _ _ _)).mpr (Real1.sum fun j _ => ?_)
  exact (h0 _).mul (h1 _)

theorem gate_real {u : FVec Ideal S4x2048x5632 .f32} (h : ∀ i, Real1 (u i)) (i : S4x2048x2816.Idx) : Real1 (gateHalf u i) := by
  rw [eq_ix3 i]
  exact (congrArg Real1 (gateHalf_at u _ _ _)).mpr (h _)

theorem plain_real {u : FVec Ideal S4x2048x5632 .f32} (h : ∀ i, Real1 (u i)) (i : S4x2048x2816.Idx) : Real1 (plainHalf u i) := by
  rw [eq_ix3 i]
  exact (congrArg Real1 (plainHalf_at u _ _ _)).mpr (h _)

theorem down_real {x5 : FVec Ideal S4x2048x1024 .f32} {x4 : FVec Ideal S2816x1024 .f32} (h5 : ∀ i, Real1 (x5 i)) (h4 : ∀ i, Real1 (x4 i))
    (i : S4x2048x2816.Idx) : Real1 (down x5 x4 i) := by
  rw [eq_ix3 i]
  refine (congrArg Real1 (down_at x5 x4 _ _ _)).mpr (Real1.sum fun j _ => ?_)
  exact (h5 _).mul (h4 _)

end Cert.Reference2Ideal.Glu
end
-- ==== Proof.GluBlock.lean ====
/-
  One grid point of the gated layer's two calls, in terms of its blocks: 256 columns of one batch row.
-/
module

public import proofs.«01_k».proof.Proof.Gen.Kernel2Ideal.Frame
public import proofs.«01_k».proof.Proof.Glu
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.ValueKit
public import Idealize.ShloMosaic.Lib.Pipeline.Covers
public import Idealize.ShloMosaic.Lib.IdealHost
public import Idealize.ShloMosaic.Lib.KernelVsHost

@[expose] public section

set_option maxRecDepth 16384

noncomputable section

open Idealize.ShloMosaic Idealize.ShloMosaic.TcCoe Idealize.SL.Sem

namespace Cert.Kernel2Ideal.Glu
open Cert.Kernel2Ideal Cert.Kernel2Ideal.Gen Cert.Glu

theorem named_rsqrt2 : Named.named (F := Ideal) (φ := .f32) κ "sqrt_half" 0x3F3504F3#32 = rsqrt2 :=
  IdealRules.named_const.ideal_named_scalar _ _ _ _ rfl

theorem named_normal : Named.named (F := Ideal) (φ := .f32) κ "normal" 0x3ECC422A#32 = normal :=
  IdealRules.named_const.ideal_named_scalar _ _ _ _ rfl

theorem ofBits_half : Ideal.ofBits .f32 0x3F000000#32 = half := by
  simp [Ideal.ofBits, Ideal.ieee, half, -EReal.coe_mul]; norm_num

theorem ofBits_neg_half : Ideal.ofBits .f32 0xBF000000#32 = -half := by
  rw [half, ← EReal.coe_neg]
  simp [Ideal.ofBits, Ideal.ieee, -EReal.coe_mul]; norm_num

/-- The mask that keeps a column moved back from wrapping around, and the one of a column moved on. -/
theorem mask_next (r : Fin 2048) : IntOp.andi (IntOp.cmpi CmpIPredicate.sge (IntOp.addi (BitVec.ofNat 32 r.val) 1#32) 0#32)
    (IntOp.cmpi CmpIPredicate.slt (IntOp.addi (BitVec.ofNat 32 r.val) 1#32) 2048#32) = if r.val = 2047 then 0#1 else 1#1 := by
  by_cases h : r.val = 2047
  · rw [if_pos h, h]; decide +kernel
  · have h1 : IntOp.addi (BitVec.ofNat 32 r.val) 1#32 = BitVec.ofNat 32 (r.val + 1) := by
      simp [IntOp.addi, BitVec.ofNat_add]
    have h2 : (BitVec.ofNat 32 (r.val + 1)).toInt = (r.val + 1 : ℕ) := by
      rw [BitVec.toInt_eq_toNat_of_lt] <;> rw [BitVec.toNat_ofNat] <;> omega
    rw [if_neg h, h1]
    simp only [IntOp.cmpi, IntOp.andi, BitVec.slt, BitVec.sle, h2]
    rw [show (0#32).toInt = 0 from rfl, show (2048#32).toInt = 2048 from rfl, decide_eq_true (by omega), decide_eq_true (by omega)]
    rfl

theorem mask_prev (r : Fin 2048) : IntOp.andi (IntOp.cmpi CmpIPredicate.sge (IntOp.addi (BitVec.ofNat 32 r.val) 4294967295#32) 0#32)
    (IntOp.cmpi CmpIPredicate.slt (IntOp.addi (BitVec.ofNat 32 r.val) 4294967295#32) 2048#32) = if r.val = 0 then 0#1 else 1#1 := by
  by_cases h : r.val = 0
  · rw [if_pos h, h]; decide +kernel
  · have h1 : IntOp.addi (BitVec.ofNat 32 r.val) 4294967295#32 = BitVec.ofNat 32 (r.val - 1) := by
      obtain ⟨n, hn⟩ : ∃ n, r.val = n + 1 := ⟨r.val - 1, by omega⟩
      rw [hn, IntOp.addi, Nat.add_sub_cancel, BitVec.ofNat_add, BitVec.add_assoc, show 1#32 + 4294967295#32 = 0#32 by decide +kernel, BitVec.add_zero]
    have h2 : (BitVec.ofNat 32 (r.val - 1)).toInt = (r.val - 1 : ℕ) := by
      rw [BitVec.toInt_eq_toNat_of_lt] <;> rw [BitVec.toNat_ofNat] <;> omega
    rw [if_neg h, h1]
    simp only [IntOp.cmpi, IntOp.andi, BitVec.slt, BitVec.sle, h2]
    rw [show (0#32).toInt = 0 from rfl, show (2048#32).toInt = 2048 from rfl, decide_eq_true (by omega), decide_eq_true (by omega)]
    rfl

theorem select_ite {α : Type} (p : Prop) [Decidable p] (a b : α) :
    Scalar.select (if p then 0#1 else 1#1) a b = if p then b else a := by
  by_cases h : p
  · rw [if_pos h, if_pos h]; rfl
  · rw [if_neg h, if_neg h]; rfl

/-- The sum over the three taps of one that a mask picks. -/
theorem pick_tap (f : Fin 3 → EReal) (t : Fin 3) :
    ∑ x : Fin 3, Scalar.select (IntOp.cmpi CmpIPredicate.eq (BitVec.ofNat 32 x.val) (BitVec.ofNat 32 t.val)) (f x) 0 = f t := by
  fin_cases t <;> simp [Fin.sum_univ_three, Scalar.select, IntOp.cmpi]

/- The payloads, read at an index. -/

theorem pay13_at (w : Vec Ideal S3x256 .f32) (β : Vec Ideal S1x256 .f32) (u y : FVec Ideal S2048x256 .f32) (r : Fin 2048) (j : Fin 256) :
    k3_pay13 w β u y 2047#32 (ix2 r j)
      = threeTaps (y (ix2 r j)) (k3_pay10 u 2047#32 (ix2 r j)) (k3_pay12 w (ix2 0 j)) (β (ix2 0 j)) := by
  unfold k3_pay13 threeTaps
  pointwise

theorem pay9_eq (x : Vec Ideal S1x2048x512 .f32) (w : Vec Ideal S3x256 .f32) : k3_pay9 x w
    = addf (mulf (k3_pay4 x) (broadcastTo S2048x256 (k3_pay6 w) broadcasts_S1x256_S2048x256))
      (mulf (k3_pay3 x) (broadcastTo S2048x256 (k3_pay8 w) broadcasts_S1x256_S2048x256)) := rfl

theorem twoTaps_at (p u : FVec Ideal S2048x256 .f32) (a b : FVec Ideal S1x256 .f32) (r : Fin 2048) (j : Fin 256) :
    addf (mulf p (broadcastTo S2048x256 a broadcasts_S1x256_S2048x256)) (mulf u (broadcastTo S2048x256 b broadcasts_S1x256_S2048x256)) (ix2 r j)
      = twoTaps (p (ix2 r j)) (a (ix2 0 j)) (u (ix2 r j)) (b (ix2 0 j)) := by
  unfold twoTaps
  pointwise

theorem pay9_at (x : Vec Ideal S1x2048x512 .f32) (w : Vec Ideal S3x256 .f32) (r : Fin 2048) (j : Fin 256) :
    k3_pay9 x w (ix2 r j)
      = twoTaps (k3_pay4 x (ix2 r j)) (k3_pay6 w (ix2 0 j)) (k3_pay3 x (ix2 r j)) (k3_pay8 w (ix2 0 j)) := by
  rw [pay9_eq, twoTaps_at]

theorem plain_at (x : Vec Ideal S1x2048x512 .f32) (r : Fin 2048) (j : Fin 256) :
    k3_pay2 x (ix2 r ⟨256 + j.val, by omega⟩) = x (ix3 0 r ⟨256 + j.val, by omega⟩) := by
  unfold k3_pay2
  pointwise

theorem pay14_at (d : Vec Ideal S1x2048x256 .bf16) (r : Fin 2048) (j : Fin 256) : k3_pay14 d (ix2 r j) = d (ix3 0 r j) := by
  unfold k3_pay14
  pointwise

/-- The forward call's result, and the first half of the backward one's, over the convolution's output. -/
def geluBlock (c v : FVec Ideal S2048x256 .f32) : FVec Ideal S2048x256 .f32 :=
  mulf (mulf (mulf (broadcast S2048x256 (Scalar.ofBits .f32 0x3F000000#32)) c)
        (addf (broadcast S2048x256 (Scalar.ofBits .f32 0x3F800000#32))
          (erf (mulf c (broadcast S2048x256 (Named.named κ "sqrt_half" 0x3F3504F3#32)))))) v

theorem geluBlock_at (c v : FVec Ideal S2048x256 .f32) (r : Fin 2048) (j : Fin 256) :
    geluBlock c v (ix2 r j) = geluOf (Ideal.ofBits .f32 0x3F000000#32) (Named.named (F := Ideal) (φ := .f32) κ "sqrt_half" 0x3F3504F3#32)
      (c (ix2 r j)) (v (ix2 r j)) := by
  unfold geluBlock geluOf
  pointwise
  rfl

theorem half_at (v : FVec Ideal S2048x512 .f32) (r : Fin 2048) (j : Fin 256) :
    extractStridedSlice S2048x256 ![0, 256] v slices_S2048x512_o0_256_S2048x256 (ix2 r j) = v (ix2 r ⟨256 + j.val, by omega⟩) := by
  pointwise

theorem lift_at (v : FVec Ideal S2048x256 .f32) (r : Fin 2048) (j : Fin 256) :
    shapeCast S1x2048x256 (truncf .bf16 v bitsLt_bf16_f32) shapeCasts_S2048x256_S1x2048x256 (ix3 0 r j) = v (ix2 r j) := by
  pointwise

theorem pay15_at (v : FVec Ideal S2048x512 .f32) (d : Vec Ideal S1x2048x256 .bf16) (r : Fin 2048) (j : Fin 256) :
    k3_pay15 v d (ix2 r j) = times (d (ix3 0 r j)) (v (ix2 r ⟨256 + j.val, by omega⟩)) := by
  unfold k3_pay15 k3_pay14 times
  pointwise

theorem pay18_at (c g : FVec Ideal S2048x256 .f32) (r : Fin 2048) (j : Fin 256) :
    k3_pay18 c g (erf (mulf c (broadcast S2048x256 (Named.named κ "sqrt_half" 0x3F3504F3#32)))) (Scalar.ofBits .f32 0x3F800000#32) (ix2 r j)
      = slopeOf (Ideal.ofBits .f32 0x3F000000#32) (Named.named (F := Ideal) (φ := .f32) κ "sqrt_half" 0x3F3504F3#32)
        (Ideal.ofBits .f32 0xBF000000#32) (Named.named (F := Ideal) (φ := .f32) κ "normal" 0x3ECC422A#32) (c (ix2 r j)) (g (ix2 r j)) := by
  unfold k3_pay18 slopeOf
  pointwise
  rfl

theorem pay16_left (w : Vec Ideal S3x256 .f32) (β : Vec Ideal S1x256 .f32) (u y : FVec Ideal S2048x256 .f32) (d : Vec Ideal S1x2048x256 .bf16)
    (r : Fin 2048) (j : Fin 256) : k3_pay16 w β u y 2047#32 d (ix2 r ⟨j.val, by omega⟩) = 0 := by
  unfold k3_pay16
  pointwise

theorem pay16_eq (w : Vec Ideal S3x256 .f32) (β : Vec Ideal S1x256 .f32) (u y : FVec Ideal S2048x256 .f32) (d : Vec Ideal S1x2048x256 .bf16) :
    k3_pay16 w β u y 2047#32 d = concatenate S2048x512 1
      [⟨S2048x256, broadcast S2048x256 (Scalar.ofBits (F := Ideal) .f32 0x00000000#32)⟩, ⟨S2048x256, geluBlock (k3_pay13 w β u y 2047#32) (k3_pay14 d)⟩]
      concatenates_S2048x256_S2048x256_S2048x512_d1 := rfl

theorem pay16_right (w : Vec Ideal S3x256 .f32) (β : Vec Ideal S1x256 .f32) (u y : FVec Ideal S2048x256 .f32) (d : Vec Ideal S1x2048x256 .bf16)
    (r : Fin 2048) (j : Fin 256) : k3_pay16 w β u y 2047#32 d (ix2 r ⟨256 + j.val, by omega⟩)
      = geluBlock (k3_pay13 w β u y 2047#32) (k3_pay14 d) (ix2 r j) := by
  rw [pay16_eq]
  generalize geluBlock (k3_pay13 w β u y 2047#32) (k3_pay14 d) = g
  pointwise

theorem pay22_at (b : FVec Ideal S1x256 .f32) (c g e : FVec Ideal S2048x256 .f32) (z : EReal) (r : Fin 2048) (j : Fin 256) :
    k3_pay22 b c g e z (ix2 r j) = times (k3_pay18 c g e z (ix2 r j)) (b (ix2 0 j)) := by
  unfold k3_pay22 times
  pointwise

theorem pay21_at (b : FVec Ideal S1x256 .f32) (c g e : FVec Ideal S2048x256 .f32) (z : EReal) (r : Fin 2048) (j : Fin 256) :
    k3_pay21 b c g e z (ix2 r j) = prev (fun i => times (k3_pay18 c g e z (ix2 i j)) (b (ix2 0 j))) r := by
  unfold k3_pay21 prev times
  pointwise
  rw [mask_prev, select_ite]

theorem pay25_left (a : FVec Ideal S1x256 .f32) (q : FVec Ideal S2048x512 .f32) (x p m : FVec Ideal S2048x256 .f32) (r : Fin 2048) (j : Fin 256) :
    k3_pay25 a q x p m (ix3 0 r ⟨j.val, by omega⟩)
      = q (ix2 r ⟨j.val, by omega⟩) + (p (ix2 r j) + m (ix2 r j) + next (fun i => times (x (ix2 i j)) (a (ix2 0 j))) r) := by
  unfold k3_pay25 next times
  pointwise
  rw [mask_next, select_ite]

theorem pay25_right (a : FVec Ideal S1x256 .f32) (q : FVec Ideal S2048x512 .f32) (x p m : FVec Ideal S2048x256 .f32) (r : Fin 2048) (j : Fin 256) :
    k3_pay25 a q x p m (ix3 0 r ⟨256 + j.val, by omega⟩) = q (ix2 r ⟨256 + j.val, by omega⟩) := by
  unfold k3_pay25
  pointwise

theorem pay20_at (n : FVec Ideal S2048x256 .f32) (c g e : FVec Ideal S2048x256 .f32) (z : EReal) (t : Fin 3) (j : Fin 256) :
    k3_pay20 n k3_pay11 c g e z (ix2 t j) = if t = 2 then ∑ r : Fin 2048, times (n (ix2 r j)) (k3_pay18 c g e z (ix2 r j)) else 0 := by
  unfold k3_pay20 k3_pay11 times
  pointwise
  rw [Fin.sum_univ_one]
  fin_cases t <;> rfl

theorem pay23_at (u : FVec Ideal S2048x256 .f32) (c g e : FVec Ideal S2048x256 .f32) (z : EReal) (t : Fin 3) (j : Fin 256) :
    k3_pay23 u c g e z (ix2 t j) = ∑ r : Fin 2048, times (u (ix2 r j)) (k3_pay18 c g e z (ix2 r j)) := by
  unfold k3_pay23 times
  pointwise
  rw [Fin.sum_univ_one]

theorem pay28_at (p x : FVec Ideal S2048x256 .f32) (a b : FVec Ideal S3x256 .f32) (v : Vec Ideal S3x256 .f32) (t : Fin 3) (j : Fin 256) :
    k3_pay28 p k3_pay5 k3_pay7 x a b k3_pay24 v (ix2 t j)
      = v (ix2 t j) + (a (ix2 t j) + (if t = 1 then b (ix2 t j) else 0) + if t = 0 then ∑ r : Fin 2048, times (p (ix2 r j)) (x (ix2 r j)) else 0) := by
  unfold k3_pay28 k3_pay5 k3_pay7 k3_pay24 times
  pointwise
  rw [Fin.sum_univ_one]
  fin_cases t <;> rfl

theorem pay19_at (c g e : FVec Ideal S2048x256 .f32) (z : EReal) (j : Fin 256) :
    k3_pay19 c g e z (ix2 0 j) = dbias (fun r => k3_pay18 c g e z (ix2 r j)) := by
  unfold k3_pay19 dbias
  pointwise

theorem pay1_at (s v : FVec Ideal S1x256 .f32) (j : Fin 256) : k3_pay1 s v (ix2 0 j) = v (ix2 0 j) + s (ix2 0 j) := by
  unfold k3_pay1
  pointwise

section
variable (x : Vec Ideal S1x2048x512 .f32) (w : Vec Ideal S3x256 .f32) (β : Vec Ideal S1x256 .f32) (d : Vec Ideal S1x2048x256 .bf16)

/-- The gated and the plain column `j` of a block, the column of a block of gradients, and a column's taps. -/
def gcol (j : Fin 256) : Col := fun r => x (ix3 0 r ⟨j.val, by omega⟩)
def vcol (j : Fin 256) : Col := fun r => x (ix3 0 r ⟨256 + j.val, by omega⟩)
def dcol (j : Fin 256) : Col := fun r => d (ix3 0 r j)
def taps (j : Fin 256) : Fin 3 → EReal := fun t => w (ix2 t j)

theorem gate_at (r : Fin 2048) (j : Fin 256) : k3_pay3 x (ix2 r j) = gcol x j r := by
  unfold k3_pay3 k3_pay2 gcol
  pointwise

theorem prev_at (r : Fin 2048) (j : Fin 256) : k3_pay4 x (ix2 r j) = prev (gcol x j) r := by
  unfold k3_pay4
  pointwise
  rw [mask_prev, select_ite, gate_at, prev]

theorem next_at (r : Fin 2048) (j : Fin 256) : k3_pay10 (k3_pay3 x) 2047#32 (ix2 r j) = next (gcol x j) r := by
  unfold k3_pay10
  pointwise
  rw [mask_next, select_ite, gate_at, next]

theorem tap0_at (j : Fin 256) : k3_pay6 w (ix2 0 j) = taps w j 0 := by
  unfold k3_pay6 k3_pay5
  pointwise
  exact pick_tap (taps w j) 0

theorem tap1_at (j : Fin 256) : k3_pay8 w (ix2 0 j) = taps w j 1 := by
  unfold k3_pay8 k3_pay7
  pointwise
  exact pick_tap (taps w j) 1

theorem tap2_at (j : Fin 256) : k3_pay12 w (ix2 0 j) = taps w j 2 := by
  unfold k3_pay12 k3_pay11
  pointwise
  exact pick_tap (taps w j) 2

/-- The convolution's output. -/
def cv : FVec Ideal S2048x256 .f32 := k3_pay13 w β (k3_pay3 x) (k3_pay9 x w) 2047#32

theorem conv_at (r : Fin 2048) (j : Fin 256) : cv x w β (ix2 r j) = conv (gcol x j) (taps w j) (β (ix2 0 j)) r := by
  rw [cv, pay13_at, pay9_at, prev_at, next_at, gate_at, tap0_at, tap1_at, tap2_at, conv]

theorem act_eq : k1_pay1 (k1_pay2 x) w β (k1_pay3 x) (k1_pay4 x w) 2047#32
    = shapeCast S1x2048x256 (truncf .bf16 (geluBlock (cv x w β)
        (extractStridedSlice S2048x256 ![0, 256] (k3_pay2 x) slices_S2048x512_o0_256_S2048x256)) bitsLt_bf16_f32)
        shapeCasts_S2048x256_S1x2048x256 := rfl

/-- The forward call's block. -/
theorem act_at (r : Fin 2048) (j : Fin 256) : k1_pay1 (k1_pay2 x) w β (k1_pay3 x) (k1_pay4 x w) 2047#32 (ix3 0 r j)
    = act (gcol x j) (vcol x j) (taps w j) (β (ix2 0 j)) r := by
  rw [act_eq, lift_at, geluBlock_at, half_at, plain_at, conv_at, named_rsqrt2, ofBits_half, act, vcol]

/-- The gradient of the convolution's output. -/
def dc : FVec Ideal S2048x256 .f32 :=
  k3_pay18 (cv x w β) (k3_pay15 (k3_pay2 x) d) (k3_pay17 w β (k3_pay3 x) (k3_pay9 x w) 2047#32) (Scalar.ofBits .f32 0x3F800000#32)

theorem dc_eq : dc x w β d = k3_pay18 (cv x w β) (k3_pay15 (k3_pay2 x) d)
    (erf (mulf (cv x w β) (broadcast S2048x256 (Named.named κ "sqrt_half" 0x3F3504F3#32)))) (Scalar.ofBits .f32 0x3F800000#32) := rfl

/-- The gradient of the convolution's output as a column. -/
def dcv (j : Fin 256) : Col := dconv (gcol x j) (vcol x j) (dcol d j) (taps w j) (β (ix2 0 j))

theorem dc_at (r : Fin 2048) (j : Fin 256) : dc x w β d (ix2 r j) = dcv x w β d j r := by
  rw [dc_eq, pay18_at, pay15_at, plain_at, conv_at, named_rsqrt2, named_normal, ofBits_half, ofBits_neg_half, dcv, dconv, vcol, dcol]

/-- The gradient of the up-projection's output. -/
def dupBlock : FVec Ideal S1x2048x512 .bf16 :=
  k3_pay25 (k3_pay6 w) (k3_pay16 w β (k3_pay3 x) (k3_pay9 x w) 2047#32 d) (dc x w β d)
    (k3_pay21 (k3_pay12 w) (cv x w β) (k3_pay15 (k3_pay2 x) d) (k3_pay17 w β (k3_pay3 x) (k3_pay9 x w) 2047#32) (Scalar.ofBits .f32 0x3F800000#32))
    (k3_pay22 (k3_pay8 w) (cv x w β) (k3_pay15 (k3_pay2 x) d) (k3_pay17 w β (k3_pay3 x) (k3_pay9 x w) 2047#32) (Scalar.ofBits .f32 0x3F800000#32))

theorem dc_at' (r : Fin 2048) (j : Fin 256) : k3_pay18 (cv x w β) (k3_pay15 (k3_pay2 x) d)
    (k3_pay17 w β (k3_pay3 x) (k3_pay9 x w) 2047#32) (Scalar.ofBits .f32 0x3F800000#32) (ix2 r j) = dcv x w β d j r := dc_at x w β d r j

theorem dup_gate (r : Fin 2048) (j : Fin 256) :
    dupBlock x w β d (ix3 0 r ⟨j.val, by omega⟩) = back (dcv x w β d j) (taps w j) r := by
  rw [dupBlock, pay25_left, pay16_left, pay21_at, pay22_at]
  simp only [dc_at, dc_at', tap0_at, tap1_at, tap2_at]
  rw [zero_add, back]

theorem dup_plain (r : Fin 2048) (j : Fin 256) :
    dupBlock x w β d (ix3 0 r ⟨256 + j.val, by omega⟩) = act (gcol x j) (dcol d j) (taps w j) (β (ix2 0 j)) r := by
  rw [dupBlock, pay25_right, pay16_right, geluBlock_at, pay14_at, act, dcol, ← conv_at, ← named_rsqrt2, ← ofBits_half]
  rfl

/-- The gradient of the taps, over what the point before left. -/
def dwBlock (v : Vec Ideal S3x256 .f32) : FVec Ideal S3x256 .f32 :=
  k3_pay28 (k3_pay4 x) k3_pay5 k3_pay7 (dc x w β d)
    (k3_pay20 (k3_pay10 (k3_pay3 x) 2047#32) k3_pay11 (cv x w β) (k3_pay15 (k3_pay2 x) d) (k3_pay17 w β (k3_pay3 x) (k3_pay9 x w) 2047#32) (Scalar.ofBits .f32 0x3F800000#32))
    (k3_pay23 (k3_pay3 x) (cv x w β) (k3_pay15 (k3_pay2 x) d) (k3_pay17 w β (k3_pay3 x) (k3_pay9 x w) 2047#32) (Scalar.ofBits .f32 0x3F800000#32))
    k3_pay24 v

theorem dw_at (v : Vec Ideal S3x256 .f32) (t : Fin 3) (j : Fin 256) :
    dwBlock x w β d v (ix2 t j) = (v (ix2 t j) : EReal) + dtap (gcol x j) (dcv x w β d j) t := by
  rw [dwBlock, pay28_at, pay20_at, pay23_at]
  simp only [dc_at, dc_at', prev_at, gate_at, next_at]
  fin_cases t
  · simp [dtap, seen]
  · simp [dtap, seen]
  · simp [dtap, seen]

/-- The gradient of the bias, over what the point before left. -/
def dbBlock (v : Vec Ideal S1x256 .f32) : FVec Ideal S1x256 .f32 :=
  k3_pay1 (k3_pay19 (cv x w β) (k3_pay15 (k3_pay2 x) d) (k3_pay17 w β (k3_pay3 x) (k3_pay9 x w) 2047#32) (Scalar.ofBits .f32 0x3F800000#32)) v

theorem db_at (v : Vec Ideal S1x256 .f32) (j : Fin 256) :
    dbBlock x w β d v (ix2 0 j) = (v (ix2 0 j) : EReal) + dbias (dcv x w β d j) := by
  rw [dbBlock, pay1_at, pay19_at]
  simp only [dc_at']

end

end Cert.Kernel2Ideal.Glu
end
-- ==== Proof.Blocked.lean ====
/-
  A product of two matrices computed in blocks of the summed axis, the partial products added up in an accumulator.

  Sums of the extended reals may be regrouped and reordered freely, so nothing is asked of the entries.
-/
module

public import Idealize.ShloMosaic.Lib.Pointwise
public import Idealize.ShloMosaic.Lib.Pipeline.ValueKit
public import Mathlib.Data.EReal.Operations
public import Mathlib.Algebra.BigOperators.Intervals
public import Mathlib.Algebra.BigOperators.Fin

@[expose] public section

noncomputable section

open Idealize.ShloMosaic

namespace Cert.Mm

/-- A matrix read at natural numbers; zero outside. -/
def nat2 {a b : ℕ} (f : (⟨2, ![a, b]⟩ : Shape).Idx → EReal) (r k : ℕ) : EReal :=
  if h : r < a ∧ k < b then f (ix2 ⟨r, h.1⟩ ⟨k, h.2⟩) else 0

theorem nat2_ix {a b : ℕ} (f : (⟨2, ![a, b]⟩ : Shape).Idx → EReal) (r : Fin a) (k : Fin b) : f (ix2 r k) = nat2 f r k := by
  rw [nat2, dif_pos ⟨r.isLt, k.isLt⟩]

theorem nat2_of {a b : ℕ} (f : (⟨2, ![a, b]⟩ : Shape).Idx → EReal) (y : (⟨2, ![a, b]⟩ : Shape).Idx) {r k : ℕ}
    (hr : (y 0).val = r) (hk : (y 1).val = k) : f y = nat2 f r k := by
  subst hr hk
  exact (congrArg f (eq_ix2 y)).trans (nat2_ix f (y 0) (y 1))

/-- Two matrices that agree at a row and a column agree there as read at natural numbers. -/
theorem nat2_congr {a b a' b' : ℕ} {f : (⟨2, ![a, b]⟩ : Shape).Idx → EReal} {g : (⟨2, ![a', b']⟩ : Shape).Idx → EReal} {r k r' k' : ℕ}
    (hr : r < a) (hk : k < b) (hr' : r' < a') (hk' : k' < b')
    (h : f (ix2 ⟨r, hr⟩ ⟨k, hk⟩) = g (ix2 ⟨r', hr'⟩ ⟨k', hk'⟩)) : nat2 f r k = nat2 g r' k' := by
  rw [nat2, nat2, dif_pos ⟨hr, hk⟩, dif_pos ⟨hr', hk'⟩, h]

/-- Entries of the three products, each summed axis marked by its place: rows with columns, columns with columns, rows with rows. -/
def dotNN {a n b : ℕ} (f : (⟨2, ![a, n]⟩ : Shape).Idx → EReal) (g : (⟨2, ![n, b]⟩ : Shape).Idx → EReal)
    (y : (⟨2, ![a, b]⟩ : Shape).Idx) : EReal := ∑ k : Fin n, f (ix2 (y 0) k) * g (ix2 k (y 1))
def dotTN {a n b : ℕ} (f : (⟨2, ![n, a]⟩ : Shape).Idx → EReal) (g : (⟨2, ![n, b]⟩ : Shape).Idx → EReal)
    (y : (⟨2, ![a, b]⟩ : Shape).Idx) : EReal := ∑ k : Fin n, f (ix2 k (y 0)) * g (ix2 k (y 1))
def dotNT {a n b : ℕ} (f : (⟨2, ![a, n]⟩ : Shape).Idx → EReal) (g : (⟨2, ![b, n]⟩ : Shape).Idx → EReal)
    (y : (⟨2, ![a, b]⟩ : Shape).Idx) : EReal := ∑ k : Fin n, f (ix2 (y 0) k) * g (ix2 (y 1) k)

theorem dotNN_nat {a n b : ℕ} (f : (⟨2, ![a, n]⟩ : Shape).Idx → EReal) (g : (⟨2, ![n, b]⟩ : Shape).Idx → EReal)
    (y : (⟨2, ![a, b]⟩ : Shape).Idx) :
    dotNN f g y = ∑ k ∈ Finset.range n, nat2 f (y 0).val k * nat2 g k (y 1).val := by
  rw [← Fin.sum_univ_eq_sum_range (fun k => nat2 f (y 0).val k * nat2 g k (y 1).val)]
  exact Finset.sum_congr rfl fun k _ => congrArg₂ (· * ·) (nat2_ix f (y 0) k) (nat2_ix g k (y 1))

theorem dotTN_nat {a n b : ℕ} (f : (⟨2, ![n, a]⟩ : Shape).Idx → EReal) (g : (⟨2, ![n, b]⟩ : Shape).Idx → EReal)
    (y : (⟨2, ![a, b]⟩ : Shape).Idx) :
    dotTN f g y = ∑ k ∈ Finset.range n, nat2 f k (y 0).val * nat2 g k (y 1).val := by
  rw [← Fin.sum_univ_eq_sum_range (fun k => nat2 f k (y 0).val * nat2 g k (y 1).val)]
  exact Finset.sum_congr rfl fun k _ => congrArg₂ (· * ·) (nat2_ix f k (y 0)) (nat2_ix g k (y 1))

theorem dotNT_nat {a n b : ℕ} (f : (⟨2, ![a, n]⟩ : Shape).Idx → EReal) (g : (⟨2, ![b, n]⟩ : Shape).Idx → EReal)
    (y : (⟨2, ![a, b]⟩ : Shape).Idx) :
    dotNT f g y = ∑ k ∈ Finset.range n, nat2 f (y 0).val k * nat2 g (y 1).val k := by
  rw [← Fin.sum_univ_eq_sum_range (fun k => nat2 f (y 0).val k * nat2 g (y 1).val k)]
  exact Finset.sum_congr rfl fun k _ => congrArg₂ (· * ·) (nat2_ix f (y 0) k) (nat2_ix g (y 1) k)

/-- An accumulator that every `P`-th point resets holds, after each point, the terms of the blocks from the last reset on. -/
theorem accumulate {N P b : ℕ} {ι : Type} (acc : (n : ℕ) → n < N → ι → EReal) (g : ℕ → ι → ℕ → EReal)
    (h0 : ∀ t : Fin N, t.val % P = 0 → ∀ i, acc t.val t.isLt i
      = 0 + ∑ k ∈ Finset.range b, g (t.val / P) i (t.val % P * b + k))
    (hs : ∀ t : Fin N, ¬t.val % P = 0 → ∀ i, acc t.val t.isLt i
      = acc (t.val - 1) (Nat.lt_of_le_of_lt (Nat.sub_le _ _) t.isLt) i
        + ∑ k ∈ Finset.range b, g (t.val / P) i (t.val % P * b + k)) (t : Fin N) (i : ι) :
    acc t.val t.isLt i = ∑ k ∈ Finset.range ((t.val % P + 1) * b), g (t.val / P) i k := by
  rw [Pipeline.eq_sum_of_reset_step_apply_divmod acc P (fun _ => 0) (fun q p i => ∑ k ∈ Finset.range b, g q i (p * b + k)) h0 hs t i,
    zero_add, Finset.sum_range_range_mul_add]

/-- The columns of a matrix laid out in alternating blocks of 256: 11 of its first half, 11 of its second. -/
def weave (k : ℕ) : ℕ := k / 256 % 2 * 2816 + k / 512 * 256 + k % 256

theorem weave_lt {k : ℕ} (h : k < 5632) : weave k < 5632 := by
  unfold weave
  omega

/-- The place of a column in that layout. -/
def unweave (k : ℕ) : ℕ := k / 256 % 11 * 512 + k / 2816 * 256 + k % 256

theorem unweave_lt {k : ℕ} (h : k < 5632) : unweave k < 5632 := by
  unfold unweave
  omega

theorem weave_split {q a l : ℕ} (ha : a < 2) (hl : l < 256) : weave (512 * q + 256 * a + l) = 2816 * a + 256 * q + l := by
  unfold weave
  rw [show (512 * q + 256 * a + l) / 256 = 2 * q + a by omega, show (512 * q + 256 * a + l) / 512 = q by omega]
  omega

theorem unweave_split {q a l : ℕ} (hq : q < 11) (hl : l < 256) : unweave (2816 * a + 256 * q + l) = 512 * q + 256 * a + l := by
  unfold unweave
  rw [show (2816 * a + 256 * q + l) / 256 = 11 * a + q by omega, show (2816 * a + 256 * q + l) / 2816 = a by omega]
  omega

theorem unweave_weave {k : ℕ} (h : k < 5632) : unweave (weave k) = k := by
  have e : k = 512 * (k / 512) + 256 * (k / 256 % 2) + k % 256 := by omega
  rw [e, weave_split (Nat.mod_lt _ (by norm_num)) (Nat.mod_lt _ (by norm_num)), unweave_split (by omega) (Nat.mod_lt _ (by norm_num))]

theorem weave_unweave {k : ℕ} (h : k < 5632) : weave (unweave k) = k := by
  have e : k = 2816 * (k / 2816) + 256 * (k % 2816 / 256) + k % 2816 % 256 := by omega
  rw [e, unweave_split (by omega) (Nat.mod_lt _ (by norm_num)), weave_split (by omega) (Nat.mod_lt _ (by norm_num))]

/-- A sum over all columns does not depend on how they are laid out. -/
theorem sum_weave (f : ℕ → EReal) : ∑ k ∈ Finset.range 5632, f (weave k) = ∑ k ∈ Finset.range 5632, f k :=
  Finset.sum_bij' (fun k _ => weave k) (fun k _ => unweave k)
    (fun _ hk => Finset.mem_range.2 (weave_lt (Finset.mem_range.1 hk)))
    (fun _ hk => Finset.mem_range.2 (unweave_lt (Finset.mem_range.1 hk)))
    (fun _ hk => unweave_weave (Finset.mem_range.1 hk)) (fun _ hk => weave_unweave (Finset.mem_range.1 hk)) fun _ _ => rfl

end Cert.Mm
-- ==== Proof.Products.lean ====
/-
  A product of two blocks in terms of the matrices that the blocks are taken from.
-/
module

public import proofs.«01_k».proof.Proof.Blocked

@[expose] public section

noncomputable section

open Idealize.ShloMosaic

namespace Cert.Mm

/-- A product of blocks whose entries are those of whole matrices. -/
theorem dotNN_blk {a n b : ℕ} (x : (⟨2, ![a, n]⟩ : Shape).Idx → EReal) (w : (⟨2, ![n, b]⟩ : Shape).Idx → EReal)
    (y : (⟨2, ![a, b]⟩ : Shape).Idx) {p q : ℕ → EReal} (hx : ∀ k : Fin n, x (ix2 (y 0) k) = p k) (hw : ∀ k : Fin n, w (ix2 k (y 1)) = q k) :
    dotNN x w y = ∑ k ∈ Finset.range n, p k * q k := by
  rw [← Fin.sum_univ_eq_sum_range (fun k => p k * q k)]
  exact Finset.sum_congr rfl fun k _ => congrArg₂ (fun a b : EReal => a * b) (hx k) (hw k)

theorem dotNT_blk {a n b : ℕ} (x : (⟨2, ![a, n]⟩ : Shape).Idx → EReal) (w : (⟨2, ![b, n]⟩ : Shape).Idx → EReal)
    (y : (⟨2, ![a, b]⟩ : Shape).Idx) {p q : ℕ → EReal} (hx : ∀ k : Fin n, x (ix2 (y 0) k) = p k) (hw : ∀ k : Fin n, w (ix2 (y 1) k) = q k) :
    dotNT x w y = ∑ k ∈ Finset.range n, p k * q k := by
  rw [← Fin.sum_univ_eq_sum_range (fun k => p k * q k)]
  exact Finset.sum_congr rfl fun k _ => congrArg₂ (fun a b : EReal => a * b) (hx k) (hw k)

end Cert.Mm
-- ==== Proof.GluArrays.lean ====
/-
  What the four calls of the gated layer leave in their result arrays, the columns of the up-projection in the woven
  order.
-/
module

public import proofs.«01_k».proof.Proof.GluBlock
public import proofs.«01_k».proof.Proof.Products
public import Idealize.ShloMosaic.Lib.StableHlo.ReadAt

@[expose] public section

set_option maxRecDepth 16384

noncomputable section

open Idealize.ShloMosaic Idealize.ShloMosaic.TcCoe Idealize.SL.Sem

namespace Cert.Kernel2Ideal.Glu
open Cert.Kernel2Ideal Cert.Kernel2Ideal.Gen Cert.Glu Cert.Mm

theorem ix0_0 : ∀ t : Fin cfg0.N, win0_0.index t = ![t.val / 11, 0] :=
  (by decide +kernel : ∀ t : Fin grid0.N, win0_0.index t = ![t.val / 11, 0])
theorem ix0_1 : ∀ t : Fin cfg0.N, win0_1.index t = ![0, t.val % 11] :=
  (by decide +kernel : ∀ t : Fin grid0.N, win0_1.index t = ![0, t.val % 11])
theorem ix0_2 : ∀ t : Fin cfg0.N, win0_2.index t = ![t.val / 11, t.val % 11] :=
  (by decide +kernel : ∀ t : Fin grid0.N, win0_2.index t = ![t.val / 11, t.val % 11])
theorem ix1_0 : ∀ t : Fin cfg1.N, win1_0.index t = ![t.val % 4, 0, t.val / 4] :=
  (by decide +kernel : ∀ t : Fin grid1.N, win1_0.index t = ![t.val % 4, 0, t.val / 4])
theorem ix1_1 : ∀ t : Fin cfg1.N, win1_1.index t = ![0, t.val / 4] :=
  (by decide +kernel : ∀ t : Fin grid1.N, win1_1.index t = ![0, t.val / 4])
theorem ix1_2 : ∀ t : Fin cfg1.N, win1_2.index t = ![0, t.val / 4] :=
  (by decide +kernel : ∀ t : Fin grid1.N, win1_2.index t = ![0, t.val / 4])
theorem ix1_3 : ∀ t : Fin cfg1.N, win1_3.index t = ![t.val % 4, 0, t.val / 4] :=
  (by decide +kernel : ∀ t : Fin grid1.N, win1_3.index t = ![t.val % 4, 0, t.val / 4])
theorem ix2_0 : ∀ t : Fin cfg2.N, win2_0.index t = ![t.val / 11, 0] :=
  (by decide +kernel : ∀ t : Fin grid2.N, win2_0.index t = ![t.val / 11, 0])
theorem ix2_1 : ∀ t : Fin cfg2.N, win2_1.index t = ![t.val % 11, 0] :=
  (by decide +kernel : ∀ t : Fin grid2.N, win2_1.index t = ![t.val % 11, 0])
theorem ix2_2 : ∀ t : Fin cfg2.N, win2_2.index t = ![t.val / 11, t.val % 11] :=
  (by decide +kernel : ∀ t : Fin grid2.N, win2_2.index t = ![t.val / 11, t.val % 11])
theorem ix3_0 : ∀ t : Fin cfg3.N, win3_0.index t = ![t.val % 4, 0, t.val / 4] :=
  (by decide +kernel : ∀ t : Fin grid3.N, win3_0.index t = ![t.val % 4, 0, t.val / 4])
theorem ix3_1 : ∀ t : Fin cfg3.N, win3_1.index t = ![0, t.val / 4] :=
  (by decide +kernel : ∀ t : Fin grid3.N, win3_1.index t = ![0, t.val / 4])
theorem ix3_2 : ∀ t : Fin cfg3.N, win3_2.index t = ![0, t.val / 4] :=
  (by decide +kernel : ∀ t : Fin grid3.N, win3_2.index t = ![0, t.val / 4])
theorem ix3_3 : ∀ t : Fin cfg3.N, win3_3.index t = ![t.val % 4, 0, t.val / 4] :=
  (by decide +kernel : ∀ t : Fin grid3.N, win3_3.index t = ![t.val % 4, 0, t.val / 4])
theorem ix3_4 : ∀ t : Fin cfg3.N, win3_4.index t = ![t.val % 4, 0, t.val / 4] :=
  (by decide +kernel : ∀ t : Fin grid3.N, win3_4.index t = ![t.val % 4, 0, t.val / 4])
theorem ix3_5 : ∀ t : Fin cfg3.N, win3_5.index t = ![0, t.val / 4] :=
  (by decide +kernel : ∀ t : Fin grid3.N, win3_5.index t = ![0, t.val / 4])
theorem ix3_6 : ∀ t : Fin cfg3.N, win3_6.index t = ![0, t.val / 4] :=
  (by decide +kernel : ∀ t : Fin grid3.N, win3_6.index t = ![0, t.val / 4])

/-- An index of a block whose first axis has one member. -/
theorem eq_one3 {a b : ℕ} (y : (⟨3, ![1, a, b]⟩ : Shape).Idx) : y = ix3 0 (y 1) (y 2) := by
  funext k
  match k with
  | ⟨0, _⟩ => exact Fin.ext (Nat.lt_one_iff.1 (y 0).isLt)
  | ⟨1, _⟩ => rfl
  | ⟨2, _⟩ => rfl

theorem eq_one2 {a : ℕ} (y : (⟨2, ![1, a]⟩ : Shape).Idx) : y = ix2 0 (y 1) := by
  funext k
  match k with
  | ⟨0, _⟩ => exact Fin.ext (Nat.lt_one_iff.1 (y 0).isLt)
  | ⟨1, _⟩ => rfl

/-! ## The two products -/

theorem up_pay (x : Vec Ideal S1024x1024 .bf16) (w : Vec Ideal S1024x512 .bf16) (y : S1024x512.Idx) : k0_pay1 x w y = dotNN x w y := by
  rw [eq_ix2 y]
  unfold k0_pay1 dotNN
  pointwise

theorem down_pay (x : Vec Ideal S1024x1024 .bf16) (w : Vec Ideal S256x1024 .bf16) (y : S1024x256.Idx) : k2_pay1 x w y = dotNT x w y := by
  rw [eq_ix2 y]
  unfold k2_pay1 dotNT
  pointwise

section
variable (V : (c : Dev nD) → (b : Ref sig .tc) → Buf (Elt Ideal) ((c : Thread nD τ).loc b)) {c : Dev nD}

/-- The up-projection's array. -/
theorem up_array {f : S8192x1024.Idx → EReal} {g : S1024x5632.Idx → EReal}
    (hf : ∀ y : S8192x1024.Idx, V c main_v8 y = f y) (hg : ∀ y : S1024x5632.Idx, V c main_v4 y = g y) :
    (dat0 V c).arrAt 2 cfg0.N = fun y : S8192x5632.Idx => dotNN f g y := by
  refine (dat0 V c).arrAt_eq_of_covers 2 _ (by decide +kernel) fun t _ y => ?_
  rw [dotNN_nat]
  blk_simp
  rw [after0_2]
  frame_out
  refine (up_pay _ _ y).trans (dotNN_blk _ _ _ (fun k => ?_) fun k => ?_)
  · blk_simp [iblk0]
    rw [hf]
    refine nat2_of _ _ ?_ ?_ <;> blk_simp [ix0_0, ix0_2] <;> simp
  · blk_simp [iblk0]
    rw [hg]
    refine nat2_of _ _ ?_ ?_ <;> blk_simp [ix0_1, ix0_2] <;> simp

/-- The gradient of the layer's value. -/
theorem down_array {f : S8192x1024.Idx → EReal} {g : S2816x1024.Idx → EReal}
    (hf : ∀ y : S8192x1024.Idx, V c main_v7 y = f y) (hg : ∀ y : S2816x1024.Idx, V c main_v5 y = g y) :
    (dat2 V c).arrAt 2 cfg2.N = fun y : S8192x2816.Idx => dotNT f g y := by
  refine (dat2 V c).arrAt_eq_of_covers 2 _ (by decide +kernel) fun t _ y => ?_
  rw [dotNT_nat]
  blk_simp
  rw [after2_2]
  frame_out
  refine (down_pay _ _ y).trans (dotNT_blk _ _ _ (fun k => ?_) fun k => ?_)
  · blk_simp [iblk2]
    rw [hf]
    refine nat2_of _ _ ?_ ?_ <;> blk_simp [ix2_0, ix2_2] <;> simp
  · blk_simp [iblk2]
    rw [hg]
    refine nat2_of _ _ ?_ ?_ <;> blk_simp [ix2_1, ix2_2] <;> simp

end

/-! ## The gated layer -/

/-- Column `k` of the gated half, of the plain half, of a gradient, and the taps of it. -/
def gate (U : ℕ → ℕ → ℕ → EReal) (b k : ℕ) : Col := fun r => U b r (512 * (k / 256) + k % 256)
def plain (U : ℕ → ℕ → ℕ → EReal) (b k : ℕ) : Col := fun r => U b r (512 * (k / 256) + 256 + k % 256)
def colOf (D : ℕ → ℕ → ℕ → EReal) (b k : ℕ) : Col := fun r => D b r k
def tapsOf (T : ℕ → ℕ → EReal) (k : ℕ) : Fin 3 → EReal := fun t => T t k

/-- The layer's value, and the gradient of the convolution's output. -/
def actOf (U : ℕ → ℕ → ℕ → EReal) (T : ℕ → ℕ → EReal) (B : ℕ → EReal) (b k : ℕ) : Col :=
  act (gate U b k) (plain U b k) (tapsOf T k) (B k)
def dconvOf (U D : ℕ → ℕ → ℕ → EReal) (T : ℕ → ℕ → EReal) (B : ℕ → EReal) (b k : ℕ) : Col :=
  dconv (gate U b k) (plain U b k) (colOf D b k) (tapsOf T k) (B k)

/-- The gradients of the two halves. -/
def dgateOf (U D : ℕ → ℕ → ℕ → EReal) (T : ℕ → ℕ → EReal) (B : ℕ → EReal) (b k : ℕ) : Col :=
  back (dconvOf U D T B b k) (tapsOf T k)
def dplainOf (U D : ℕ → ℕ → ℕ → EReal) (T : ℕ → ℕ → EReal) (B : ℕ → EReal) (b k : ℕ) : Col :=
  act (gate U b k) (colOf D b k) (tapsOf T k) (B k)

/-- The gradient of the up-projection's output at the woven column `k`. -/
def dupOf (U D : ℕ → ℕ → ℕ → EReal) (T : ℕ → ℕ → EReal) (B : ℕ → EReal) (b k : ℕ) : Col :=
  if k % 512 < 256 then dgateOf U D T B b (256 * (k / 512) + k % 256) else dplainOf U D T B b (256 * (k / 512) + k % 256)

section
variable (V : (c : Dev nD) → (b : Ref sig .tc) → Buf (Elt Ideal) ((c : Thread nD τ).loc b))
variable {c : Dev nD} {U D : ℕ → ℕ → ℕ → EReal} {T : ℕ → ℕ → EReal} {B : ℕ → EReal}
  (hU : ∀ y : S4x2048x5632.Idx, V c main_v10 y = U (y 0) (y 1) (y 2))
  (hT : ∀ y : S3x2816.Idx, V c main_arg2 y = T (y 0) (y 1))
  (hB : ∀ y : S1x2816.Idx, V c main_arg3 y = B (y 1))

theorem div_part {q l : ℕ} (h : l < 256) : (256 * q + l) / 256 = q := by omega
theorem mod_part {q l : ℕ} (h : l < 256) : (256 * q + l) % 256 = l := by omega

include hU in
theorem gate1_blk (t : Fin cfg1.N) (j : Fin 256) : gcol (iblk1 V c 0 t) j = gate U (t.val % 4) (256 * (t.val / 4) + j) := by
  funext r
  rw [gcol, gate, div_part j.isLt, mod_part j.isLt]
  blk_simp [iblk1]
  rw [hU]
  blk_simp [ix1_0]
  simp [mul_comm]

include hU in
theorem plain1_blk (t : Fin cfg1.N) (j : Fin 256) : vcol (iblk1 V c 0 t) j = plain U (t.val % 4) (256 * (t.val / 4) + j) := by
  funext r
  rw [vcol, plain, div_part j.isLt, mod_part j.isLt]
  blk_simp [iblk1]
  rw [hU]
  blk_simp [ix1_0]
  simp [mul_comm, add_assoc]

include hT in
theorem taps1_blk (t : Fin cfg1.N) (j : Fin 256) : taps (iblk1 V c 1 t) j = tapsOf T (256 * (t.val / 4) + j) := by
  funext i
  rw [taps, tapsOf]
  blk_simp [iblk1]
  rw [hT]
  blk_simp [ix1_1]
  simp [mul_comm]

include hB in
theorem bias1_blk (t : Fin cfg1.N) (j : Fin 256) : iblk1 V c 2 t (ix2 0 j) = B (256 * (t.val / 4) + j) := by
  blk_simp [iblk1]
  rw [hB]
  blk_simp [ix1_2]
  simp [mul_comm]

theorem tap_congr {F G : ℕ → Col} {k k' : ℕ} {i i' : Fin 3} (hk : k = k') (hi : i.val = i'.val) :
    dtap (F k) (G k) i = dtap (F k') (G k') i' := by
  rw [hk, Fin.ext hi]

theorem col_congr {F : ℕ → ℕ → Col} {a a' k k' : ℕ} {r r' : Fin 2048} (ha : a = a') (hk : k = k') (hr : r.val = r'.val) :
    F a k r = F a' k' r' := by
  rw [ha, hk, Fin.ext hr]

include hU hT hB in
theorem act_blk (t : Fin cfg1.N) (r : Fin 2048) (j : Fin 256) :
    k1_pay1 (k1_pay2 (iblk1 V c 0 t)) (iblk1 V c 1 t) (iblk1 V c 2 t) (k1_pay3 (iblk1 V c 0 t)) (k1_pay4 (iblk1 V c 0 t) (iblk1 V c 1 t)) 2047#32 (ix3 0 r j)
      = actOf U T B (t.val % 4) (256 * (t.val / 4) + j) r := by
  rw [act_at, gate1_blk V hU, plain1_blk V hU, taps1_blk V hT, bias1_blk V hB, actOf]

include hU hT hB in
/-- The layer's value. -/
theorem act_array : (dat1 V c).arrAt 3 cfg1.N = fun y : S4x2048x2816.Idx => actOf U T B (y 0) (y 2) (y 1) := by
  refine (dat1 V c).arrAt_eq_of_covers 3 _ (by decide +kernel) fun t _ y => ?_
  blk_simp
  rw [after1_3]
  frame_out
  rw [eq_one3 y]
  refine (act_blk V hU hT hB t (y 1) (y 2)).trans (col_congr ?_ ?_ ?_) <;> blk_simp [ix1_3] <;> simp [mul_comm]

variable (hD : ∀ y : S4x2048x2816.Idx, V c main_v13 y = D (y 0) (y 1) (y 2))

include hU in
theorem gate3_blk (t : Fin cfg3.N) (j : Fin 256) : gcol (iblk3 V c 0 t) j = gate U (t.val % 4) (256 * (t.val / 4) + j) := by
  funext r
  rw [gcol, gate, div_part j.isLt, mod_part j.isLt]
  blk_simp [iblk3]
  rw [hU]
  blk_simp [ix3_0]
  simp [mul_comm]

include hU in
theorem plain3_blk (t : Fin cfg3.N) (j : Fin 256) : vcol (iblk3 V c 0 t) j = plain U (t.val % 4) (256 * (t.val / 4) + j) := by
  funext r
  rw [vcol, plain, div_part j.isLt, mod_part j.isLt]
  blk_simp [iblk3]
  rw [hU]
  blk_simp [ix3_0]
  simp [mul_comm, add_assoc]

include hT in
theorem taps3_blk (t : Fin cfg3.N) (j : Fin 256) : taps (iblk3 V c 1 t) j = tapsOf T (256 * (t.val / 4) + j) := by
  funext i
  rw [taps, tapsOf]
  blk_simp [iblk3]
  rw [hT]
  blk_simp [ix3_1]
  simp [mul_comm]

include hB in
theorem bias3_blk (t : Fin cfg3.N) (j : Fin 256) : iblk3 V c 2 t (ix2 0 j) = B (256 * (t.val / 4) + j) := by
  blk_simp [iblk3]
  rw [hB]
  blk_simp [ix3_2]
  simp [mul_comm]

include hD in
theorem dcol3_blk (t : Fin cfg3.N) (j : Fin 256) : dcol (iblk3 V c 3 t) j = colOf D (t.val % 4) (256 * (t.val / 4) + j) := by
  funext r
  rw [dcol, colOf]
  blk_simp [iblk3]
  rw [hD]
  blk_simp [ix3_3]
  simp [mul_comm]

include hU hT hB hD

theorem dcv_blk (t : Fin cfg3.N) (j : Fin 256) : dcv (iblk3 V c 0 t) (iblk3 V c 1 t) (iblk3 V c 2 t) (iblk3 V c 3 t) j
    = dconvOf U D T B (t.val % 4) (256 * (t.val / 4) + j) := by
  rw [dcv, gate3_blk V hU, plain3_blk V hU, taps3_blk V hT, bias3_blk V hB, dcol3_blk V hD, dconvOf]

theorem dup_blk (t : Fin cfg3.N) (r : Fin 2048) (l : Fin 512) :
    dupBlock (iblk3 V c 0 t) (iblk3 V c 1 t) (iblk3 V c 2 t) (iblk3 V c 3 t) (ix3 0 r l)
      = dupOf U D T B (t.val % 4) (512 * (t.val / 4) + l) r := by
  have hl := l.isLt
  rw [dupOf, show (512 * (t.val / 4) + l.val) % 512 = l.val by omega, show (512 * (t.val / 4) + l.val) / 512 = t.val / 4 by omega,
    show (512 * (t.val / 4) + l.val) % 256 = l.val % 256 by omega]
  by_cases h : l.val < 256
  · rw [if_pos h, Nat.mod_eq_of_lt h]
    refine (dup_gate _ _ _ _ r ⟨l.val, h⟩).trans ?_
    rw [dcv_blk V hU hT hB hD, taps3_blk V hT, dgateOf]
  · rw [if_neg h, show l.val % 256 = l.val - 256 by omega]
    rw [show l = ⟨256 + (⟨l.val - 256, by omega⟩ : Fin 256).val, by omega⟩ from Fin.ext (by simp; omega)]
    refine (dup_plain _ _ _ _ r ⟨l.val - 256, by omega⟩).trans ?_
    rw [gate3_blk V hU, taps3_blk V hT, bias3_blk V hB, dcol3_blk V hD, dplainOf]
    simp

omit hU hT hB hD in
/-- What a grid point leaves in the gradient of the up-projection's output. -/
theorem dup_point (t : Fin cfg3.N) : (outsAt3 V c t.val t.isLt).1 = dupBlock (iblk3 V c 0 t) (iblk3 V c 1 t) (iblk3 V c 2 t) (iblk3 V c 3 t) := by
  by_cases h : t.val % 4 = 0
  · rw [outsAt3_A V c t h]
    frame_out
    rfl
  · rw [outsAt3_B V c t h]
    frame_out
    rfl

/-- The gradient of the up-projection's output, its columns woven. -/
theorem dup_array : (dat3 V c).arrAt 4 cfg3.N = fun y : S4x2048x5632.Idx => dupOf U D T B (y 0) (y 2) (y 1) := by
  refine (dat3 V c).arrAt_eq_of_covers 4 _ (by decide +kernel) fun t _ y => ?_
  blk_simp
  rw [after3_4, dup_point]
  rw [eq_one3 y]
  refine (dup_blk V hU hT hB hD t (y 1) (y 2)).trans (col_congr ?_ ?_ ?_) <;> blk_simp [ix3_4] <;> simp [mul_comm]

theorem dw_blk (t : Fin cfg3.N) (v : Vec Ideal S3x256 .f32) (y : S3x256.Idx) :
    dwBlock (iblk3 V c 0 t) (iblk3 V c 1 t) (iblk3 V c 2 t) (iblk3 V c 3 t) v y
      = v y + dtap (gate U (t.val % 4) (256 * (t.val / 4) + (y 1).val)) (dconvOf U D T B (t.val % 4) (256 * (t.val / 4) + (y 1).val)) (y 0) := by
  obtain ⟨i, j, rfl⟩ : ∃ (i : Fin 3) (j : Fin 256), y = ix2 i j := ⟨y 0, y 1, eq_ix2 y⟩
  refine (dw_at _ _ _ _ _ i j).trans ?_
  rw [gate3_blk V hU, dcv_blk V hU hT hB hD]
  rfl

theorem db_blk (t : Fin cfg3.N) (v : Vec Ideal S1x256 .f32) (y : S1x256.Idx) :
    dbBlock (iblk3 V c 0 t) (iblk3 V c 1 t) (iblk3 V c 2 t) (iblk3 V c 3 t) v y
      = v y + dbias (dconvOf U D T B (t.val % 4) (256 * (t.val / 4) + (y 1).val)) := by
  obtain ⟨j, rfl⟩ : ∃ (j : Fin 256), y = ix2 0 j := ⟨y 1, eq_one2 y⟩
  refine (db_at _ _ _ _ _ j).trans ?_
  rw [dcv_blk V hU hT hB hD]
  rfl

omit hU hT hB hD in
theorem pay26_at (y : S3x256.Idx) : (k3_pay26 (F := Ideal)) y = 0 := by
  unfold k3_pay26
  pointwise

omit hU hT hB hD in
theorem pay27_at (y : S1x256.Idx) : (k3_pay27 (F := Ideal)) y = 0 := by
  unfold k3_pay27
  pointwise

omit hU hT hB hD in
/-- What a grid point leaves in the gradients of the taps and the bias: the first of a column block over zeros, a later
    one over what the point before left. -/
theorem sums_first (t : Fin cfg3.N) (h : t.val % 4 = 0) : (outsAt3 V c t.val t.isLt).2
    = (dwBlock (iblk3 V c 0 t) (iblk3 V c 1 t) (iblk3 V c 2 t) (iblk3 V c 3 t) (k3_pay26 (F := Ideal)),
      dbBlock (iblk3 V c 0 t) (iblk3 V c 1 t) (iblk3 V c 2 t) (iblk3 V c 3 t) (k3_pay27 (F := Ideal))) := by
  rw [outsAt3_A V c t h]
  frame_out
  rfl

omit hU hT hB hD in
theorem sums_later (t : Fin cfg3.N) (h : ¬t.val % 4 = 0) : (outsAt3 V c t.val t.isLt).2
    = (dwBlock (iblk3 V c 0 t) (iblk3 V c 1 t) (iblk3 V c 2 t) (iblk3 V c 3 t) (outsAt3 V c (t.val - 1) (Nat.lt_of_le_of_lt (Nat.sub_le _ _) t.isLt)).2.1,
      dbBlock (iblk3 V c 0 t) (iblk3 V c 1 t) (iblk3 V c 2 t) (iblk3 V c 3 t) (outsAt3 V c (t.val - 1) (Nat.lt_of_le_of_lt (Nat.sub_le _ _) t.isLt)).2.2) := by
  rw [outsAt3_B V c t h]
  frame_out
  rfl

/-- The gradients of the taps and of the bias summed over the batches that a column block has met. -/
theorem dw_sum (t : Fin cfg3.N) (y : S3x256.Idx) : (outsAt3 V c t.val t.isLt).2.1 y
    = ∑ b ∈ Finset.range (t.val % 4 + 1),
      dtap (gate U b (256 * (t.val / 4) + (y 1).val)) (dconvOf U D T B b (256 * (t.val / 4) + (y 1).val)) (y 0) := by
  refine (Pipeline.eq_sum_of_reset_step_apply_divmod (fun n h => (outsAt3 V c n h).2.1) 4 (fun _ => 0)
    (fun q b (y : S3x256.Idx) => dtap (gate U b (256 * q + (y 1).val)) (dconvOf U D T B b (256 * q + (y 1).val)) (y 0))
    (fun t h y => ?_) (fun t h y => ?_) t y).trans (zero_add _)
  · rw [sums_first V t h]
    refine (dw_blk V hU hT hB hD t _ y).trans ?_
    rw [pay26_at]
  · rw [sums_later V t h]
    exact dw_blk V hU hT hB hD t _ y

theorem db_sum (t : Fin cfg3.N) (y : S1x256.Idx) : (outsAt3 V c t.val t.isLt).2.2 y
    = ∑ b ∈ Finset.range (t.val % 4 + 1), dbias (dconvOf U D T B b (256 * (t.val / 4) + (y 1).val)) := by
  refine (Pipeline.eq_sum_of_reset_step_apply_divmod (fun n h => (outsAt3 V c n h).2.2) 4 (fun _ => 0)
    (fun q b (y : S1x256.Idx) => dbias (dconvOf U D T B b (256 * q + (y 1).val)))
    (fun t h y => ?_) (fun t h y => ?_) t y).trans (zero_add _)
  · rw [sums_first V t h]
    refine (db_blk V hU hT hB hD t _ y).trans ?_
    rw [pay27_at]
  · rw [sums_later V t h]
    exact db_blk V hU hT hB hD t _ y

/-- The gradient of the taps. -/
theorem dw_array : (dat3 V c).arrAt 5 cfg3.N = fun y : S3x2816.Idx =>
    ∑ b ∈ Finset.range 4, dtap (gate U b (y 1)) (dconvOf U D T B b (y 1)) (y 0) := by
  refine (dat3 V c).arrAt_eq_of_covers 5 _ (by decide +kernel) fun t hf y => ?_
  have h3 : t.val % 4 = 3 := (flush3_5 t).mp hf
  blk_simp
  rw [after3_5]
  refine (dw_sum V hU hT hB hD t y).trans ?_
  rw [h3]
  refine Finset.sum_congr rfl fun b _ => ?_
  refine tap_congr ?_ ?_ <;> blk_simp [ix3_5] <;> simp [mul_comm]

/-- The gradient of the bias. -/
theorem db_array : (dat3 V c).arrAt 6 cfg3.N = fun y : S1x2816.Idx =>
    ∑ b ∈ Finset.range 4, dbias (dconvOf U D T B b (y 1)) := by
  refine (dat3 V c).arrAt_eq_of_covers 6 _ (by decide +kernel) fun t hf y => ?_
  have h3 : t.val % 4 = 3 := (flush3_6 t).mp hf
  blk_simp
  rw [after3_6]
  refine (db_sum V hU hT hB hD t y).trans ?_
  rw [h3]
  refine Finset.sum_congr rfl fun b _ => congrArg (fun k => dbias (dconvOf U D T B b k)) ?_
  blk_simp [ix3_6]
  simp [mul_comm]

end

end Cert.Kernel2Ideal.Glu
end
-- ==== Proof.GluRun.lean ====
/-
  The gated layer's program from its arguments to its results: what the host operations hand each call, and what each
  result holds when the program has run.
-/
module

public import proofs.«01_k».proof.Proof.GluArrays

@[expose] public section

set_option maxRecDepth 16384

noncomputable section

namespace Cert.Kernel2Ideal.Glu
open Cert.Kernel2Ideal Cert.Kernel2Ideal.Gen Cert.Glu Cert.Mm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- An array of three axes over natural numbers, zero outside. -/
def nat3 {n0 n1 n2 : ℕ} (f : (⟨3, ![n0, n1, n2]⟩ : Shape).Idx → EReal) (a b c : ℕ) : EReal :=
  if h : a < n0 ∧ b < n1 ∧ c < n2 then f (ix3 (⟨a, h.1⟩ : Fin n0) (⟨b, h.2.1⟩ : Fin n1) (⟨c, h.2.2⟩ : Fin n2)) else 0

theorem nat3_ix {n0 n1 n2 : ℕ} (f : (⟨3, ![n0, n1, n2]⟩ : Shape).Idx → EReal) (a : Fin n0) (b : Fin n1) (c : Fin n2) :
    f (ix3 a b c) = nat3 f a b c := by
  rw [nat3, dif_pos ⟨a.isLt, b.isLt, c.isLt⟩]

/-- The up-projection of batch `b`, row `r`, at column `k`; and the gradient of the layer's value there. -/
def upOf (h : S4x2048x1024.Idx → EReal) (w : S1024x5632.Idx → EReal) (b r k : ℕ) : EReal :=
  ∑ i ∈ Finset.range 1024, nat3 h b r i * nat2 w i k
def downOf (d : S4x2048x1024.Idx → EReal) (w : S2816x1024.Idx → EReal) (b r k : ℕ) : EReal :=
  ∑ i ∈ Finset.range 1024, nat3 d b r i * nat2 w k i

section
variable (m : (ℓ : Loc nD τ sig) → Buf (Elt Ideal) ℓ) (ρ : Dev nD → PrngReg) (c : Dev nD)

/-- The arguments as functions. -/
def a0 : S4x2048x1024.Idx → EReal := m ((c : Thread nD τ).loc main_arg0)
def a1 : S1024x5632.Idx → EReal := m ((c : Thread nD τ).loc main_arg1)
def a2 : S3x2816.Idx → EReal := m ((c : Thread nD τ).loc main_arg2)
def a3 : S1x2816.Idx → EReal := m ((c : Thread nD τ).loc main_arg3)
def a4 : S2816x1024.Idx → EReal := m ((c : Thread nD τ).loc main_arg4)
def a5 : S4x2048x1024.Idx → EReal := m ((c : Thread nD τ).loc main_arg5)

/-- The up-projection's columns in the woven order, the gradient of the layer's value, the taps and the bias. -/
def upA (b r k : ℕ) : EReal := upOf (a0 m c) (a1 m c) b r (weave k)
def downA (b r k : ℕ) : EReal := downOf (a5 m c) (a4 m c) b r k
def tapA (t k : ℕ) : EReal := nat2 (a2 m c) t k
def biasA (k : ℕ) : EReal := nat2 (a3 m c) 0 k

theorem v8_at (R : Fin 8192) (i : Fin 1024) : W1 m ρ c main_v8 (ix2 R i)
    = a0 m c (ix3 ⟨R.val / 2048, by omega⟩ ⟨R.val % 2048, by omega⟩ i) := by
  show StableHlo.after hostOps0 (W0 m ρ c) main_v8 (ix2 R i) = _
  after_reads_at
  rfl

theorem v7_at (R : Fin 8192) (i : Fin 1024) : W1 m ρ c main_v7 (ix2 R i)
    = a5 m c (ix3 ⟨R.val / 2048, by omega⟩ ⟨R.val % 2048, by omega⟩ i) := by
  show StableHlo.after hostOps0 (W0 m ρ c) main_v7 (ix2 R i) = _
  after_reads_at
  rfl

theorem v4_at (i : Fin 1024) (k : Fin 5632) : W1 m ρ c main_v4 (ix2 i k) = a1 m c (ix2 i ⟨weave k, weave_lt k.isLt⟩) := by
  show StableHlo.after hostOps0 (W0 m ρ c) main_v4 (ix2 i k) = _
  after_reads_at
  rfl

theorem v5_at (k : Fin 2816) (i : Fin 1024) : W1 m ρ c main_v5 (ix2 k i) = a4 m c (ix2 k i) := by
  show StableHlo.after hostOps0 (W0 m ρ c) main_v5 (ix2 k i) = _
  after_reads_at
  rfl

/-- The up-projection as the first call leaves it. -/
theorem v9_at (R : Fin 8192) (k : Fin 5632) : W2 m ρ c main_v9 (ix2 R k) = upA m c (R.val / 2048) (R.val % 2048) k := by
  refine (congrFun ((W2_arr m ρ c 2).trans (up_array (V1 m ρ)
    (f := fun y => nat3 (a0 m c) ((y 0).val / 2048) ((y 0).val % 2048) (y 1).val) (g := fun y => nat2 (a1 m c) (y 0).val (weave (y 1).val))
    (fun y => ?_) fun y => ?_)) (ix2 R k)).trans ?_
  · rw [eq_ix2 y]
    exact (v8_at m ρ c _ _).trans (nat3_ix _ _ _ _)
  · rw [eq_ix2 y]
    exact (v4_at m ρ c _ _).trans (nat2_ix _ _ _)
  · rw [upA, upOf]
    exact Fin.sum_univ_eq_sum_range (fun i => nat3 (a0 m c) (R.val / 2048) (R.val % 2048) i * nat2 (a1 m c) i (weave k)) 1024

theorem v10_at (b : Fin 4) (r : Fin 2048) (k : Fin 5632) : W3 m ρ c main_v10 (ix3 b r k)
    = W2 m ρ c main_v9 (ix2 ⟨b.val * 2048 + r.val, by omega⟩ k) := by
  show StableHlo.after hostOps1 (W2 m ρ c) main_v10 (ix3 b r k) = _
  after_reads_at

theorem hU3 (y : S4x2048x5632.Idx) : V3 m ρ c main_v10 y = upA m c (y 0) (y 1) (y 2) := by
  rw [eq_ix3 y]
  refine (v10_at m ρ c _ _ _).trans ((v9_at m ρ c _ _).trans ?_)
  have h1 : (y 1).val < 2048 := (y 1).isLt
  show upA m c (((y 0).val * 2048 + (y 1).val) / 2048) (((y 0).val * 2048 + (y 1).val) % 2048) _ = _
  rw [show ((y 0).val * 2048 + (y 1).val) / 2048 = (y 0).val by omega, show ((y 0).val * 2048 + (y 1).val) % 2048 = (y 1).val by omega]
  rfl

theorem hT3 (y : S3x2816.Idx) : V3 m ρ c main_arg2 y = tapA m c (y 0) (y 1) := by
  refine (congrFun (W3_args m ρ c main_arg2 (by decide)) y).trans ?_
  exact nat2_of (a2 m c) y rfl rfl

theorem hB3 (y : S1x2816.Idx) : V3 m ρ c main_arg3 y = biasA m c (y 1) := by
  refine (congrFun (W3_args m ρ c main_arg3 (by decide)) y).trans ?_
  exact nat2_of (a3 m c) y (Nat.lt_one_iff.1 (y 0).isLt) rfl

/-- The layer's value as the second call leaves it. -/
theorem v11 : W4 m ρ c main_v11 = fun y : S4x2048x2816.Idx => actOf (upA m c) (tapA m c) (biasA m c) (y 0) (y 2) (y 1) :=
  (W4_arr m ρ c 3).trans (act_array (V3 m ρ) (hU3 m ρ c) (hT3 m ρ c) (hB3 m ρ c))

/-- The gradient of the layer's value as the third call leaves it. -/
theorem v12_at (R : Fin 8192) (k : Fin 2816) : W5 m ρ c main_v12 (ix2 R k) = downA m c (R.val / 2048) (R.val % 2048) k := by
  refine (congrFun ((W5_arr m ρ c 2).trans (down_array (V4 m ρ)
    (f := fun y => nat3 (a5 m c) ((y 0).val / 2048) ((y 0).val % 2048) (y 1).val) (g := fun y => nat2 (a4 m c) (y 0).val (y 1).val)
    (fun y => ?_) fun y => ?_)) (ix2 R k)).trans ?_
  · rw [eq_ix2 y]
    refine (congrFun ((W4_of m ρ c main_v7 (by decide)).trans ((W3_of m ρ c main_v7 (by decide)).trans (W2_of m ρ c main_v7 (by decide)))) _).trans ?_
    exact (v7_at m ρ c _ _).trans (nat3_ix _ _ _ _)
  · rw [eq_ix2 y]
    refine (congrFun ((W4_of m ρ c main_v5 (by decide)).trans ((W3_of m ρ c main_v5 (by decide)).trans (W2_of m ρ c main_v5 (by decide)))) _).trans ?_
    exact (v5_at m ρ c _ _).trans (nat2_ix _ _ _)
  · rw [downA, downOf]
    exact Fin.sum_univ_eq_sum_range (fun i => nat3 (a5 m c) (R.val / 2048) (R.val % 2048) i * nat2 (a4 m c) k i) 1024

theorem v13_at (b : Fin 4) (r : Fin 2048) (k : Fin 2816) : W6 m ρ c main_v13 (ix3 b r k)
    = W5 m ρ c main_v12 (ix2 ⟨b.val * 2048 + r.val, by omega⟩ k) := by
  show StableHlo.after hostOps3 (W5 m ρ c) main_v13 (ix3 b r k) = _
  after_reads_at

theorem hD6 (y : S4x2048x2816.Idx) : V6 m ρ c main_v13 y = downA m c (y 0) (y 1) (y 2) := by
  rw [eq_ix3 y]
  refine (v13_at m ρ c _ _ _).trans ((v12_at m ρ c _ _).trans ?_)
  have h1 : (y 1).val < 2048 := (y 1).isLt
  show downA m c (((y 0).val * 2048 + (y 1).val) / 2048) (((y 0).val * 2048 + (y 1).val) % 2048) _ = _
  rw [show ((y 0).val * 2048 + (y 1).val) / 2048 = (y 0).val by omega, show ((y 0).val * 2048 + (y 1).val) % 2048 = (y 1).val by omega]
  rfl

theorem hU6 (y : S4x2048x5632.Idx) : V6 m ρ c main_v10 y = upA m c (y 0) (y 1) (y 2) :=
  (congrFun ((W6_of m ρ c main_v10 (by decide)).trans ((W5_of m ρ c main_v10 (by decide)).trans (W4_of m ρ c main_v10 (by decide)))) y).trans
    (hU3 m ρ c y)

theorem hT6 (y : S3x2816.Idx) : V6 m ρ c main_arg2 y = tapA m c (y 0) (y 1) :=
  (congrFun (W6_args m ρ c main_arg2 (by decide)) y).trans (nat2_of (a2 m c) y rfl rfl)

theorem hB6 (y : S1x2816.Idx) : V6 m ρ c main_arg3 y = biasA m c (y 1) :=
  (congrFun (W6_args m ρ c main_arg3 (by decide)) y).trans (nat2_of (a3 m c) y (Nat.lt_one_iff.1 (y 0).isLt) rfl)

/-! ## The results -/

/-- The layer's value. -/
theorem out0 (b : Fin 4) (r : Fin 2048) (k : Fin 2816) : W8 m ρ c main_v20 (ix3 b r k)
    = actOf (upA m c) (tapA m c) (biasA m c) b k r := by
  refine Eq.trans (b := W7 m ρ c main_v11 (ix3 b r k)) ?_ ?_
  · show StableHlo.after hostOps4 (W7 m ρ c) main_v20 (ix3 b r k) = _
    after_reads_at
  · exact congrFun ((W7_of m ρ c main_v11 (by decide)).trans ((W6_of m ρ c main_v11 (by decide)).trans
      ((W5_of m ρ c main_v11 (by decide)).trans (v11 m ρ c)))) (ix3 b r k)

/-- The gradient of the up-projection's output. -/
theorem out1 (R : Fin 8192) (k : Fin 5632) : W8 m ρ c main_v19 (ix2 R k)
    = dupOf (upA m c) (downA m c) (tapA m c) (biasA m c) (R.val / 2048) (unweave k) ⟨R.val % 2048, by omega⟩ := by
  refine Eq.trans (b := W7 m ρ c main_v14_0 (ix3 ⟨R.val / 2048, by omega⟩ ⟨R.val % 2048, by omega⟩ ⟨unweave k, unweave_lt k.isLt⟩)) ?_ ?_
  · show StableHlo.after hostOps4 (W7 m ρ c) main_v19 (ix2 R k) = _
    after_reads_at
    rfl
  · exact congrFun ((W7_arr m ρ c 4).trans (dup_array (V6 m ρ) (hU6 m ρ c) (hT6 m ρ c) (hB6 m ρ c) (hD6 m ρ c))) _

/-- The gradients of the taps and of the bias. -/
theorem out2 (t : Fin 3) (k : Fin 2816) : W8 m ρ c main_v14_1 (ix2 t k)
    = ∑ b ∈ Finset.range 4, dtap (gate (upA m c) b k) (dconvOf (upA m c) (downA m c) (tapA m c) (biasA m c) b k) t :=
  congrFun ((W8_of m ρ c main_v14_1 (by decide)).trans ((W7_arr m ρ c 5).trans
    (dw_array (V6 m ρ) (hU6 m ρ c) (hT6 m ρ c) (hB6 m ρ c) (hD6 m ρ c)))) (ix2 t k)

theorem out3 (k : Fin 2816) : W8 m ρ c main_v14_2 (ix2 0 k)
    = ∑ b ∈ Finset.range 4, dbias (dconvOf (upA m c) (downA m c) (tapA m c) (biasA m c) b k) :=
  congrFun ((W8_of m ρ c main_v14_2 (by decide)).trans ((W7_arr m ρ c 6).trans
    (db_array (V6 m ρ) (hU6 m ρ c) (hT6 m ρ c) (hB6 m ρ c) (hD6 m ρ c)))) (ix2 0 k)

end

variable (m : (ℓ : Loc nD τ sig) → Buf (Elt Ideal) ℓ) (ρ : Dev nD → PrngReg)

set_option backward.isDefEq.respectTransparency.types false in
/-- Every weakly fair execution of the program terminates without a fault; each result ends at what the calls leave
    there, and the arguments end unchanged. -/
theorem run_main : θ_run defs (onTc (τ := τ) (main (F := Ideal))) ⟨m, fun _ => 0, ρ⟩ (fun r => ∀ c : Dev nD,
      r.2.mem ((c.tc : Thread nD τ).loc main_v20) = W8 m ρ c main_v20
      ∧ r.2.mem ((c.tc : Thread nD τ).loc main_v19) = W8 m ρ c main_v19
      ∧ r.2.mem ((c.tc : Thread nD τ).loc main_v14_1) = W8 m ρ c main_v14_1
      ∧ r.2.mem ((c.tc : Thread nD τ).loc main_v14_2) = W8 m ρ c main_v14_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨h c _ (mem_uc main_v20 (by decide)), h c _ (mem_uc main_v19 (by decide)),
       h c _ (mem_uc main_v14_1 (by decide)), h c _ (mem_uc main_v14_2 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Kernel2Ideal.Glu
end
-- ==== Proof.GluAlgebraic.lean ====
/-
  The gated layer: the kernel's results are the reference's.
-/
module

public import proofs.«01_k».proof.Proof.GluCols
public import proofs.«01_k».proof.Proof.GluRun
public import proofs.«01_k».proof.Defs

@[expose] public section

set_option maxRecDepth 16384

noncomputable section

open Idealize.ShloMosaic Idealize.ShloMosaic.TcCoe Idealize.SL.Sem

namespace Cert.Glu
open Cert.Mm Cert.Kernel2Ideal.Glu Cert.Reference2Ideal.Glu

abbrev S4x2048x1024 : Shape := ⟨3, ![4, 2048, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩

theorem times_nat (x0 : S4x2048x1024.Idx → EReal) (x1 : S1024x5632.Idx → EReal) (b : Fin 4) (r : Fin 2048) (k : Fin 5632) :
    ∑ i : Fin 1024, times (x0 (ix3 b r i)) (x1 (ix2 i k)) = upOf x0 x1 b r k := by
  rw [upOf, ← Fin.sum_univ_eq_sum_range (fun i => nat3 x0 b r i * nat2 x1 i k)]
  exact Finset.sum_congr rfl fun i _ => congrArg₂ times (nat3_ix x0 b r i) (nat2_ix x1 i k)

theorem times_nat' (x5 : S4x2048x1024.Idx → EReal) (x4 : S2816x1024.Idx → EReal) (b : Fin 4) (r : Fin 2048) (k : Fin 2816) :
    ∑ i : Fin 1024, times (x5 (ix3 b r i)) (x4 (ix2 k i)) = downOf x5 x4 b r k := by
  rw [downOf, ← Fin.sum_univ_eq_sum_range (fun i => nat3 x5 b r i * nat2 x4 k i)]
  exact Finset.sum_congr rfl fun i _ => congrArg₂ times (nat3_ix x5 b r i) (nat2_ix x4 k i)

theorem weave_gate {k : ℕ} : weave (512 * (k / 256) + k % 256) = k := by
  rw [show 512 * (k / 256) + k % 256 = 512 * (k / 256) + 256 * 0 + k % 256 by omega, weave_split (by norm_num) (Nat.mod_lt _ (by norm_num))]
  omega

theorem weave_plain {k : ℕ} : weave (512 * (k / 256) + 256 + k % 256) = 2816 + k := by
  rw [show 512 * (k / 256) + 256 + k % 256 = 512 * (k / 256) + 256 * 1 + k % 256 by omega, weave_split (by norm_num) (Nat.mod_lt _ (by norm_num))]
  omega

section
variable (m : (ℓ : Loc Cert.Kernel2Ideal.nD Cert.Kernel2Ideal.τ Cert.Kernel2Ideal.sig) → Buf (Elt Ideal) ℓ) (c : Dev Cert.Kernel2Ideal.nD)
  (b : Fin 4) (k : Fin 2816)

/-- The kernel's columns are the reference's. -/
theorem gate_cols : gate (upA m c) b k = col (gateHalf (up (a0 m c) (a1 m c))) b k := by
  funext r
  rw [gate, upA, weave_gate, col, gateHalf_at, up_at]
  exact (times_nat (a0 m c) (a1 m c) b r ⟨k.val, by omega⟩).symm

theorem plain_cols : plain (upA m c) b k = col (plainHalf (up (a0 m c) (a1 m c))) b k := by
  funext r
  rw [plain, upA, weave_plain, col, plainHalf_at, up_at]
  exact (times_nat (a0 m c) (a1 m c) b r ⟨2816 + k.val, by omega⟩).symm

theorem down_cols : colOf (Cert.Kernel2Ideal.Glu.downA m c) b k = col (down (a5 m c) (a4 m c)) b k := by
  funext r
  rw [colOf, Cert.Kernel2Ideal.Glu.downA, col, down_at]
  exact (times_nat' _ _ _ _ _).symm

theorem taps_cols : tapsOf (tapA m c) k = tapsAt (a2 m c) k :=
  funext fun t => (nat2_ix (a2 m c) t k).symm

theorem bias_cols : biasA m c k = biasAt (a3 m c) k := (nat2_ix (a3 m c) 0 k).symm

/-- The reference's gated and plain halves, and its gradient of the convolution, from the kernel's arguments. -/
def gateK : Rows := gateHalf (up (a0 m c) (a1 m c))
def plainK : Rows := plainHalf (up (a0 m c) (a1 m c))
def downK : Rows := down (a5 m c) (a4 m c)
def gradK : Rows := dx (convRows (gateK m c) (a2 m c) (a3 m c)) (halfGrad (plainK m c) (downK m c))
def dconvK (b : Fin 4) (k : Fin 2816) : Col :=
  dconv (col (gateK m c) b k) (col (plainK m c) b k) (col (downK m c) b k) (tapsAt (a2 m c) k) (biasAt (a3 m c) k)

theorem actOf_eq : actOf (upA m c) (tapA m c) (biasA m c) b k
    = act (col (gateK m c) b k) (col (plainK m c) b k) (tapsAt (a2 m c) k) (biasAt (a3 m c) k) := by
  rw [actOf, gate_cols, plain_cols, taps_cols, bias_cols]
  rfl

theorem dconvOf_eq : dconvOf (upA m c) (Cert.Kernel2Ideal.Glu.downA m c) (tapA m c) (biasA m c) b k = dconvK m c b k := by
  rw [dconvOf, gate_cols, plain_cols, down_cols, taps_cols, bias_cols]
  rfl

theorem dgateOf_eq : dgateOf (upA m c) (Cert.Kernel2Ideal.Glu.downA m c) (tapA m c) (biasA m c) b k
    = back (dconvK m c b k) (tapsAt (a2 m c) k) := by
  rw [dgateOf, dconvOf_eq, taps_cols]

theorem dplainOf_eq : dplainOf (upA m c) (Cert.Kernel2Ideal.Glu.downA m c) (tapA m c) (biasA m c) b k
    = act (col (gateK m c) b k) (col (downK m c) b k) (tapsAt (a2 m c) k) (biasAt (a3 m c) k) := by
  rw [dplainOf, gate_cols, down_cols, taps_cols, bias_cols]
  rfl

end

/-- The gradient of the up-projection's output at a column of the plain order. -/
theorem dupOf_unweave (U D : ℕ → ℕ → ℕ → EReal) (T : ℕ → ℕ → EReal) (B : ℕ → EReal) (b k : ℕ) (hk : k < 5632) :
    dupOf U D T B b (unweave k) = if k < 2816 then dgateOf U D T B b k else dplainOf U D T B b (k - 2816) := by
  by_cases h : k < 2816
  · have e : unweave k = 512 * (k / 256) + 256 * 0 + k % 256 := by
      have := unweave_split (a := 0) (q := k / 256) (l := k % 256) (by omega) (Nat.mod_lt _ (by norm_num))
      rwa [show 2816 * 0 + 256 * (k / 256) + k % 256 = k by omega] at this
    rw [dupOf, if_pos h, e, if_pos (by omega)]
    congr 1
    omega
  · have e : unweave k = 512 * ((k - 2816) / 256) + 256 * 1 + (k - 2816) % 256 := by
      have := unweave_split (a := 1) (q := (k - 2816) / 256) (l := (k - 2816) % 256) (by omega) (Nat.mod_lt _ (by norm_num))
      rwa [show 2816 * 1 + 256 * ((k - 2816) / 256) + (k - 2816) % 256 = k by omega] at this
    rw [dupOf, if_neg h, e, if_neg (by omega)]
    congr 1
    omega

section
variable {m : (ℓ : Loc Cert.Kernel2Ideal.nD Cert.Kernel2Ideal.τ Cert.Kernel2Ideal.sig) → Buf (Elt Ideal) ℓ}
  (ρ : Dev Cert.Kernel2Ideal.nD → PrngReg)
  {m' : (ℓ : Loc Cert.Reference2Ideal.nD Cert.Reference2Ideal.τ Cert.Reference2Ideal.sig) → Buf (Elt Ideal) ℓ}
  {c : Dev Cert.Kernel2Ideal.nD}

/-- On a device whose arguments are finite and agree, the four results are equal. -/
theorem results_eq
    (hfin : Cert.Pre_finite2.fn (F := Ideal) (a0 m c) (a1 m c) (a2 m c) (a3 m c) (a4 m c) (a5 m c) = fun _ => 1#1)
    (e0 : m' ((c.tc : Thread Cert.Reference2Ideal.nD Cert.Reference2Ideal.τ).loc Cert.Reference2Ideal.main_arg0) = a0 m c)
    (e1 : m' ((c.tc : Thread Cert.Reference2Ideal.nD Cert.Reference2Ideal.τ).loc Cert.Reference2Ideal.main_arg1) = a1 m c)
    (e2 : m' ((c.tc : Thread Cert.Reference2Ideal.nD Cert.Reference2Ideal.τ).loc Cert.Reference2Ideal.main_arg2) = a2 m c)
    (e3 : m' ((c.tc : Thread Cert.Reference2Ideal.nD Cert.Reference2Ideal.τ).loc Cert.Reference2Ideal.main_arg3) = a3 m c)
    (e4 : m' ((c.tc : Thread Cert.Reference2Ideal.nD Cert.Reference2Ideal.τ).loc Cert.Reference2Ideal.main_arg4) = a4 m c)
    (e5 : m' ((c.tc : Thread Cert.Reference2Ideal.nD Cert.Reference2Ideal.τ).loc Cert.Reference2Ideal.main_arg5) = a5 m c) :
    Cert.Reference2Ideal.Value.res_main_v45 m' c = Cert.Kernel2Ideal.Gen.W8 m ρ c Cert.Kernel2Ideal.main_v20
    ∧ Cert.Reference2Ideal.Value.res_main_v99 m' c = Cert.Kernel2Ideal.Gen.W8 m ρ c Cert.Kernel2Ideal.main_v19
    ∧ Cert.Reference2Ideal.Value.res_main_v92 m' c = Cert.Kernel2Ideal.Gen.W8 m ρ c Cert.Kernel2Ideal.main_v14_1
    ∧ Cert.Reference2Ideal.Value.res_main_v63 m' c = Cert.Kernel2Ideal.Gen.W8 m ρ c Cert.Kernel2Ideal.main_v14_2 := by
  obtain ⟨f0, f1, f2, f3, f4, f5⟩ := Cert.Pre_finite2.Glu.real_of hfin
  have hg : ∀ i, Real1 (gateK m c i) := gate_real (up_real f0 f1)
  have hp : ∀ i, Real1 (plainK m c i) := plain_real (up_real f0 f1)
  have hd : ∀ i, Real1 (downK m c i) := down_real f5 f4
  have eg : gateA m' c = gateK m c := by rw [gateA, e0, e1, gateK]
  have ep : plainA m' c = plainK m c := by rw [plainA, e0, e1, plainK]
  have ed : Cert.Reference2Ideal.Glu.downA m' c = downK m c := by rw [Cert.Reference2Ideal.Glu.downA, e5, e4, downK]
  have ec : convA m' c = convRows (gateK m c) (a2 m c) (a3 m c) := by rw [convA, eg, e2, e3]
  have ex : dxA m' c = dx (convRows (gateK m c) (a2 m c) (a3 m c)) (halfGrad (plainK m c) (downK m c)) := by rw [dxA, ec, ep, ed]
  refine ⟨?_, ?_, ?_, ?_⟩
  · rw [res0_eq, ec, ep]
    funext y
    rw [eq_ix3 y]
    exact (act_at _ _ _ _ _ _ _).trans ((congrFun (actOf_eq m c _ _) _).symm.trans (out0 m ρ c _ _ _).symm)
  · rw [res1_eq, ex, ec, ed, e2]
    funext y
    rw [eq_ix2 y]
    refine (joined_at _ _ _ _).trans (Eq.trans ?_ (out1 m ρ c _ _).symm)
    rw [dupOf_unweave _ _ _ _ _ _ (y 1).isLt]
    by_cases h : (y 1).val < 2816
    · rw [dif_pos h, if_pos h]
      exact (dgate_col _ _ _ hg hp hd f2 f3).trans (congrFun (dgateOf_eq m c _ _) _).symm
    · rw [dif_neg h, if_neg h]
      exact (act_at _ _ _ _ _ _ _).trans (congrFun (dplainOf_eq m c _ _) _).symm
  · rw [res2_eq, ex, eg]
    funext y
    rw [eq_ix2 y]
    refine (dw_col _ hg hp hd f2 f3 _).trans (Eq.trans ?_ (out2 m ρ c _ _).symm)
    rw [← Fin.sum_univ_eq_sum_range (fun b => dtap (gate (upA m c) b (y 1)) (dconvOf (upA m c) (Cert.Kernel2Ideal.Glu.downA m c) (tapA m c) (biasA m c) b (y 1)) (y 0))]
    refine Finset.sum_congr rfl fun b _ => ?_
    exact (congrArg₂ (fun u x => dtap u x (y 0)) (gate_cols m c b (y 1)) (dconvOf_eq m c b (y 1))).symm
  · rw [res3_eq, ex]
    funext y
    rw [eq_one2 y]
    refine (db_col _ hg hp hd f2 f3).trans (Eq.trans ?_ (out3 m ρ c _).symm)
    rw [← Fin.sum_univ_eq_sum_range (fun b => dbias (dconvOf (upA m c) (Cert.Kernel2Ideal.Glu.downA m c) (tapA m c) (biasA m c) b (y 1)))]
    refine Finset.sum_congr rfl fun b _ => ?_
    exact (congrArg dbias (dconvOf_eq m c b (y 1))).symm

end

/-- `Cert.algebraic_Kernel2Ideal_Reference2Ideal_pre_finite2`: both programs run, and their results are equal. -/
theorem algebraic : Cert.algebraic_Kernel2Ideal_Reference2Ideal_pre_finite2 := by
  intro m ρ m' ρ' hfin hagree
  refine ⟨fun c => Cert.Kernel2Ideal.Gen.W8 m ρ c Cert.Kernel2Ideal.main_v20, fun c => Cert.Kernel2Ideal.Gen.W8 m ρ c Cert.Kernel2Ideal.main_v19,
    fun c => Cert.Kernel2Ideal.Gen.W8 m ρ c Cert.Kernel2Ideal.main_v14_1, fun c => Cert.Kernel2Ideal.Gen.W8 m ρ c Cert.Kernel2Ideal.main_v14_2,
    Cert.Kernel2Ideal.Glu.run_main m ρ, ?_⟩
  refine (θ_run Cert.Reference2Ideal.defs _ _).mono (fun r h c => ?_) (Cert.Reference2Ideal.Value.run (F := Ideal) m' ρ')
  obtain ⟨g0, g1, g2, g3, g4, g5⟩ := hagree c
  obtain ⟨e0, e1, e2, e3⟩ := results_eq ρ (hfin c) g0 g1 g2 g3 g4 g5
  obtain ⟨r0, r1, r2, r3, ra⟩ := h c
  exact ⟨r0.trans e0, r1.trans e1, r2.trans e2, r3.trans e3, ra⟩

end Cert.Glu
end
-- ==== Proof.FwdBlock.lean ====
/-
  What one grid point of the forward call computes of one head, where its blocks are finite.

  A block is finite when its entries are coerced reals: `kv t l` and `kr t l` of key row `t`, `q i l` of query row
  `i`. The payload names are those of the generated skeleton.
-/
module

public import proofs.«01_k».proof.Proof.Scalars
public import proofs.«01_k».proof.Proof.Gen.KernelIdeal.Skeleton
public import Idealize.ShloMosaic.Lib.Tactic
public import Idealize.ShloMosaic.Lib.MatmulPlain
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.KernelIdeal.Att
open Cert.KernelIdeal Cert.KernelIdeal.Gen Cert.Att

theorem named_scale2 : Named.named (F := Ideal) (φ := .f32) κ "exp2_scale" 0x3E16C740#32 = ((scale2 : ℝ) : EReal) :=
  IdealRules.named_const.ideal_named_scalar _ _ _ _ rfl

theorem named_log2e : Named.named (F := Ideal) (φ := .f32) κ "log2e" 0x3FB8AA3B#32 = (((Real.log 2)⁻¹ : ℝ) : EReal) :=
  IdealRules.named_const.ideal_named_scalar _ _ _ _ rfl

/-- The mask of the lower 64 lanes. -/
theorem low_at (l : Fin 128) : k0_pay2 (ix2 0 l) = if l.val < 64 then 1#1 else 0#1 := by
  unfold k0_pay2
  pointwise
  revert l
  decide +kernel

/-- A choice by the mask of the lower lanes. -/
theorem select_low {α : Type} (l : Fin 128) (a b : α) :
    Scalar.select (if l.val < 64 then 1#1 else 0#1) a b = if l.val < 64 then a else b := by
  by_cases h : l.val < 64 <;> simp [h, Scalar.select]

section
variable {v3 v5 : Vec Ideal S1x2304x128 .bf16} {v10 : Vec Ideal S1x256x128 .bf16} {kv kr q : ℕ → ℕ → ℝ}
  (h3 : ∀ (t : Fin 2304) (l : Fin 128), v3 (ix3 0 t l) = ((kv t l : ℝ) : EReal))
  (h5 : ∀ (t : Fin 2304) (l : Fin 128), v5 (ix3 0 t l) = ((kr t l : ℝ) : EReal))
  (h10 : ∀ (i : Fin 256) (l : Fin 128), v10 (ix3 0 i l) = ((q i l : ℝ) : EReal))

include h3 h5 h10

/-- The scores. -/
theorem sc_at (i : Fin 256) (t : Fin 2304) :
    k0_pay4 v3 v5 v10 (ix2 i t) = ((sc (q i) (keys kv kr) t : ℝ) : EReal) := by
  unfold k0_pay4 k0_pay3
  pointwise
  refine sum_eq_coe _ _ _ fun l _ => ?_
  rw [low_at, select_low, h3, h5, h10, EReal.coe_mul, keys]
  split <;> rfl

/-- The row maxima are reals. -/
theorem mx_at (i : Fin 256) : ∃ m : ℝ, k0_pay5 v3 v5 v10 (ix2 i 0) = (m : EReal) := by
  unfold k0_pay5
  pointwise
  simp only [sc_at h3 h5 h10, ofBits_neg_inf]
  exact fold_max_coe _ ⟨0, Finset.mem_univ _⟩ _

/-- The exponentials of the scores less a row's maximum. -/
theorem p_at {m : ℝ} (i : Fin 256) (hm : k0_pay5 v3 v5 v10 (ix2 i 0) = (m : EReal)) (t : Fin 2304) :
    k0_pay6 v3 v5 v10 (ix2 i t) = ((Real.exp (scale * (sc (q i) (keys kv kr) t - m)) : ℝ) : EReal) := by
  unfold k0_pay6
  pointwise
  rw [sc_at h3 h5 h10, hm, named_scale2]
  exact exp2_shift _ _

/-- Their row sums. -/
theorem l_at {m : ℝ} (i : Fin 256) (hm : k0_pay5 v3 v5 v10 (ix2 i 0) = (m : EReal)) :
    k0_pay7 v3 v5 v10 (ix2 i 0) = ((den (q i) (keys kv kr) * Real.exp (-(scale * m)) : ℝ) : EReal) := by
  unfold k0_pay7
  pointwise
  rw [← sum_shift]
  exact sum_eq_coe _ _ _ fun t _ => p_at h3 h5 h10 i hm t

/-- The head's output rows, in all lanes of its tile. -/
theorem o_at (i : Fin 256) (l : Fin 128) :
    k0_pay8 v3 v5 v10 (ix2 i l) = ((out (q i) (keys kv kr) kv l : ℝ) : EReal) := by
  obtain ⟨m, hm⟩ := mx_at h3 h5 h10 i
  unfold k0_pay8 k0_pay3
  pointwise
  refine (congrArg₂ Ideal.div (sum_eq_coe _ _ (fun t : Fin 2304 => Real.exp (scale * (sc (q i) (keys kv kr) t - m)) * kv t l)
    fun t _ => ?_) (l_at h3 h5 h10 i hm)).trans ?_
  · rw [p_at h3 h5 h10 i hm, h3, EReal.coe_mul]
  rw [div_coe_coe _ (mul_pos (den_pos _ _) (Real.exp_pos _)).ne', out, Finset.sum_div]
  refine congrArg _ (Finset.sum_congr rfl fun t _ => ?_)
  rw [← prob_shift _ _ m, mul_div_right_comm]

/-- The rows' log-sums. -/
theorem lse_at (i : Fin 256) :
    k0_pay9 v3 v5 v10 (ix4 0 0 i 0) = ((logsum (q i) (keys kv kr) : ℝ) : EReal) := by
  obtain ⟨m, hm⟩ := mx_at h3 h5 h10 i
  unfold k0_pay9
  pointwise
  rw [l_at h3 h5 h10 i hm, hm, named_scale2, named_log2e]
  exact logsum_coe _ _ _

end

/-- The second head's log-sums are computed as the first's are. -/
theorem pay15_eq (v35 v37 : Vec Ideal S1x2304x128 .bf16) (v42 : Vec Ideal S1x256x128 .bf16) :
    k0_pay15 k0_pay2 v35 v37 v42 = fun j => k0_pay9 v35 v37 v42 j := rfl

/-- The pair's output tile: the first head's upper lanes rolled to the front, then the second head's upper lanes. -/
theorem pair_at (v25 : FVec Ideal S256x128 .f32) (v35 v37 : Vec Ideal S1x2304x128 .bf16) (v42 : Vec Ideal S1x256x128 .bf16)
    (i : Fin 256) (l : Fin 128) :
    k0_pay16 k0_pay2 v25 v35 v37 v42 (ix2 i l)
      = if l.val < 64 then v25 (ix2 i ⟨(l.val + 64) % 128, Nat.mod_lt _ (by norm_num)⟩) else k0_pay8 v35 v37 v42 (ix2 i l) := by
  have h : k0_pay16 k0_pay2 v25 v35 v37 v42
      = select (broadcastTo S256x128 (shapeCast S1x128 k0_pay2 shapeCasts_S1x128_S1x128) broadcasts_S1x128_S256x128)
          (dynamicRotate 1 64#32 none v25 rotates_S256x128_d1) (k0_pay8 v35 v37 v42) := rfl
  rw [h]
  pointwise
  rw [low_at, select_low]
  refine if_congr Iff.rfl (congrArg _ (congrArg _ (Fin.ext ?_))) rfl
  show (l.val + 128 - 64) % 128 = (l.val + 64) % 128
  congr 1

end Cert.KernelIdeal.Att
-- ==== Proof.BwdBlock.lean ====
/-
  What one grid point of the backward call computes of one head, where its blocks are finite.

  The payloads are read over the values that the body has named before them: the row means `v26`, the head's arriving
  gradient `v31`, its value rows `v33`, the blocks of the queries `v34`, of the shared keys `v36` and of the log-sums
  `v44`.
-/
module

public import proofs.«01_k».proof.Proof.FwdBlock

@[expose] public section

set_option maxRecDepth 16384

noncomputable section

open Idealize.ShloMosaic Idealize.ShloMosaic.TcCoe Idealize.SL.Sem

namespace Cert.KernelIdeal.Att
open Cert.KernelIdeal Cert.KernelIdeal.Gen Cert.Att

section
variable {v26 : FVec Ideal S256x1 .f32} {v31 : FVec Ideal S256x128 .f32} {v33 : FVec Ideal S2304x128 .bf16}
  {v34 : Vec Ideal S1x256x128 .bf16} {v36 : Vec Ideal S1x2304x128 .bf16} {v44 : Vec Ideal S1x1x256x1 .f32}
  {kv kr q g : ℕ → ℕ → ℝ}
  (h33 : ∀ (t : Fin 2304) (l : Fin 128), v33 (ix2 t l) = ((kv t l : ℝ) : EReal))
  (h36 : ∀ (t : Fin 2304) (l : Fin 128), v36 (ix3 0 t l) = ((kr t l : ℝ) : EReal))
  (h34 : ∀ (i : Fin 256) (l : Fin 128), v34 (ix3 0 i l) = ((q i l : ℝ) : EReal))
  (h44 : ∀ i : Fin 256, v44 (ix4 0 0 i 0) = ((logsum (q i) (keys kv kr) : ℝ) : EReal))
  (h31 : ∀ (i : Fin 256) (l : Fin 128), v31 (ix2 i l) = ((g i l : ℝ) : EReal))
  (h26 : ∀ i : Fin 256, v26 (ix2 i 0) = ((delta (q i) (keys kv kr) (g i) kv : ℝ) : EReal))

include h33 h36 in
/-- The key rows. -/
theorem keys_at (t : Fin 2304) (l : Fin 128) :
    k1_pay14 k1_pay4 v33 v36 (ix2 t l) = ((keys kv kr t l : ℝ) : EReal) := by
  unfold k1_pay14
  pointwise
  rw [show k1_pay4 (ix2 (0 : Fin 1) l) = _ from low_at l, select_low, h33, h36, keys]
  split <;> rfl

include h33 h36 h34 h44

/-- The probabilities. -/
theorem prob_at (i : Fin 256) (t : Fin 2304) :
    k1_pay15 k1_pay4 v33 v34 v36 v44 (ix2 i t) = ((prob (q i) (keys kv kr) t : ℝ) : EReal) := by
  unfold k1_pay15 k1_pay13
  pointwise
  rw [h44, named_scale2, sum_eq_coe _ _ (fun l : Fin 128 => q i l * keys kv kr t l) fun l _ => by
    rw [keys_at h33 h36, h34, EReal.coe_mul]]
  exact exp2_logsum _ _ _

include h31 h26

/-- The gradients of the scores. -/
theorem ds_at (i : Fin 256) (t : Fin 2304) :
    k1_pay16 k1_pay4 v26 v31 v33 v34 v36 v44 (ix2 i t)
      = ((dscore (q i) (keys kv kr) (g i) kv t : ℝ) : EReal) := by
  unfold k1_pay16
  pointwise
  rw [prob_at h33 h36 h34 h44, h26, sum_eq_coe _ _ (fun l : Fin 128 => g i l * kv t l) fun l _ => by
    rw [h31, h33, EReal.coe_mul], ← EReal.coe_sub, ← EReal.coe_mul]
  rfl

/-- The gradients of the query rows. -/
theorem dq_at (i : Fin 256) (l : Fin 128) :
    k1_pay17 k1_pay4 v26 v31 v33 v34 v36 v44 (ix3 0 i l)
      = ((dquery (q i) (keys kv kr) (g i) kv l : ℝ) : EReal) := by
  unfold k1_pay17
  pointwise
  refine (congrArg₂ (· * ·) (sum_eq_coe _ _ (fun t : Fin 2304 => dscore (q i) (keys kv kr) (g i) kv t * keys kv kr t l)
    fun t _ => ?_) ofBits_scale).trans ?_
  · rw [ds_at h33 h36 h34 h44 h31 h26, keys_at h33 h36, EReal.coe_mul]
  · rw [← EReal.coe_mul, dquery]

/-- The block's part of the gradients of the key rows. -/
theorem dk_at (t : Fin 2304) (l : Fin 128) :
    k1_pay18 k1_pay4 v26 v31 v33 v34 v36 v44 (ix2 t l) = ((dkPart q (keys kv kr) g kv t l : ℝ) : EReal) := by
  unfold k1_pay18 k1_pay13
  pointwise
  refine sum_eq_coe _ _ _ fun i _ => ?_
  rw [ds_at h33 h36 h34 h44 h31 h26, h34, EReal.coe_mul]

/-- The block's part of the gradients of the tile that holds keys in its lower lanes and values in its upper lanes. -/
theorem dkv_at (t : Fin 2304) (l : Fin 128) :
    k1_pay20 k1_pay4 v26 v31 v33 v34 v36 v44 (ix2 t l)
      = (((if l.val < 64 then dkPart q (keys kv kr) g kv t l else dvPart q (keys kv kr) g t l : ℝ)) : EReal) := by
  unfold k1_pay20
  pointwise
  rw [show k1_pay4 (ix2 (0 : Fin 1) l) = _ from low_at l, select_low, dk_at h33 h36 h34 h44 h31 h26,
    sum_eq_coe _ _ (fun i : Fin 256 => prob (q i) (keys kv kr) t * g i l) fun i _ => by
      rw [prob_at h33 h36 h34 h44, h31, EReal.coe_mul]]
  split <;> rfl

end

end Cert.KernelIdeal.Att
-- ==== Proof.Pair.lean ====
/-
  The two heads of one tile pair, over the real numbers: heads `e = 0` and `e = 1` stand side by side in rows of 256
  lanes, and one row of 128 lanes holds both heads' outputs (64 lanes each).
-/
module

public import proofs.«01_k».proof.Proof.Model

@[expose] public section

noncomputable section

namespace Cert.Att

/-- Head `e`'s 128 lanes of a row that holds several heads. -/
def tile (e : ℕ) (r : ℕ → ℝ) (l : ℕ) : ℝ := r (128 * e + l)

/-- Head `e`'s gradient row, from the pair's row. -/
def gRow (e : ℕ) (d : ℕ → ℝ) : ℕ → ℝ := if e = 0 then fst64 d else snd64 d

/-- Head `e`'s key rows. -/
def keysOf (kv kr : ℕ → ℕ → ℝ) (e : ℕ) : ℕ → ℕ → ℝ := keys (fun t => tile e (kv t)) kr

/-- Head `e`'s output row. -/
def outOf (q : ℕ → ℝ) (kv kr : ℕ → ℕ → ℝ) (e : ℕ) : ℕ → ℝ :=
  out (tile e q) (keysOf kv kr e) fun t => tile e (kv t)

/-- The pair's output row: the first head's values in the lower half, the second head's in the upper. -/
def pairOut (q : ℕ → ℝ) (kv kr : ℕ → ℕ → ℝ) (l : ℕ) : ℝ :=
  if l < 64 then outOf q kv kr 0 (l + 64) else outOf q kv kr 1 l

/-- Head `e`'s gradient of one query row. -/
def dqOf (q d : ℕ → ℝ) (kv kr : ℕ → ℕ → ℝ) (e : ℕ) : ℕ → ℝ :=
  dquery (tile e q) (keysOf kv kr e) (gRow e d) fun t => tile e (kv t)

/-- What 256 query rows add to head `e`'s gradient of the key rows, unscaled. -/
def dkOf (q d kv kr : ℕ → ℕ → ℝ) (e : ℕ) : ℕ → ℕ → ℝ :=
  dkPart (fun i => tile e (q i)) (keysOf kv kr e) (fun i => gRow e (d i)) fun t => tile e (kv t)

/-- What 256 query rows add to head `e`'s tile of the gradient: keys (unscaled) in the lower lanes, values above. -/
def dkvOf (q d kv kr : ℕ → ℕ → ℝ) (e t l : ℕ) : ℝ :=
  if l < 64 then dkOf q d kv kr e t l
  else dvPart (fun i => tile e (q i)) (keysOf kv kr e) (fun i => gRow e (d i)) t l

/-- What 256 query rows and both heads add to the gradient of the shared rotary key rows, unscaled. -/
def dkrOf (q d kv kr : ℕ → ℕ → ℝ) (t l : ℕ) : ℝ :=
  if 64 ≤ l ∧ l < 96 then dkOf q d kv kr 0 t l + dkOf q d kv kr 1 t l else 0

/-- The lower half of `d` times the pair's output sums to the first head's `delta`. -/
theorem delta_pair0 (q d : ℕ → ℝ) (kv kr : ℕ → ℕ → ℝ) :
    ∑ l : Fin 128, (if l.val < 64 then d l * pairOut q kv kr l else 0)
      = delta (tile 0 q) (keysOf kv kr 0) (gRow 0 d) fun t => tile 0 (kv t) :=
  delta_fst _ _ _ _ _ fun l hl => by rw [pairOut, if_pos hl, outOf]

/-- The upper half sums to the second head's. -/
theorem delta_pair1 (q d : ℕ → ℝ) (kv kr : ℕ → ℕ → ℝ) :
    ∑ l : Fin 128, (if l.val < 64 then 0 else d l * pairOut q kv kr l)
      = delta (tile 1 q) (keysOf kv kr 1) (gRow 1 d) fun t => tile 1 (kv t) :=
  delta_snd _ _ _ _ _ fun l hl => by rw [pairOut, if_neg (not_lt.2 hl), outOf]

end Cert.Att
end
-- ==== Proof.BwdMasks.lean ====
/-
  One grid point of the backward call in terms of its six blocks: the terms that the generated run leaves, named once
  per result, the masks, and the small payloads read at an index.
-/
module

public import proofs.«01_k».proof.Proof.BwdBlock
public import proofs.«01_k».proof.Proof.Pair
public import Idealize.ShloMosaic.Lib.Pipeline.ReadBack
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

namespace Cert.KernelIdeal.Att
open Cert.KernelIdeal Cert.KernelIdeal.Gen Cert.Att

/-- The two lane halves of a block of 256 query rows, of 2304 key rows, and the two heads of a block of log-sums. -/
abbrev qLo : Rect S1x256x256 := Rect.unit ![0, 0, 0] ![1, 256, 128] inb_S1x256x256_S1x256x128_0_0_0
abbrev qHi : Rect S1x256x256 := Rect.unit ![0, 0, 128] ![1, 256, 128] inb_S1x256x256_S1x256x128_0_0_128
abbrev kLo : Rect S1x2304x256 := Rect.unit ![0, 0, 0] ![1, 2304, 128] inb_S1x2304x256_S1x2304x128_0_0_0
abbrev kHi : Rect S1x2304x256 := Rect.unit ![0, 0, 128] ![1, 2304, 128] inb_S1x2304x256_S1x2304x128_0_0_128
abbrev sLo : Rect S1x2x256x1 := Rect.unit ![0, 0, 0, 0] ![1, 1, 256, 1] inb_S1x2x256x1_S1x1x256x1_0_0_0_0
abbrev sHi : Rect S1x2x256x1 := Rect.unit ![0, 1, 0, 0] ![1, 1, 256, 1] inb_S1x2x256x1_S1x1x256x1_0_1_0_0

section Terms
variable {F : FTy → Type} [FloatOps F] [Named F]
variable (x0 : Vec F S1x256x256 .bf16) (x1 : Vec F S1x2304x256 .bf16) (x2 : Vec F S1x2304x128 .bf16)
  (x3 : Vec F S1x256x128 .f32) (x4 : Vec F S1x2x256x1 .f32) (x5 : Vec F S1x256x128 .f32)

/-- The first head's gradient of the key rows, from this point's query rows. -/
def dk0 : FVec F S2304x128 .f32 :=
  k1_pay18 k1_pay4 (k1_pay10 x5 x3) (k1_pay11 x5) (k1_pay12 (View.ld x1 kLo)) (View.ld x0 qLo) x2 (View.ld x4 sLo)
/-- The second head's. -/
def dk1 : FVec F S2304x128 .f32 :=
  k1_pay18 k1_pay4 (k1_pay23 k1_pay4 (k1_pay7 x5 x3)) (k1_pay24 k1_pay4 (k1_pay6 x5)) (k1_pay12 (View.ld x1 kHi))
    (View.ld x0 qHi) x2 (View.ld x4 sHi)
/-- The first head's tile of keys and values. -/
def dkv0 : FVec F S2304x128 .f32 :=
  k1_pay20 k1_pay4 (k1_pay10 x5 x3) (k1_pay11 x5) (k1_pay12 (View.ld x1 kLo)) (View.ld x0 qLo) x2 (View.ld x4 sLo)
/-- The second head's. -/
def dkv1 : FVec F S2304x128 .f32 :=
  k1_pay20 k1_pay4 (k1_pay23 k1_pay4 (k1_pay7 x5 x3)) (k1_pay24 k1_pay4 (k1_pay6 x5)) (k1_pay12 (View.ld x1 kHi))
    (View.ld x0 qHi) x2 (View.ld x4 sHi)
/-- The first head's gradient of the query rows. -/
def dq0 : FVec F S1x256x128 .f32 :=
  k1_pay17 k1_pay4 (k1_pay10 x5 x3) (k1_pay11 x5) (k1_pay12 (View.ld x1 kLo)) (View.ld x0 qLo) x2 (View.ld x4 sLo)
/-- The second head's. -/
def dq1 : FVec F S1x256x128 .f32 :=
  k1_pay17 k1_pay4 (k1_pay23 k1_pay4 (k1_pay7 x5 x3)) (k1_pay24 k1_pay4 (k1_pay6 x5)) (k1_pay12 (View.ld x1 kHi))
    (View.ld x0 qHi) x2 (View.ld x4 sHi)

/-- The gradient's tile pair after this point, from what it held before. -/
def kv0 (z : Vec F S1x2304x256 .f32) : FVec F S1x2304x128 .f32 :=
  k1_pay21 (k1_pay19 (View.ld z kLo)) (dkv0 x0 x1 x2 x3 x4 x5)
def kv1 (z : Vec F S1x2304x256 .f32) : FVec F S1x2304x128 .f32 :=
  k1_pay21 (k1_pay19 (View.ld z kHi)) (dkv1 x0 x1 x2 x3 x4 x5)

/-- The gradient of the shared rotary rows after this point, from what it held before. -/
def krStep (z : Vec F S1x2304x128 .f32) : FVec F S1x2304x128 .f32 :=
  k1_pay21 (k1_pay19 z) (addf (k1_pay22 k1_pay5 (dk0 x0 x1 x2 x3 x4 x5)) (k1_pay22 k1_pay5 (dk1 x0 x1 x2 x3 x4 x5)))

end Terms

/-! ## Two stored halves read back -/

theorem kHi_emb (t : Fin 2304) (l : Fin 256) (h : ¬ l.val < 128) :
    kHi.emb (ix3 0 t (⟨l.val - 128, by omega⟩ : Fin 128)) = (ix3 0 t l : S1x2304x256.Idx) := by
  funext a
  refine Fin.ext ?_
  rw [Rect.emb_apply]
  fin_cases a <;> simp [Rect.unit, ix3] <;> omega

theorem kLo_emb (t : Fin 2304) (l : Fin 256) (h : l.val < 128) :
    kLo.emb (ix3 0 t (⟨l.val, h⟩ : Fin 128)) = (ix3 0 t l : S1x2304x256.Idx) := by
  funext a
  refine Fin.ext ?_
  rw [Rect.emb_apply]
  fin_cases a <;> simp [Rect.unit, ix3]

theorem qHi_emb (t : Fin 256) (l : Fin 256) (h : ¬ l.val < 128) :
    qHi.emb (ix3 0 t (⟨l.val - 128, by omega⟩ : Fin 128)) = (ix3 0 t l : S1x256x256.Idx) := by
  funext a
  refine Fin.ext ?_
  rw [Rect.emb_apply]
  fin_cases a <;> simp [Rect.unit, ix3] <;> omega

theorem qLo_emb (t : Fin 256) (l : Fin 256) (h : l.val < 128) :
    qLo.emb (ix3 0 t (⟨l.val, h⟩ : Fin 128)) = (ix3 0 t l : S1x256x256.Idx) := by
  funext a
  refine Fin.ext ?_
  rw [Rect.emb_apply]
  fin_cases a <;> simp [Rect.unit, ix3]

/-- The two halves of a key block, stored one after the other, are read at their own lanes. -/
theorem kPair_at (f : ℕ → ℕ → ℕ → ℝ) {p1 p0 : FVec Ideal S1x2304x128 .f32} (L : List (View.Piece (Elt Ideal) S1x2304x256 .f32))
    (h0 : ∀ (t : Fin 2304) (l : Fin 128), p0 (ix3 0 t l) = ((f 0 t l : ℝ) : EReal))
    (h1 : ∀ (t : Fin 2304) (l : Fin 128), p1 (ix3 0 t l) = ((f 1 t l : ℝ) : EReal)) (t : Fin 2304) (l : Fin 256) :
    View.canon (⟨kHi, p1⟩ :: ⟨kLo, p0⟩ :: L) (ix3 0 t l) = ((f (l.val / 128) t (l.val % 128) : ℝ) : EReal) := by
  by_cases h : l.val < 128
  · rw [View.canon_cons_of_not_mem, ← kLo_emb t l h, View.canon_cons_emb, h0, Nat.div_eq_of_lt h, Nat.mod_eq_of_lt h]
    rw [Rect.mem_set_unit]
    intro hm
    have := hm 2
    simp [ix3] at this
    omega
  · rw [← kHi_emb t l h, View.canon_cons_emb, h1]
    have e1 : l.val / 128 = 1 := by omega
    have e2 : l.val % 128 = l.val - 128 := by omega
    rw [e1, e2]

/-- The same of a query block. -/
theorem qPair_at (f : ℕ → ℕ → ℕ → ℝ) {p1 p0 : FVec Ideal S1x256x128 .f32} (L : List (View.Piece (Elt Ideal) S1x256x256 .f32))
    (h0 : ∀ (t : Fin 256) (l : Fin 128), p0 (ix3 0 t l) = ((f 0 t l : ℝ) : EReal))
    (h1 : ∀ (t : Fin 256) (l : Fin 128), p1 (ix3 0 t l) = ((f 1 t l : ℝ) : EReal)) (t : Fin 256) (l : Fin 256) :
    View.canon (⟨qHi, p1⟩ :: ⟨qLo, p0⟩ :: L) (ix3 0 t l) = ((f (l.val / 128) t (l.val % 128) : ℝ) : EReal) := by
  by_cases h : l.val < 128
  · rw [View.canon_cons_of_not_mem, ← qLo_emb t l h, View.canon_cons_emb, h0, Nat.div_eq_of_lt h, Nat.mod_eq_of_lt h]
    rw [Rect.mem_set_unit]
    intro hm
    have := hm 2
    simp [ix3] at this
    omega
  · rw [← qHi_emb t l h, View.canon_cons_emb, h1]
    have e1 : l.val / 128 = 1 := by omega
    have e2 : l.val % 128 = l.val - 128 := by omega
    rw [e1, e2]

/-! ## Masks and small payloads -/

/-- The mask of the rotary lanes. -/
theorem rope_at (l : Fin 128) : k1_pay5 (ix2 0 l) = if 64 ≤ l.val ∧ l.val < 96 then 1#1 else 0#1 := by
  unfold k1_pay5
  pointwise
  revert l
  decide +kernel

/-- A choice by the mask of the rotary lanes. -/
theorem select_rope {α : Type} (l : Fin 128) (a b : α) :
    Scalar.select (if 64 ≤ l.val ∧ l.val < 96 then 1#1 else 0#1) a b = if 64 ≤ l.val ∧ l.val < 96 then a else b := by
  by_cases h : 64 ≤ l.val ∧ l.val < 96 <;> simp [h, Scalar.select]

theorem low1_at (l : Fin 128) : k1_pay4 (ix2 0 l) = if l.val < 64 then 1#1 else 0#1 := low_at l

theorem pay21_at {a b : FVec Ideal S2304x128 .f32} (t : Fin 2304) (l : Fin 128) :
    k1_pay21 a b (ix3 0 t l) = a (ix2 t l) + b (ix2 t l) := by
  unfold k1_pay21
  pointwise

theorem pay19_at {a : Vec Ideal S1x2304x128 .f32} (t : Fin 2304) (l : Fin 128) :
    k1_pay19 a (ix2 t l) = a (ix3 0 t l) := by
  unfold k1_pay19
  pointwise

theorem pay12_at {a : Vec Ideal S1x2304x128 .bf16} (t : Fin 2304) (l : Fin 128) :
    k1_pay12 a (ix2 t l) = a (ix3 0 t l) := by
  unfold k1_pay12
  pointwise

theorem pay6_at {a : Vec Ideal S1x256x128 .f32} (t : Fin 256) (l : Fin 128) :
    k1_pay6 a (ix2 t l) = a (ix3 0 t l) := by
  unfold k1_pay6
  pointwise

theorem pay22_at {a : FVec Ideal S2304x128 .f32} (t : Fin 2304) (l : Fin 128) :
    k1_pay22 k1_pay5 a (ix2 t l) = if 64 ≤ l.val ∧ l.val < 96 then a (ix2 t l) else 0 := by
  unfold k1_pay22
  pointwise
  rw [rope_at, select_rope]

/-- The last point of a pair scales the keys' lanes. -/
theorem pay1_at {a : Vec Ideal S1x2304x128 .f32} (t : Fin 2304) (l : Fin 128) :
    k1_pay1 k1_pay4 a (ix3 0 t l) = a (ix3 0 t l) * (((if l.val < 64 then scale else 1 : ℝ)) : EReal) := by
  unfold k1_pay1
  pointwise
  rw [low1_at, select_low, ofBits_scale]
  split <;> rfl

theorem pay2_at {a : Vec Ideal S1x2304x128 .f32} (t : Fin 2304) (l : Fin 128) :
    k1_pay2 k1_pay4 a (ix3 0 t l) = a (ix3 0 t l) * (((if l.val < 64 then scale else 1 : ℝ)) : EReal) :=
  pay1_at t l

theorem pay3_at {a : Vec Ideal S1x2304x128 .f32} (t : Fin 2304) (l : Fin 128) :
    k1_pay3 a (ix3 0 t l) = a (ix3 0 t l) * ((scale : ℝ) : EReal) := by
  unfold k1_pay3
  pointwise
  rw [ofBits_scale]

theorem pay8_at (t : Fin 2304) (l : Fin 256) : (k1_pay8 : FVec Ideal S1x2304x256 .f32) (ix3 0 t l) = ((0 : ℝ) : EReal) := by
  unfold k1_pay8
  pointwise
  exact EReal.coe_zero.symm

theorem pay9_at (t : Fin 2304) (l : Fin 128) : (k1_pay9 : FVec Ideal S1x2304x128 .f32) (ix3 0 t l) = ((0 : ℝ) : EReal) := by
  unfold k1_pay9
  pointwise
  exact EReal.coe_zero.symm

theorem qLo_at {e : EltTy} {x : Vec Ideal S1x256x256 e} (i : Fin 256) (l : Fin 128) :
    View.ld x qLo (ix3 0 i l) = x (ix3 0 i ⟨l.val, by omega⟩) :=
  congrArg x (qLo_emb i ⟨l.val, by omega⟩ l.isLt)
theorem qHi_at {e : EltTy} {x : Vec Ideal S1x256x256 e} (i : Fin 256) (l : Fin 128) :
    View.ld x qHi (ix3 0 i l) = x (ix3 0 i ⟨128 + l.val, by omega⟩) := by
  refine congrArg x ?_
  rw [← qHi_emb i ⟨128 + l.val, by omega⟩ (by simp)]
  congr 2
  exact Fin.ext (by simp)
theorem kLo_at {e : EltTy} {x : Vec Ideal S1x2304x256 e} (i : Fin 2304) (l : Fin 128) :
    View.ld x kLo (ix3 0 i l) = x (ix3 0 i ⟨l.val, by omega⟩) :=
  congrArg x (kLo_emb i ⟨l.val, by omega⟩ l.isLt)
theorem kHi_at {e : EltTy} {x : Vec Ideal S1x2304x256 e} (i : Fin 2304) (l : Fin 128) :
    View.ld x kHi (ix3 0 i l) = x (ix3 0 i ⟨128 + l.val, by omega⟩) := by
  refine congrArg x ?_
  rw [← kHi_emb i ⟨128 + l.val, by omega⟩ (by simp)]
  congr 2
  exact Fin.ext (by simp)
theorem sLo_at {x : Vec Ideal S1x2x256x1 .f32} (i : Fin 256) :
    View.ld x sLo (ix4 0 0 i 0) = x (ix4 0 0 i 0) := by
  refine congrArg x ?_
  funext a
  refine Fin.ext ?_
  fin_cases a <;> simp [ix4, LoadRect.idx]
theorem sHi_at {x : Vec Ideal S1x2x256x1 .f32} (i : Fin 256) :
    View.ld x sHi (ix4 0 0 i 0) = x (ix4 0 1 i 0) := by
  refine congrArg x ?_
  funext a
  refine Fin.ext ?_
  fin_cases a <;> simp [ix4, LoadRect.idx]

end Cert.KernelIdeal.Att
end
-- ==== Proof.BwdPair.lean ====
/-
  What one grid point of the backward call computes of its pair of heads, where its six blocks are finite.
-/
module

public import proofs.«01_k».proof.Proof.BwdMasks

@[expose] public section

set_option maxRecDepth 16384

noncomputable section

open Idealize.ShloMosaic Idealize.ShloMosaic.TcCoe Idealize.SL.Sem

namespace Cert.KernelIdeal.Att
open Cert.KernelIdeal Cert.KernelIdeal.Gen Cert.Att

/-! ## The values -/

section
variable {x0 : Vec Ideal S1x256x256 .bf16} {x1 : Vec Ideal S1x2304x256 .bf16} {x2 : Vec Ideal S1x2304x128 .bf16}
  {x3 : Vec Ideal S1x256x128 .f32} {x4 : Vec Ideal S1x2x256x1 .f32} {x5 : Vec Ideal S1x256x128 .f32}
  {q d kv kr : ℕ → ℕ → ℝ}
  (h0 : ∀ (i : Fin 256) (l : Fin 256), x0 (ix3 0 i l) = ((q i l : ℝ) : EReal))
  (h1 : ∀ (t : Fin 2304) (l : Fin 256), x1 (ix3 0 t l) = ((kv t l : ℝ) : EReal))
  (h2 : ∀ (t : Fin 2304) (l : Fin 128), x2 (ix3 0 t l) = ((kr t l : ℝ) : EReal))
  (h3 : ∀ (i : Fin 256) (l : Fin 128), x3 (ix3 0 i l) = ((pairOut (q i) kv kr l : ℝ) : EReal))
  (h4 : ∀ (e : Fin 2) (i : Fin 256), x4 (ix4 0 e i 0) = ((logsum (tile e (q i)) (keysOf kv kr e) : ℝ) : EReal))
  (h5 : ∀ (i : Fin 256) (l : Fin 128), x5 (ix3 0 i l) = ((d i l : ℝ) : EReal))

include h3 h5 in
theorem delta0_at (i : Fin 256) : k1_pay10 x5 x3 (ix2 i 0)
    = ((delta (tile 0 (q i)) (keysOf kv kr 0) (gRow 0 (d i)) fun t => tile 0 (kv t) : ℝ) : EReal) := by
  rw [← delta_pair0]
  unfold k1_pay10 k1_pay7
  generalize hf : (fun l : Fin 128 => if l.val < 64 then d i l * pairOut (q i) kv kr l else 0) = f
  pointwise
  refine sum_eq_coe _ _ _ fun l _ => ?_
  rw [← hf]
  rw [low1_at, select_low, pay6_at, h5, h3, ← EReal.coe_mul]
  by_cases h : l.val < 64 <;> simp [h]

include h3 h5 in
theorem delta1_at (i : Fin 256) : k1_pay23 k1_pay4 (k1_pay7 x5 x3) (ix2 i 0)
    = ((delta (tile 1 (q i)) (keysOf kv kr 1) (gRow 1 (d i)) fun t => tile 1 (kv t) : ℝ) : EReal) := by
  rw [← delta_pair1]
  unfold k1_pay23 k1_pay7
  generalize hf : (fun l : Fin 128 => if l.val < 64 then 0 else d i l * pairOut (q i) kv kr l) = f
  pointwise
  refine sum_eq_coe _ _ _ fun l _ => ?_
  rw [← hf]
  rw [low1_at, pay6_at, h5, h3, ← EReal.coe_mul]
  by_cases h : l.val < 64
  · simp [h, Scalar.select, IntOp.xori]
  · simp [h, Scalar.select, IntOp.xori]

include h5 in
theorem g0_at (i : Fin 256) (l : Fin 128) : k1_pay11 x5 (ix2 i l) = ((gRow 0 (d i) l : ℝ) : EReal) := by
  unfold k1_pay11
  pointwise
  rw [low1_at, select_low, pay6_at, h5, gRow, if_pos rfl, fst64]
  split
  · rfl
  · show ((d i ((l.val + 64) % 128) : ℝ) : EReal) = _
    rw [show (l.val + 64) % 128 = l.val - 64 by omega]

include h5 in
theorem g1_at (i : Fin 256) (l : Fin 128) : k1_pay24 k1_pay4 (k1_pay6 x5) (ix2 i l) = ((gRow 1 (d i) l : ℝ) : EReal) := by
  unfold k1_pay24
  pointwise
  rw [low1_at, select_low, pay6_at, h5, gRow, if_neg one_ne_zero, snd64]
  split <;> rfl

include h1 in
theorem kv0_at (t : Fin 2304) (l : Fin 128) : k1_pay12 (View.ld x1 kLo) (ix2 t l) = ((tile 0 (kv t) l : ℝ) : EReal) := by
  rw [pay12_at, kLo_at, h1, tile, Nat.mul_zero, Nat.zero_add]
include h1 in
theorem kv1_at (t : Fin 2304) (l : Fin 128) : k1_pay12 (View.ld x1 kHi) (ix2 t l) = ((tile 1 (kv t) l : ℝ) : EReal) := by
  rw [pay12_at, kHi_at, h1, tile, Nat.mul_one]
include h0 in
theorem q0_at (i : Fin 256) (l : Fin 128) : View.ld x0 qLo (ix3 0 i l) = ((tile 0 (q i) l : ℝ) : EReal) := by
  rw [qLo_at, h0, tile, Nat.mul_zero, Nat.zero_add]
include h0 in
theorem q1_at (i : Fin 256) (l : Fin 128) : View.ld x0 qHi (ix3 0 i l) = ((tile 1 (q i) l : ℝ) : EReal) := by
  rw [qHi_at, h0, tile, Nat.mul_one]

include h4 in
theorem s0_at (i : Fin 256) : View.ld x4 sLo (ix4 0 0 i 0)
    = ((logsum (tile 0 (q i)) (keys (fun t => tile 0 (kv t)) kr) : ℝ) : EReal) := by
  rw [sLo_at]; exact h4 0 i
include h4 in
theorem s1_at (i : Fin 256) : View.ld x4 sHi (ix4 0 0 i 0)
    = ((logsum (tile 1 (q i)) (keys (fun t => tile 1 (kv t)) kr) : ℝ) : EReal) := by
  rw [sHi_at]; exact h4 1 i

include h0 h1 h2 h3 h4 h5

theorem dk0_at (t : Fin 2304) (l : Fin 128) : dk0 x0 x1 x2 x3 x4 x5 (ix2 t l) = ((dkOf q d kv kr 0 t l : ℝ) : EReal) :=
  dk_at (kv := fun t => tile 0 (kv t)) (kr := kr) (q := fun i => tile 0 (q i)) (g := fun i => gRow 0 (d i))
    (kv0_at h1) h2 (q0_at h0) (s0_at h4) (g0_at h5) (delta0_at h3 h5) t l
theorem dk1_at (t : Fin 2304) (l : Fin 128) : dk1 x0 x1 x2 x3 x4 x5 (ix2 t l) = ((dkOf q d kv kr 1 t l : ℝ) : EReal) :=
  dk_at (kv := fun t => tile 1 (kv t)) (kr := kr) (q := fun i => tile 1 (q i)) (g := fun i => gRow 1 (d i))
    (kv1_at h1) h2 (q1_at h0) (s1_at h4) (g1_at h5) (delta1_at h3 h5) t l
theorem dkv0_at (t : Fin 2304) (l : Fin 128) : dkv0 x0 x1 x2 x3 x4 x5 (ix2 t l) = ((dkvOf q d kv kr 0 t l : ℝ) : EReal) :=
  dkv_at (kv := fun t => tile 0 (kv t)) (kr := kr) (q := fun i => tile 0 (q i)) (g := fun i => gRow 0 (d i))
    (kv0_at h1) h2 (q0_at h0) (s0_at h4) (g0_at h5) (delta0_at h3 h5) t l
theorem dkv1_at (t : Fin 2304) (l : Fin 128) : dkv1 x0 x1 x2 x3 x4 x5 (ix2 t l) = ((dkvOf q d kv kr 1 t l : ℝ) : EReal) :=
  dkv_at (kv := fun t => tile 1 (kv t)) (kr := kr) (q := fun i => tile 1 (q i)) (g := fun i => gRow 1 (d i))
    (kv1_at h1) h2 (q1_at h0) (s1_at h4) (g1_at h5) (delta1_at h3 h5) t l
theorem dq0_at (i : Fin 256) (l : Fin 128) : dq0 x0 x1 x2 x3 x4 x5 (ix3 0 i l) = ((dqOf (q i) (d i) kv kr 0 l : ℝ) : EReal) :=
  dq_at (kv := fun t => tile 0 (kv t)) (kr := kr) (q := fun i => tile 0 (q i)) (g := fun i => gRow 0 (d i))
    (kv0_at h1) h2 (q0_at h0) (s0_at h4) (g0_at h5) (delta0_at h3 h5) i l
theorem dq1_at (i : Fin 256) (l : Fin 128) : dq1 x0 x1 x2 x3 x4 x5 (ix3 0 i l) = ((dqOf (q i) (d i) kv kr 1 l : ℝ) : EReal) :=
  dq_at (kv := fun t => tile 1 (kv t)) (kr := kr) (q := fun i => tile 1 (q i)) (g := fun i => gRow 1 (d i))
    (kv1_at h1) h2 (q1_at h0) (s1_at h4) (g1_at h5) (delta1_at h3 h5) i l

/-- The query gradients' block at one point. -/
theorem dqBlock_at (L : List (View.Piece (Elt Ideal) S1x256x256 .f32)) (i l : Fin 256) :
    View.canon (⟨qHi, dq1 x0 x1 x2 x3 x4 x5⟩ :: ⟨qLo, dq0 x0 x1 x2 x3 x4 x5⟩ :: L) (ix3 0 i l)
      = ((dqOf (q i) (d i) kv kr (l.val / 128) (l.val % 128) : ℝ) : EReal) :=
  qPair_at (fun e i l => dqOf (q i) (d i) kv kr e l) L (dq0_at h0 h1 h2 h3 h4 h5) (dq1_at h0 h1 h2 h3 h4 h5) i l

variable {z : Vec Ideal S1x2304x256 .f32} {w : ℕ → ℕ → ℝ}
  (hz : ∀ (t : Fin 2304) (l : Fin 256), z (ix3 0 t l) = ((w t l : ℝ) : EReal))
include hz

theorem kvStep0_at (t : Fin 2304) (l : Fin 128) :
    kv0 x0 x1 x2 x3 x4 x5 z (ix3 0 t l) = ((w t (128 * 0 + l) + dkvOf q d kv kr 0 t l : ℝ) : EReal) := by
  unfold kv0
  rw [pay21_at, pay19_at, kLo_at, hz, dkv0_at h0 h1 h2 h3 h4 h5, ← EReal.coe_add, Nat.mul_zero, Nat.zero_add]

theorem kvStep1_at (t : Fin 2304) (l : Fin 128) :
    kv1 x0 x1 x2 x3 x4 x5 z (ix3 0 t l) = ((w t (128 * 1 + l) + dkvOf q d kv kr 1 t l : ℝ) : EReal) := by
  unfold kv1
  rw [pay21_at, pay19_at, kHi_at, hz, dkv1_at h0 h1 h2 h3 h4 h5, ← EReal.coe_add, Nat.mul_one]

/-- The tile pair of the keys' and values' gradient after one point. -/
theorem kvBlock_at (L : List (View.Piece (Elt Ideal) S1x2304x256 .f32)) (t : Fin 2304) (l : Fin 256) :
    View.canon (⟨kHi, kv1 x0 x1 x2 x3 x4 x5 z⟩ :: ⟨kLo, kv0 x0 x1 x2 x3 x4 x5 z⟩ :: L) (ix3 0 t l)
      = ((w t l + dkvOf q d kv kr (l.val / 128) t (l.val % 128) : ℝ) : EReal) := by
  have h := kPair_at (fun e t l => w t (128 * e + l) + dkvOf q d kv kr e t l) L
    (kvStep0_at h0 h1 h2 h3 h4 h5 hz) (kvStep1_at h0 h1 h2 h3 h4 h5 hz) t l
  rwa [show 128 * (l.val / 128) + l.val % 128 = l.val by omega] at h

/-- After the last point of the pair, which scales the keys' lanes. -/
theorem kvLast_at (L : List (View.Piece (Elt Ideal) S1x2304x256 .f32)) (t : Fin 2304) (l : Fin 256) :
    View.canon (⟨kHi, k1_pay2 k1_pay4 (kv1 x0 x1 x2 x3 x4 x5 z)⟩ :: ⟨kLo, k1_pay1 k1_pay4 (kv0 x0 x1 x2 x3 x4 x5 z)⟩ :: L)
        (ix3 0 t l)
      = (((w t l + dkvOf q d kv kr (l.val / 128) t (l.val % 128)) * (if l.val % 128 < 64 then scale else 1) : ℝ) : EReal) := by
  have h := kPair_at (fun e t l => (w t (128 * e + l) + dkvOf q d kv kr e t l) * (if l < 64 then scale else 1)) L
    (p1 := k1_pay2 k1_pay4 (kv1 x0 x1 x2 x3 x4 x5 z)) (p0 := k1_pay1 k1_pay4 (kv0 x0 x1 x2 x3 x4 x5 z))
    (fun t l => by rw [pay1_at, kvStep0_at h0 h1 h2 h3 h4 h5 hz, ← EReal.coe_mul])
    (fun t l => by rw [pay2_at, kvStep1_at h0 h1 h2 h3 h4 h5 hz, ← EReal.coe_mul]) t l
  rwa [show 128 * (l.val / 128) + l.val % 128 = l.val by omega] at h

omit hz
variable {y : Vec Ideal S1x2304x128 .f32} {u : ℕ → ℕ → ℝ}
  (hy : ∀ (t : Fin 2304) (l : Fin 128), y (ix3 0 t l) = ((u t l : ℝ) : EReal))
include hy

/-- The gradient of the shared rotary rows after one point. -/
theorem krStep_at (t : Fin 2304) (l : Fin 128) :
    krStep x0 x1 x2 x3 x4 x5 y (ix3 0 t l) = ((u t l + dkrOf q d kv kr t l : ℝ) : EReal) := by
  unfold krStep
  rw [pay21_at, pay19_at, hy, EReal.coe_add]
  congr 1
  refine (congrArg₂ (· + ·) (pay22_at t l) (pay22_at t l)).trans ?_
  rw [dk0_at h0 h1 h2 h3 h4 h5, dk1_at h0 h1 h2 h3 h4 h5, dkrOf]
  split
  · rw [EReal.coe_add]
  · rw [add_zero]; rfl

end

end Cert.KernelIdeal.Att
end
-- ==== Proof.ArrayModel.lean ====
/-
  The whole arrays of the attention, over the real numbers: queries `Q b i n` (batch, row, lane; head `h` in lanes
  `128 h …`), keys and values `KV b t n` (the same lanes), shared rotary keys `KR b t l`, arriving gradients
  `D b i n` (head `h` in lanes `64 h …`). The lanes are split into pairs of heads, as the two calls do.
-/
module

public import proofs.«01_k».proof.Proof.Pair
public import proofs.«01_k».proof.Proof.Scalars

@[expose] public section

noncomputable section

namespace Cert.Att

/-- Pair `p`'s lanes of a row of `w` lanes per pair. -/
def sub (w p : ℕ) (r : ℕ → ℝ) (n : ℕ) : ℝ := r (w * p + n)

section
variable (Q KV KR D : ℕ → ℕ → ℕ → ℝ)

/-- The attention's output. -/
def oArr (b i n : ℕ) : ℝ :=
  pairOut (sub 256 (n / 128) (Q b i)) (fun t => sub 256 (n / 128) (KV b t)) (KR b) (n % 128)

/-- The log-sums, by batch, head and row. -/
def lseArr (b h i : ℕ) : ℝ :=
  logsum (tile (h % 2) (sub 256 (h / 2) (Q b i))) (keysOf (fun t => sub 256 (h / 2) (KV b t)) (KR b) (h % 2))

/-- The gradient of the queries. -/
def dqArr (b i n : ℕ) : ℝ :=
  dqOf (sub 256 (n / 256) (Q b i)) (sub 128 (n / 256) (D b i)) (fun t => sub 256 (n / 256) (KV b t)) (KR b)
    (n % 256 / 128) (n % 128)

/-- What row block `j` of pair `p` adds to the tile pair of the keys' and values' gradient. -/
def kvTerm (b p j t l : ℕ) : ℝ :=
  dkvOf (fun i => sub 256 p (Q b (256 * j + i))) (fun i => sub 128 p (D b (256 * j + i)))
    (fun t => sub 256 p (KV b t)) (KR b) (l / 128) t (l % 128)

/-- What row block `j` of pair `p` adds to the gradient of the shared rotary keys. -/
def krTerm (b p j t l : ℕ) : ℝ :=
  dkrOf (fun i => sub 256 p (Q b (256 * j + i))) (fun i => sub 128 p (D b (256 * j + i)))
    (fun t => sub 256 p (KV b t)) (KR b) t l

/-- The gradient of the keys and values. -/
def dkvArr (b t n : ℕ) : ℝ :=
  (∑ j ∈ Finset.range 8, kvTerm Q KV KR D b (n / 256) j t (n % 256)) * (if n % 128 < 64 then scale else 1)

/-- The gradient of the shared rotary keys. -/
def dkrArr (b t l : ℕ) : ℝ :=
  (∑ k ∈ Finset.range 64, krTerm Q KV KR D b (k / 8) (k % 8) t l) * scale

end

end Cert.Att
end
-- ==== Proof.FwdArrays.lean ====
/-
  What the forward call leaves in its two result arrays, where the arrays that it reads are finite.
-/
module

public import proofs.«01_k».proof.Proof.Gen.KernelIdeal.Frame
public import proofs.«01_k».proof.Proof.BwdPair
public import proofs.«01_k».proof.Proof.ArrayModel
public import Idealize.ShloMosaic.Lib.Pipeline.Covers

@[expose] public section

set_option maxRecDepth 16384

noncomputable section

open Idealize.ShloMosaic Idealize.ShloMosaic.TcCoe Idealize.SL.Sem

namespace Cert.KernelIdeal.Att
open Cert.KernelIdeal Cert.KernelIdeal.Gen Cert.Att

theorem ix0_0 : ∀ t : Fin cfg0.N, win0_0.index t = ![t.val / 64, t.val % 8, t.val / 8 % 8] :=
  (by decide +kernel : ∀ t : Fin grid0.N, win0_0.index t = ![t.val / 64, t.val % 8, t.val / 8 % 8])
theorem ix0_1 : ∀ t : Fin cfg0.N, win0_1.index t = ![t.val / 64, 0, t.val / 8 % 8] :=
  (by decide +kernel : ∀ t : Fin grid0.N, win0_1.index t = ![t.val / 64, 0, t.val / 8 % 8])
theorem ix0_2 : ∀ t : Fin cfg0.N, win0_2.index t = ![t.val / 64, 0, 0] :=
  (by decide +kernel : ∀ t : Fin grid0.N, win0_2.index t = ![t.val / 64, 0, 0])
theorem ix0_3 : ∀ t : Fin cfg0.N, win0_3.index t = ![t.val / 64, t.val % 8, t.val / 8 % 8] :=
  (by decide +kernel : ∀ t : Fin grid0.N, win0_3.index t = ![t.val / 64, t.val % 8, t.val / 8 % 8])
theorem ix0_4 : ∀ t : Fin cfg0.N, win0_4.index t = ![t.val / 64, t.val / 8 % 8, t.val % 8, 0] :=
  (by decide +kernel : ∀ t : Fin grid0.N, win0_4.index t = ![t.val / 64, t.val / 8 % 8, t.val % 8, 0])

/-- An index of a block whose first axis has one member. -/
theorem eq_one3 {a b : ℕ} (y : (⟨3, ![1, a, b]⟩ : Shape).Idx) : y = ix3 0 (y 1) (y 2) := by
  funext k
  match k with
  | ⟨0, _⟩ => exact Fin.ext (Nat.lt_one_iff.1 (y 0).isLt)
  | ⟨1, _⟩ => rfl
  | ⟨2, _⟩ => rfl

theorem eq_one4 (y : S1x2x256x1.Idx) : y = ix4 0 (y 1) (y 2) 0 := by
  funext k
  match k with
  | ⟨0, _⟩ => exact Fin.ext (Nat.lt_one_iff.1 (y 0).isLt)
  | ⟨1, _⟩ => rfl
  | ⟨2, _⟩ => rfl
  | ⟨3, _⟩ => exact Fin.ext (Nat.lt_one_iff.1 (y 3).isLt)

theorem sHi_emb (i : Fin 256) : sHi.emb (ix4 0 0 i 0) = (ix4 0 1 i 0 : S1x2x256x1.Idx) := by
  funext a
  refine Fin.ext ?_
  rw [Rect.emb_apply]
  fin_cases a <;> simp [Rect.unit, ix4]

theorem sLo_emb (i : Fin 256) : sLo.emb (ix4 0 0 i 0) = (ix4 0 0 i 0 : S1x2x256x1.Idx) := by
  funext a
  refine Fin.ext ?_
  rw [Rect.emb_apply]
  fin_cases a <;> simp [Rect.unit, ix4]

/-! ## One point's blocks -/

section
variable {x0 : Vec Ideal S1x256x256 .bf16} {x1 : Vec Ideal S1x2304x256 .bf16} {x2 : Vec Ideal S1x2304x128 .bf16}
  {q kv kr : ℕ → ℕ → ℝ}
  (h0 : ∀ (i : Fin 256) (l : Fin 256), x0 (ix3 0 i l) = ((q i l : ℝ) : EReal))
  (h1 : ∀ (t : Fin 2304) (l : Fin 256), x1 (ix3 0 t l) = ((kv t l : ℝ) : EReal))
  (h2 : ∀ (t : Fin 2304) (l : Fin 128), x2 (ix3 0 t l) = ((kr t l : ℝ) : EReal))

include h1 in
theorem kvLo_at (t : Fin 2304) (l : Fin 128) : View.ld x1 kLo (ix3 0 t l) = ((tile 0 (kv t) l : ℝ) : EReal) := by
  rw [kLo_at, h1, tile, Nat.mul_zero, Nat.zero_add]
include h1 in
theorem kvHi_at (t : Fin 2304) (l : Fin 128) : View.ld x1 kHi (ix3 0 t l) = ((tile 1 (kv t) l : ℝ) : EReal) := by
  rw [kHi_at, h1, tile, Nat.mul_one]

include h0 h1 h2

/-- The pair's output tile. -/
theorem oBlock_at (i : Fin 256) (l : Fin 128) :
    k0_pay1 (k0_pay16 k0_pay2 (k0_pay8 (View.ld x1 kLo) x2 (View.ld x0 qLo)) (View.ld x1 kHi) x2 (View.ld x0 qHi))
      (ix3 0 i l) = ((pairOut (q i) kv kr l : ℝ) : EReal) := by
  have hs : ∀ v : FVec Ideal S256x128 .f32, k0_pay1 v (ix3 0 i l) = v (ix2 i l) := fun v => by
    unfold k0_pay1
    pointwise
  rw [hs, pair_at, pairOut]
  by_cases h : l.val < 64
  · rw [if_pos h, if_pos h]
    refine (o_at (kv := fun t => tile 0 (kv t)) (kr := kr) (q := fun i => tile 0 (q i))
      (kvLo_at h1) h2 (q0_at h0) i _).trans ?_
    rw [outOf, keysOf]
    show ((out _ _ _ ((l.val + 64) % 128) : ℝ) : EReal) = _
    rw [Nat.mod_eq_of_lt (by omega)]
  · rw [if_neg h, if_neg h]
    exact o_at (kv := fun t => tile 1 (kv t)) (kr := kr) (q := fun i => tile 1 (q i))
      (kvHi_at h1) h2 (q1_at h0) i l

/-- The pair's log-sums. -/
theorem lseBlock_at (L : List (View.Piece (Elt Ideal) S1x2x256x1 .f32)) (e : Fin 2) (i : Fin 256) :
    View.canon (⟨sHi, k0_pay15 k0_pay2 (View.ld x1 kHi) x2 (View.ld x0 qHi)⟩
        :: ⟨sLo, k0_pay9 (View.ld x1 kLo) x2 (View.ld x0 qLo)⟩ :: L) (ix4 0 e i 0)
      = ((logsum (tile e (q i)) (keysOf kv kr e) : ℝ) : EReal) := by
  match e with
  | ⟨0, _⟩ =>
    rw [View.canon_cons_of_not_mem]
    · refine (congrArg _ (sLo_emb i).symm).trans ?_
      rw [View.canon_cons_emb]
      exact lse_at (kv := fun t => tile 0 (kv t)) (kr := kr) (q := fun i => tile 0 (q i))
        (kvLo_at h1) h2 (q0_at h0) i
    · rw [Rect.mem_set_unit]
      intro hm
      have := hm 1
      simp [ix4] at this
  | ⟨1, _⟩ =>
    refine (congrArg _ (sHi_emb i).symm).trans ?_
    rw [View.canon_cons_emb, pay15_eq]
    exact lse_at (kv := fun t => tile 1 (kv t)) (kr := kr) (q := fun i => tile 1 (q i))
      (kvHi_at h1) h2 (q1_at h0) i

end

/-! ## The arrays -/

variable (V : (c : Dev nD) → (b : Ref sig .tc) → Buf (Elt Ideal) ((c : Thread nD τ).loc b))
variable {c : Dev nD} {Q KV KR : ℕ → ℕ → ℕ → ℝ}
  (hQ : ∀ y : S4x2048x2048.Idx, V c main_v2 y = ((Q (y 0) (y 1) (y 2) : ℝ) : EReal))
  (hKV : ∀ y : S4x2304x2048.Idx, V c main_v4 y = ((KV (y 0) (y 1) (y 2) : ℝ) : EReal))
  (hKR : ∀ y : S4x2304x128.Idx, V c main_v6 y = ((KR (y 0) (y 1) (y 2) : ℝ) : EReal))

include hQ in
theorem q0_blk (t : Fin cfg0.N) (i l : Fin 256) : iblk0 V c 0 t (ix3 0 i l)
    = ((sub 256 (t.val / 8 % 8) (Q (t.val / 64) (256 * (t.val % 8) + i)) l : ℝ) : EReal) := by
  blk_simp [iblk0]
  rw [hQ]
  blk_simp [ix0_0]
  rw [sub, mul_comm 256, mul_comm 256]
  rfl

include hKV in
theorem kv0_blk (t : Fin cfg0.N) (r : Fin 2304) (l : Fin 256) : iblk0 V c 1 t (ix3 0 r l)
    = ((sub 256 (t.val / 8 % 8) (KV (t.val / 64) r) l : ℝ) : EReal) := by
  blk_simp [iblk0]
  rw [hKV]
  blk_simp [ix0_1]
  rw [sub, mul_comm 256]
  simp

include hKR in
theorem kr0_blk (t : Fin cfg0.N) (r : Fin 2304) (l : Fin 128) : iblk0 V c 2 t (ix3 0 r l)
    = ((KR (t.val / 64) r l : ℝ) : EReal) := by
  blk_simp [iblk0]
  rw [hKR]
  blk_simp [ix0_2]
  simp

include hQ hKV hKR

/-- The output array after the forward call. -/
theorem o_array : (dat0 V c).arrAt 3 cfg0.N
    = fun y : S4x2048x1024.Idx => ((oArr Q KV KR (y 0) (y 1) (y 2) : ℝ) : EReal) := by
  refine (dat0 V c).arrAt_eq_of_covers 3 _ (by decide +kernel) fun t hf y => ?_
  blk_simp
  rw [after0_3]
  frame_out
  rw [eq_one3 y]
  refine (oBlock_at (q := fun i => sub 256 (t.val / 8 % 8) (Q (t.val / 64) (256 * (t.val % 8) + i)))
    (kv := fun r => sub 256 (t.val / 8 % 8) (KV (t.val / 64) r)) (kr := KR (t.val / 64)) (q0_blk V hQ t) (kv0_blk V hKV t) (kr0_blk V hKR t) (y 1) (y 2)).trans ?_
  blk_simp [ix0_3]
  have h2 : (y 2).val < 128 := (y 2).isLt
  rw [oArr, mul_comm 256 (t.val % 8), show (t.val / 8 % 8 * 128 + (y 2).val) / 128 = t.val / 8 % 8 by omega,
    show (t.val / 8 % 8 * 128 + (y 2).val) % 128 = (y 2).val by omega]

/-- The log-sums' array after the forward call. -/
theorem lse_array : (dat0 V c).arrAt 4 cfg0.N
    = fun y : S4x16x2048x1.Idx => ((lseArr Q KV KR (y 0) (y 1) (y 2) : ℝ) : EReal) := by
  refine (dat0 V c).arrAt_eq_of_covers 4 _ (by decide +kernel) fun t hf y => ?_
  blk_simp
  rw [after0_4]
  frame_out
  rw [eq_one4 y]
  refine (lseBlock_at (q := fun i => sub 256 (t.val / 8 % 8) (Q (t.val / 64) (256 * (t.val % 8) + i)))
    (kv := fun r => sub 256 (t.val / 8 % 8) (KV (t.val / 64) r)) (kr := KR (t.val / 64)) (q0_blk V hQ t) (kv0_blk V hKV t) (kr0_blk V hKR t) _ (y 1) (y 2)).trans ?_
  blk_simp [ix0_4]
  have h1 : (y 1).val < 2 := (y 1).isLt
  rw [lseArr, mul_comm 256 (t.val % 8), show (t.val / 8 % 8 * 2 + (y 1).val) / 2 = t.val / 8 % 8 by omega,
    show (t.val / 8 % 8 * 2 + (y 1).val) % 2 = (y 1).val by omega]

end Cert.KernelIdeal.Att
end
-- ==== Proof.BwdOpen.lean ====
/-
  What the backward call's three result buffers hold after a grid point, by the kind of point: the first of the grid's
  row blocks, of a pair, one in the middle, the last of a pair, the last of a batch.
-/
module

public import proofs.«01_k».proof.Proof.Gen.KernelIdeal.Frame
public import proofs.«01_k».proof.Proof.BwdPair

@[expose] public section

set_option maxRecDepth 16384

noncomputable section

open Idealize.ShloMosaic Idealize.ShloMosaic.TcCoe Idealize.SL.Sem

namespace Cert.KernelIdeal.Att
open Cert.KernelIdeal Cert.KernelIdeal.Gen Cert.Att Idealize.ShloMosaic.Pipeline

variable {F : FTy → Type} [FloatOps F] [Named F]
variable (V : (c : Dev nD) → (b : Ref sig .tc) → Buf (Elt F) ((c : Thread nD τ).loc b)) (c : Dev nD)

/-- The result `dq` at a batch's first point. -/
theorem dq_A (t : Fin cfg1.N) (h0 : t.val % 8 = 0) (h1 : t.val % 64 = 0) (h2 : ¬t.val % 8 = 7) (h3 : ¬t.val % 64 = 63) :
    ∃ L, (outsAt1 V c t.val t.isLt).1 = View.canon (⟨qHi, dq1 (iblk1 V c 0 t) (iblk1 V c 1 t) (iblk1 V c 2 t)
      (iblk1 V c 3 t) (iblk1 V c 4 t) (iblk1 V c 5 t)⟩
    :: ⟨qLo, dq0 (iblk1 V c 0 t) (iblk1 V c 1 t) (iblk1 V c 2 t)
      (iblk1 V c 3 t) (iblk1 V c 4 t) (iblk1 V c 5 t)⟩ :: L) := by
  rw [outsAt1_A V c t h0 h1 h2 h3]
  apply Exists.intro
  frame_open
  simp (disch := decide) only [↓ View.readCov_skip, ↓ View.readCov_cons_toLoadRect, ↓ View.readCov_fill]
  frame_out
  rfl

/-- The result `dkv` at a batch's first point. -/
theorem dkv_A (t : Fin cfg1.N) (h0 : t.val % 8 = 0) (h1 : t.val % 64 = 0) (h2 : ¬t.val % 8 = 7) (h3 : ¬t.val % 64 = 63) :
    ∃ L, (outsAt1 V c t.val t.isLt).2.1 = View.canon (⟨kHi, kv1 (iblk1 V c 0 t) (iblk1 V c 1 t) (iblk1 V c 2 t)
      (iblk1 V c 3 t) (iblk1 V c 4 t) (iblk1 V c 5 t) k1_pay8⟩
    :: ⟨kLo, kv0 (iblk1 V c 0 t) (iblk1 V c 1 t) (iblk1 V c 2 t)
      (iblk1 V c 3 t) (iblk1 V c 4 t) (iblk1 V c 5 t) k1_pay8⟩ :: L) := by
  rw [outsAt1_A V c t h0 h1 h2 h3]
  apply Exists.intro
  frame_open
  simp (disch := decide) only [↓ View.readCov_skip, ↓ View.readCov_cons_toLoadRect, ↓ View.readCov_fill]
  frame_out
  rfl

/-- The result `dkr` at a batch's first point. -/
theorem dkr_A (t : Fin cfg1.N) (h0 : t.val % 8 = 0) (h1 : t.val % 64 = 0) (h2 : ¬t.val % 8 = 7) (h3 : ¬t.val % 64 = 63) :
    (outsAt1 V c t.val t.isLt).2.2 = krStep (iblk1 V c 0 t) (iblk1 V c 1 t) (iblk1 V c 2 t)
      (iblk1 V c 3 t) (iblk1 V c 4 t) (iblk1 V c 5 t)
      k1_pay9 := by
  rw [outsAt1_A V c t h0 h1 h2 h3]
  frame_open
  simp (disch := decide) only [↓ View.readCov_skip, ↓ View.readCov_cons_toLoadRect, ↓ View.readCov_fill]
  frame_out
  rfl

/-- The result `dq` at a point inside a pair. -/
theorem dq_B (t : Fin cfg1.N) (h0 : ¬t.val % 8 = 0) (h1 : ¬t.val % 64 = 0) (h2 : ¬t.val % 8 = 7) (h3 : ¬t.val % 64 = 63) :
    ∃ L, (outsAt1 V c t.val t.isLt).1 = View.canon (⟨qHi, dq1 (iblk1 V c 0 t) (iblk1 V c 1 t) (iblk1 V c 2 t)
      (iblk1 V c 3 t) (iblk1 V c 4 t) (iblk1 V c 5 t)⟩
    :: ⟨qLo, dq0 (iblk1 V c 0 t) (iblk1 V c 1 t) (iblk1 V c 2 t)
      (iblk1 V c 3 t) (iblk1 V c 4 t) (iblk1 V c 5 t)⟩ :: L) := by
  rw [outsAt1_B V c t h0 h1 h2 h3]
  apply Exists.intro
  frame_open
  simp (disch := decide) only [↓ View.readCov_skip, ↓ View.readCov_cons_toLoadRect, ↓ View.readCov_fill]
  frame_out
  rfl

/-- The result `dkv` at a point inside a pair. -/
theorem dkv_B (t : Fin cfg1.N) (h0 : ¬t.val % 8 = 0) (h1 : ¬t.val % 64 = 0) (h2 : ¬t.val % 8 = 7) (h3 : ¬t.val % 64 = 63) :
    ∃ L, (outsAt1 V c t.val t.isLt).2.1 = View.canon (⟨kHi, kv1 (iblk1 V c 0 t) (iblk1 V c 1 t) (iblk1 V c 2 t)
      (iblk1 V c 3 t) (iblk1 V c 4 t) (iblk1 V c 5 t) (outsAt1 V c (t.val - 1) (lt_of_le_of_lt (Nat.sub_le t.val 1) t.isLt)).2.1⟩
    :: ⟨kLo, kv0 (iblk1 V c 0 t) (iblk1 V c 1 t) (iblk1 V c 2 t)
      (iblk1 V c 3 t) (iblk1 V c 4 t) (iblk1 V c 5 t) (outsAt1 V c (t.val - 1) (lt_of_le_of_lt (Nat.sub_le t.val 1) t.isLt)).2.1⟩ :: L) := by
  rw [outsAt1_B V c t h0 h1 h2 h3]
  apply Exists.intro
  frame_open
  simp (disch := decide) only [↓ View.readCov_skip, ↓ View.readCov_cons_toLoadRect, ↓ View.readCov_fill]
  frame_out
  rfl

/-- The result `dkr` at a point inside a pair. -/
theorem dkr_B (t : Fin cfg1.N) (h0 : ¬t.val % 8 = 0) (h1 : ¬t.val % 64 = 0) (h2 : ¬t.val % 8 = 7) (h3 : ¬t.val % 64 = 63) :
    (outsAt1 V c t.val t.isLt).2.2 = krStep (iblk1 V c 0 t) (iblk1 V c 1 t) (iblk1 V c 2 t)
      (iblk1 V c 3 t) (iblk1 V c 4 t) (iblk1 V c 5 t)
      (outsAt1 V c (t.val - 1) (lt_of_le_of_lt (Nat.sub_le t.val 1) t.isLt)).2.2 := by
  rw [outsAt1_B V c t h0 h1 h2 h3]
  frame_open
  simp (disch := decide) only [↓ View.readCov_skip, ↓ View.readCov_cons_toLoadRect, ↓ View.readCov_fill]
  frame_out
  rfl

/-- The result `dq` at a pair's last point. -/
theorem dq_C (t : Fin cfg1.N) (h0 : ¬t.val % 8 = 0) (h1 : ¬t.val % 64 = 0) (h2 : t.val % 8 = 7) (h3 : ¬t.val % 64 = 63) :
    ∃ L, (outsAt1 V c t.val t.isLt).1 = View.canon (⟨qHi, dq1 (iblk1 V c 0 t) (iblk1 V c 1 t) (iblk1 V c 2 t)
      (iblk1 V c 3 t) (iblk1 V c 4 t) (iblk1 V c 5 t)⟩
    :: ⟨qLo, dq0 (iblk1 V c 0 t) (iblk1 V c 1 t) (iblk1 V c 2 t)
      (iblk1 V c 3 t) (iblk1 V c 4 t) (iblk1 V c 5 t)⟩ :: L) := by
  rw [outsAt1_C V c t h0 h1 h2 h3]
  apply Exists.intro
  frame_open
  simp (disch := decide) only [↓ View.readCov_skip, ↓ View.readCov_cons_toLoadRect, ↓ View.readCov_fill]
  frame_out
  rfl

/-- The result `dkv` at a pair's last point. -/
theorem dkv_C (t : Fin cfg1.N) (h0 : ¬t.val % 8 = 0) (h1 : ¬t.val % 64 = 0) (h2 : t.val % 8 = 7) (h3 : ¬t.val % 64 = 63) :
    ∃ L, (outsAt1 V c t.val t.isLt).2.1 = View.canon (⟨kHi, k1_pay2 k1_pay4 (kv1 (iblk1 V c 0 t) (iblk1 V c 1 t) (iblk1 V c 2 t)
      (iblk1 V c 3 t) (iblk1 V c 4 t) (iblk1 V c 5 t) (outsAt1 V c (t.val - 1) (lt_of_le_of_lt (Nat.sub_le t.val 1) t.isLt)).2.1)⟩
    :: ⟨kLo, k1_pay1 k1_pay4 (kv0 (iblk1 V c 0 t) (iblk1 V c 1 t) (iblk1 V c 2 t)
      (iblk1 V c 3 t) (iblk1 V c 4 t) (iblk1 V c 5 t) (outsAt1 V c (t.val - 1) (lt_of_le_of_lt (Nat.sub_le t.val 1) t.isLt)).2.1)⟩ :: L) := by
  rw [outsAt1_C V c t h0 h1 h2 h3]
  apply Exists.intro
  frame_open
  simp (disch := decide) only [↓ View.readCov_skip, ↓ View.readCov_cons_toLoadRect, ↓ View.readCov_fill]
  frame_out
  rfl

/-- The result `dkr` at a pair's last point. -/
theorem dkr_C (t : Fin cfg1.N) (h0 : ¬t.val % 8 = 0) (h1 : ¬t.val % 64 = 0) (h2 : t.val % 8 = 7) (h3 : ¬t.val % 64 = 63) :
    (outsAt1 V c t.val t.isLt).2.2 = krStep (iblk1 V c 0 t) (iblk1 V c 1 t) (iblk1 V c 2 t)
      (iblk1 V c 3 t) (iblk1 V c 4 t) (iblk1 V c 5 t)
      (outsAt1 V c (t.val - 1) (lt_of_le_of_lt (Nat.sub_le t.val 1) t.isLt)).2.2 := by
  rw [outsAt1_C V c t h0 h1 h2 h3]
  frame_open
  simp (disch := decide) only [↓ View.readCov_skip, ↓ View.readCov_cons_toLoadRect, ↓ View.readCov_fill]
  frame_out
  rfl

/-- The result `dq` at a pair's first point. -/
theorem dq_D (t : Fin cfg1.N) (h0 : t.val % 8 = 0) (h1 : ¬t.val % 64 = 0) (h2 : ¬t.val % 8 = 7) (h3 : ¬t.val % 64 = 63) :
    ∃ L, (outsAt1 V c t.val t.isLt).1 = View.canon (⟨qHi, dq1 (iblk1 V c 0 t) (iblk1 V c 1 t) (iblk1 V c 2 t)
      (iblk1 V c 3 t) (iblk1 V c 4 t) (iblk1 V c 5 t)⟩
    :: ⟨qLo, dq0 (iblk1 V c 0 t) (iblk1 V c 1 t) (iblk1 V c 2 t)
      (iblk1 V c 3 t) (iblk1 V c 4 t) (iblk1 V c 5 t)⟩ :: L) := by
  rw [outsAt1_D V c t h0 h1 h2 h3]
  apply Exists.intro
  frame_open
  simp (disch := decide) only [↓ View.readCov_skip, ↓ View.readCov_cons_toLoadRect, ↓ View.readCov_fill]
  frame_out
  rfl

/-- The result `dkv` at a pair's first point. -/
theorem dkv_D (t : Fin cfg1.N) (h0 : t.val % 8 = 0) (h1 : ¬t.val % 64 = 0) (h2 : ¬t.val % 8 = 7) (h3 : ¬t.val % 64 = 63) :
    ∃ L, (outsAt1 V c t.val t.isLt).2.1 = View.canon (⟨kHi, kv1 (iblk1 V c 0 t) (iblk1 V c 1 t) (iblk1 V c 2 t)
      (iblk1 V c 3 t) (iblk1 V c 4 t) (iblk1 V c 5 t) k1_pay8⟩
    :: ⟨kLo, kv0 (iblk1 V c 0 t) (iblk1 V c 1 t) (iblk1 V c 2 t)
      (iblk1 V c 3 t) (iblk1 V c 4 t) (iblk1 V c 5 t) k1_pay8⟩ :: L) := by
  rw [outsAt1_D V c t h0 h1 h2 h3]
  apply Exists.intro
  frame_open
  simp (disch := decide) only [↓ View.readCov_skip, ↓ View.readCov_cons_toLoadRect, ↓ View.readCov_fill]
  frame_out
  rfl

/-- The result `dkr` at a pair's first point. -/
theorem dkr_D (t : Fin cfg1.N) (h0 : t.val % 8 = 0) (h1 : ¬t.val % 64 = 0) (h2 : ¬t.val % 8 = 7) (h3 : ¬t.val % 64 = 63) :
    (outsAt1 V c t.val t.isLt).2.2 = krStep (iblk1 V c 0 t) (iblk1 V c 1 t) (iblk1 V c 2 t)
      (iblk1 V c 3 t) (iblk1 V c 4 t) (iblk1 V c 5 t)
      (outsAt1 V c (t.val - 1) (lt_of_le_of_lt (Nat.sub_le t.val 1) t.isLt)).2.2 := by
  rw [outsAt1_D V c t h0 h1 h2 h3]
  frame_open
  simp (disch := decide) only [↓ View.readCov_skip, ↓ View.readCov_cons_toLoadRect, ↓ View.readCov_fill]
  frame_out
  rfl

/-- The result `dq` at a batch's last point. -/
theorem dq_E (t : Fin cfg1.N) (h0 : ¬t.val % 8 = 0) (h1 : ¬t.val % 64 = 0) (h2 : t.val % 8 = 7) (h3 : t.val % 64 = 63) :
    ∃ L, (outsAt1 V c t.val t.isLt).1 = View.canon (⟨qHi, dq1 (iblk1 V c 0 t) (iblk1 V c 1 t) (iblk1 V c 2 t)
      (iblk1 V c 3 t) (iblk1 V c 4 t) (iblk1 V c 5 t)⟩
    :: ⟨qLo, dq0 (iblk1 V c 0 t) (iblk1 V c 1 t) (iblk1 V c 2 t)
      (iblk1 V c 3 t) (iblk1 V c 4 t) (iblk1 V c 5 t)⟩ :: L) := by
  rw [outsAt1_E V c t h0 h1 h2 h3]
  apply Exists.intro
  frame_open
  simp (disch := decide) only [↓ View.readCov_skip, ↓ View.readCov_cons_toLoadRect, ↓ View.readCov_fill]
  frame_out
  rfl

/-- The result `dkv` at a batch's last point. -/
theorem dkv_E (t : Fin cfg1.N) (h0 : ¬t.val % 8 = 0) (h1 : ¬t.val % 64 = 0) (h2 : t.val % 8 = 7) (h3 : t.val % 64 = 63) :
    ∃ L, (outsAt1 V c t.val t.isLt).2.1 = View.canon (⟨kHi, k1_pay2 k1_pay4 (kv1 (iblk1 V c 0 t) (iblk1 V c 1 t) (iblk1 V c 2 t)
      (iblk1 V c 3 t) (iblk1 V c 4 t) (iblk1 V c 5 t) (outsAt1 V c (t.val - 1) (lt_of_le_of_lt (Nat.sub_le t.val 1) t.isLt)).2.1)⟩
    :: ⟨kLo, k1_pay1 k1_pay4 (kv0 (iblk1 V c 0 t) (iblk1 V c 1 t) (iblk1 V c 2 t)
      (iblk1 V c 3 t) (iblk1 V c 4 t) (iblk1 V c 5 t) (outsAt1 V c (t.val - 1) (lt_of_le_of_lt (Nat.sub_le t.val 1) t.isLt)).2.1)⟩ :: L) := by
  rw [outsAt1_E V c t h0 h1 h2 h3]
  apply Exists.intro
  frame_open
  simp (disch := decide) only [↓ View.readCov_skip, ↓ View.readCov_cons_toLoadRect, ↓ View.readCov_fill]
  frame_out
  rfl

/-- The result `dkr` at a batch's last point. -/
theorem dkr_E (t : Fin cfg1.N) (h0 : ¬t.val % 8 = 0) (h1 : ¬t.val % 64 = 0) (h2 : t.val % 8 = 7) (h3 : t.val % 64 = 63) :
    (outsAt1 V c t.val t.isLt).2.2 = k1_pay3 (krStep (iblk1 V c 0 t) (iblk1 V c 1 t) (iblk1 V c 2 t)
      (iblk1 V c 3 t) (iblk1 V c 4 t) (iblk1 V c 5 t)
      (outsAt1 V c (t.val - 1) (lt_of_le_of_lt (Nat.sub_le t.val 1) t.isLt)).2.2) := by
  rw [outsAt1_E V c t h0 h1 h2 h3]
  frame_open
  simp (disch := decide) only [↓ View.readCov_skip, ↓ View.readCov_cons_toLoadRect, ↓ View.readCov_fill]
  frame_out
  rfl

end Cert.KernelIdeal.Att
end
-- ==== Proof.BwdArrays.lean ====
/-
  What the backward call leaves in its three result arrays, where the arrays that it reads are finite and two of them
  are the forward call's results.
-/
module

public import proofs.«01_k».proof.Proof.FwdArrays
public import proofs.«01_k».proof.Proof.BwdOpen

@[expose] public section

set_option maxRecDepth 16384

noncomputable section

open Idealize.ShloMosaic Idealize.ShloMosaic.TcCoe Idealize.SL.Sem

namespace Cert.KernelIdeal.Att
open Cert.KernelIdeal Cert.KernelIdeal.Gen Cert.Att

theorem ix1_0 : ∀ t : Fin cfg1.N, win1_0.index t = ![t.val / 64, t.val % 8, t.val / 8 % 8] :=
  (by decide +kernel : ∀ t : Fin grid1.N, win1_0.index t = ![t.val / 64, t.val % 8, t.val / 8 % 8])
theorem ix1_1 : ∀ t : Fin cfg1.N, win1_1.index t = ![t.val / 64, 0, t.val / 8 % 8] :=
  (by decide +kernel : ∀ t : Fin grid1.N, win1_1.index t = ![t.val / 64, 0, t.val / 8 % 8])
theorem ix1_2 : ∀ t : Fin cfg1.N, win1_2.index t = ![t.val / 64, 0, 0] :=
  (by decide +kernel : ∀ t : Fin grid1.N, win1_2.index t = ![t.val / 64, 0, 0])
theorem ix1_3 : ∀ t : Fin cfg1.N, win1_3.index t = ![t.val / 64, t.val % 8, t.val / 8 % 8] :=
  (by decide +kernel : ∀ t : Fin grid1.N, win1_3.index t = ![t.val / 64, t.val % 8, t.val / 8 % 8])
theorem ix1_4 : ∀ t : Fin cfg1.N, win1_4.index t = ![t.val / 64, t.val / 8 % 8, t.val % 8, 0] :=
  (by decide +kernel : ∀ t : Fin grid1.N, win1_4.index t = ![t.val / 64, t.val / 8 % 8, t.val % 8, 0])
theorem ix1_5 : ∀ t : Fin cfg1.N, win1_5.index t = ![t.val / 64, t.val % 8, t.val / 8 % 8] :=
  (by decide +kernel : ∀ t : Fin grid1.N, win1_5.index t = ![t.val / 64, t.val % 8, t.val / 8 % 8])
theorem ix1_6 : ∀ t : Fin cfg1.N, win1_6.index t = ![t.val / 64, t.val % 8, t.val / 8 % 8] :=
  (by decide +kernel : ∀ t : Fin grid1.N, win1_6.index t = ![t.val / 64, t.val % 8, t.val / 8 % 8])
theorem ix1_7 : ∀ t : Fin cfg1.N, win1_7.index t = ![t.val / 64, 0, t.val / 8 % 8] :=
  (by decide +kernel : ∀ t : Fin grid1.N, win1_7.index t = ![t.val / 64, 0, t.val / 8 % 8])
theorem ix1_8 : ∀ t : Fin cfg1.N, win1_8.index t = ![t.val / 64, 0, 0] :=
  (by decide +kernel : ∀ t : Fin grid1.N, win1_8.index t = ![t.val / 64, 0, 0])

section Model
variable (Q KV KR D : ℕ → ℕ → ℕ → ℝ)

/-- A point's query rows, arriving gradients, and keys and values. -/
abbrev qAt (t : ℕ) : ℕ → ℕ → ℝ := fun i => sub 256 (t / 8 % 8) (Q (t / 64) (256 * (t % 8) + i))
abbrev dAt (t : ℕ) : ℕ → ℕ → ℝ := fun i => sub 128 (t / 8 % 8) (D (t / 64) (256 * (t % 8) + i))
abbrev kvAt (t : ℕ) : ℕ → ℕ → ℝ := fun r => sub 256 (t / 8 % 8) (KV (t / 64) r)

/-- The keys' and values' gradient, unscaled, summed over the row blocks of the pair up to point `t`. -/
def kvAcc (t r l : ℕ) : ℝ := ∑ j ∈ Finset.range (t % 8 + 1), kvTerm Q KV KR D (t / 64) (t / 8 % 8) j r l

/-- The shared rotary rows' gradient, unscaled, summed over the points of the batch up to `t`. -/
def krAcc (t r l : ℕ) : ℝ := ∑ k ∈ Finset.range (t % 64 + 1), krTerm Q KV KR D (t / 64) (k / 8) (k % 8) r l

theorem kvAcc_first {t : ℕ} (h : t % 8 = 0) (r l : ℕ) :
    kvAcc Q KV KR D t r l = 0 + dkvOf (qAt Q t) (dAt D t) (kvAt KV t) (KR (t / 64)) (l / 128) r (l % 128) := by
  rw [kvAcc, h, Finset.sum_range_one, zero_add, kvTerm]
  have e : ∀ i, 256 * 0 + i = 256 * (t % 8) + i := fun i => by rw [h]
  simp only [e]

theorem kvAcc_next {t : ℕ} (h : t % 8 ≠ 0) (r l : ℕ) :
    kvAcc Q KV KR D t r l = kvAcc Q KV KR D (t - 1) r l
      + dkvOf (qAt Q t) (dAt D t) (kvAt KV t) (KR (t / 64)) (l / 128) r (l % 128) := by
  rw [kvAcc, Finset.sum_range_succ, kvAcc, show (t - 1) % 8 + 1 = t % 8 by omega, show (t - 1) / 64 = t / 64 by omega,
    show (t - 1) / 8 % 8 = t / 8 % 8 by omega, kvTerm]

theorem krAcc_first {t : ℕ} (h : t % 64 = 0) (r l : ℕ) :
    krAcc Q KV KR D t r l = 0 + dkrOf (qAt Q t) (dAt D t) (kvAt KV t) (KR (t / 64)) r l := by
  rw [krAcc, h, Finset.sum_range_one, zero_add, krTerm]
  have e : ∀ i, 256 * (0 % 8) + i = 256 * (t % 8) + i := fun i => by rw [show t % 8 = 0 by omega]
  have e' : 0 / 8 = t / 8 % 8 := by omega
  simp only [e, e']

theorem krAcc_next {t : ℕ} (h : t % 64 ≠ 0) (r l : ℕ) :
    krAcc Q KV KR D t r l = krAcc Q KV KR D (t - 1) r l
      + dkrOf (qAt Q t) (dAt D t) (kvAt KV t) (KR (t / 64)) r l := by
  rw [krAcc, Finset.sum_range_succ, krAcc, show (t - 1) % 64 + 1 = t % 64 by omega, show (t - 1) / 64 = t / 64 by omega,
    krTerm, show t % 64 / 8 = t / 8 % 8 by omega, show t % 64 % 8 = t % 8 by omega]

end Model

variable (V : (c : Dev nD) → (b : Ref sig .tc) → Buf (Elt Ideal) ((c : Thread nD τ).loc b))
variable {c : Dev nD} {Q KV KR D : ℕ → ℕ → ℕ → ℝ}
  (hQ : ∀ y : S4x2048x2048.Idx, V c main_v2 y = ((Q (y 0) (y 1) (y 2) : ℝ) : EReal))
  (hKV : ∀ y : S4x2304x2048.Idx, V c main_v4 y = ((KV (y 0) (y 1) (y 2) : ℝ) : EReal))
  (hKR : ∀ y : S4x2304x128.Idx, V c main_v6 y = ((KR (y 0) (y 1) (y 2) : ℝ) : EReal))
  (hO : ∀ y : S4x2048x1024.Idx, V c main_v7_0 y = ((oArr Q KV KR (y 0) (y 1) (y 2) : ℝ) : EReal))
  (hL : ∀ y : S4x16x2048x1.Idx, V c main_v7_1 y = ((lseArr Q KV KR (y 0) (y 1) (y 2) : ℝ) : EReal))
  (hD : ∀ y : S4x2048x1024.Idx, V c main_arg3 y = ((D (y 0) (y 1) (y 2) : ℝ) : EReal))

include hQ in
theorem q1_blk (t : Fin cfg1.N) (i l : Fin 256) : iblk1 V c 0 t (ix3 0 i l) = ((qAt Q t i l : ℝ) : EReal) := by
  blk_simp [iblk1]
  rw [hQ]
  blk_simp [ix1_0]
  rw [qAt, sub, mul_comm 256, mul_comm 256]
  rfl

include hKV in
theorem kv1_blk (t : Fin cfg1.N) (r : Fin 2304) (l : Fin 256) :
    iblk1 V c 1 t (ix3 0 r l) = ((kvAt KV t r l : ℝ) : EReal) := by
  blk_simp [iblk1]
  rw [hKV]
  blk_simp [ix1_1]
  rw [kvAt, sub, mul_comm 256]
  simp

include hKR in
theorem kr1_blk (t : Fin cfg1.N) (r : Fin 2304) (l : Fin 128) :
    iblk1 V c 2 t (ix3 0 r l) = ((KR (t.val / 64) r l : ℝ) : EReal) := by
  blk_simp [iblk1]
  rw [hKR]
  blk_simp [ix1_2]
  simp

include hO in
theorem o1_blk (t : Fin cfg1.N) (i : Fin 256) (l : Fin 128) : iblk1 V c 3 t (ix3 0 i l)
    = ((pairOut (qAt Q t i) (kvAt KV t) (KR (t.val / 64)) l : ℝ) : EReal) := by
  blk_simp [iblk1]
  rw [hO]
  blk_simp [ix1_3]
  rw [oArr, mul_comm (t.val % 8), show (t.val / 8 % 8 * 128 + l.val) / 128 = t.val / 8 % 8 by omega,
    show (t.val / 8 % 8 * 128 + l.val) % 128 = l.val by omega]
  rfl

include hL in
theorem s1_blk (t : Fin cfg1.N) (e : Fin 2) (i : Fin 256) : iblk1 V c 4 t (ix4 0 e i 0)
    = ((logsum (tile e (qAt Q t i)) (keysOf (kvAt KV t) (KR (t.val / 64)) e) : ℝ) : EReal) := by
  blk_simp [iblk1]
  rw [hL]
  blk_simp [ix1_4]
  rw [lseArr, mul_comm (t.val % 8), show (t.val / 8 % 8 * 2 + e.val) / 2 = t.val / 8 % 8 by omega,
    show (t.val / 8 % 8 * 2 + e.val) % 2 = e.val by omega]
  rfl

include hD in
theorem d1_blk (t : Fin cfg1.N) (i : Fin 256) (l : Fin 128) : iblk1 V c 5 t (ix3 0 i l)
    = ((dAt D t i l : ℝ) : EReal) := by
  blk_simp [iblk1]
  rw [hD]
  blk_simp [ix1_5]
  rw [dAt, sub, mul_comm 256, mul_comm 128]
  rfl

include hQ hKV hKR hO hL hD

/-- The queries' gradient after a point. -/
theorem dq_point (t : Fin cfg1.N) (i l : Fin 256) : (outsAt1 V c t.val t.isLt).1 (ix3 0 i l)
    = ((dqOf (qAt Q t i) (dAt D t i) (kvAt KV t) (KR (t.val / 64)) (l.val / 128) (l.val % 128) : ℝ) : EReal) := by
  have key : ∃ L, (outsAt1 V c t.val t.isLt).1 = View.canon
      (⟨qHi, dq1 (iblk1 V c 0 t) (iblk1 V c 1 t) (iblk1 V c 2 t) (iblk1 V c 3 t) (iblk1 V c 4 t) (iblk1 V c 5 t)⟩
      :: ⟨qLo, dq0 (iblk1 V c 0 t) (iblk1 V c 1 t) (iblk1 V c 2 t) (iblk1 V c 3 t) (iblk1 V c 4 t) (iblk1 V c 5 t)⟩ :: L) := by
    by_cases h0 : t.val % 8 = 0
    · by_cases h1 : t.val % 64 = 0
      · exact dq_A V c t h0 h1 (by omega) (by omega)
      · exact dq_D V c t h0 h1 (by omega) (by omega)
    · by_cases h2 : t.val % 8 = 7
      · by_cases h3 : t.val % 64 = 63
        · exact dq_E V c t h0 (by omega) h2 h3
        · exact dq_C V c t h0 (by omega) h2 h3
      · exact dq_B V c t h0 (by omega) h2 (by omega)
  obtain ⟨L, e⟩ := key
  rw [e]
  exact dqBlock_at (q := qAt Q t) (d := dAt D t) (kv := kvAt KV t) (kr := KR (t.val / 64)) (q1_blk V hQ t)
    (kv1_blk V hKV t) (kr1_blk V hKR t) (o1_blk V hO t) (s1_blk V hL t) (d1_blk V hD t) L i l

/-- The keys' and values' gradient after a point: the sum so far, scaled once the pair is through. -/
theorem dkv_point (n : ℕ) (hn : n < cfg1.N) (r : Fin 2304) (l : Fin 256) : (outsAt1 V c n hn).2.1 (ix3 0 r l)
    = ((kvAcc Q KV KR D n r l * (if n % 8 = 7 then (if l.val % 128 < 64 then scale else 1) else 1) : ℝ) : EReal) := by
  induction n using Nat.strong_induction_on generalizing r l with
  | _ n ih =>
    let t : Fin cfg1.N := ⟨n, hn⟩
    have b0 := q1_blk V hQ t
    have b1 := kv1_blk V hKV t
    have b2 := kr1_blk V hKR t
    have b3 := o1_blk V hO t
    have b4 := s1_blk V hL t
    have b5 := d1_blk V hD t
    by_cases h0 : t.val % 8 = 0
    · have e : ∃ L, (outsAt1 V c t.val t.isLt).2.1 = View.canon
          (⟨kHi, kv1 (iblk1 V c 0 t) (iblk1 V c 1 t) (iblk1 V c 2 t) (iblk1 V c 3 t) (iblk1 V c 4 t) (iblk1 V c 5 t)
            (k1_pay8 (F := Ideal))⟩
          :: ⟨kLo, kv0 (iblk1 V c 0 t) (iblk1 V c 1 t) (iblk1 V c 2 t) (iblk1 V c 3 t) (iblk1 V c 4 t) (iblk1 V c 5 t)
            (k1_pay8 (F := Ideal))⟩
          :: L) := by
        by_cases h1 : t.val % 64 = 0
        · exact dkv_A V c t h0 h1 (by omega) (by omega)
        · exact dkv_D V c t h0 h1 (by omega) (by omega)
      obtain ⟨L, e⟩ := e
      refine (congrFun e _).trans ?_
      rw [if_neg (show ¬ n % 8 = 7 by change n % 8 = 0 at h0; omega), mul_one, kvAcc_first Q KV KR D h0]
      exact kvBlock_at (q := qAt Q n) (d := dAt D n) (kv := kvAt KV n) (kr := KR (n / 64)) b0 b1 b2 b3 b4 b5
        (w := fun _ _ => 0) (fun t l => pay8_at t l) L r l
    · have hz : ∀ (r : Fin 2304) (l : Fin 256),
          (outsAt1 V c (n - 1) (lt_of_le_of_lt (Nat.sub_le n 1) hn)).2.1 (ix3 0 r l)
            = ((kvAcc Q KV KR D (n - 1) r l : ℝ) : EReal) := fun r l => by
        change ¬ n % 8 = 0 at h0
        rw [ih (n - 1) (by omega), if_neg (by omega), mul_one]
      by_cases h2 : t.val % 8 = 7
      · obtain ⟨L, e⟩ : ∃ L, (outsAt1 V c t.val t.isLt).2.1 = View.canon
            (⟨kHi, k1_pay2 k1_pay4 (kv1 (iblk1 V c 0 t) (iblk1 V c 1 t) (iblk1 V c 2 t) (iblk1 V c 3 t) (iblk1 V c 4 t)
              (iblk1 V c 5 t) (outsAt1 V c (n - 1) (lt_of_le_of_lt (Nat.sub_le n 1) hn)).2.1)⟩
            :: ⟨kLo, k1_pay1 k1_pay4 (kv0 (iblk1 V c 0 t) (iblk1 V c 1 t) (iblk1 V c 2 t) (iblk1 V c 3 t) (iblk1 V c 4 t)
              (iblk1 V c 5 t) (outsAt1 V c (n - 1) (lt_of_le_of_lt (Nat.sub_le n 1) hn)).2.1)⟩ :: L) := by
          by_cases h3 : t.val % 64 = 63
          · exact dkv_E V c t h0 (by omega) h2 h3
          · exact dkv_C V c t h0 (by omega) h2 h3
        refine (congrFun e _).trans ?_
        rw [if_pos (show n % 8 = 7 from h2), kvAcc_next Q KV KR D h0]
        exact kvLast_at (q := qAt Q n) (d := dAt D n) (kv := kvAt KV n) (kr := KR (n / 64)) b0 b1 b2 b3 b4 b5
          (w := fun r l => kvAcc Q KV KR D (n - 1) r l) hz L r l
      · obtain ⟨L, e⟩ := dkv_B V c t h0 (by omega) h2 (by omega)
        refine (congrFun e _).trans ?_
        rw [if_neg (show ¬ n % 8 = 7 from h2), mul_one, kvAcc_next Q KV KR D h0]
        exact kvBlock_at (q := qAt Q n) (d := dAt D n) (kv := kvAt KV n) (kr := KR (n / 64)) b0 b1 b2 b3 b4 b5
          (w := fun r l => kvAcc Q KV KR D (n - 1) r l) hz L r l

/-- The shared rotary rows' gradient after a point: the sum so far, scaled once the batch is through. -/
theorem dkr_point (n : ℕ) (hn : n < cfg1.N) (r : Fin 2304) (l : Fin 128) : (outsAt1 V c n hn).2.2 (ix3 0 r l)
    = ((krAcc Q KV KR D n r l * (if n % 64 = 63 then scale else 1) : ℝ) : EReal) := by
  induction n using Nat.strong_induction_on generalizing r l with
  | _ n ih =>
    let t : Fin cfg1.N := ⟨n, hn⟩
    have b0 := q1_blk V hQ t
    have b1 := kv1_blk V hKV t
    have b2 := kr1_blk V hKR t
    have b3 := o1_blk V hO t
    have b4 := s1_blk V hL t
    have b5 := d1_blk V hD t
    by_cases h1 : t.val % 64 = 0
    · refine (congrFun (dkr_A V c t (by omega) h1 (by omega) (by omega)) _).trans ?_
      rw [if_neg (show ¬ n % 64 = 63 by change n % 64 = 0 at h1; omega), mul_one, krAcc_first Q KV KR D h1]
      exact krStep_at (q := qAt Q n) (d := dAt D n) (kv := kvAt KV n) (kr := KR (n / 64)) b0 b1 b2 b3 b4 b5
        (u := fun _ _ => 0) (fun t l => pay9_at t l) r l
    · have hy : ∀ (r : Fin 2304) (l : Fin 128),
          (outsAt1 V c (n - 1) (lt_of_le_of_lt (Nat.sub_le n 1) hn)).2.2 (ix3 0 r l)
            = ((krAcc Q KV KR D (n - 1) r l : ℝ) : EReal) := fun r l => by
        change ¬ n % 64 = 0 at h1
        rw [ih (n - 1) (by omega), if_neg (by omega), mul_one]
      have step := krStep_at (q := qAt Q n) (d := dAt D n) (kv := kvAt KV n) (kr := KR (n / 64)) b0 b1 b2 b3 b4 b5
        (u := fun r l => krAcc Q KV KR D (n - 1) r l) hy r l
      by_cases h3 : t.val % 64 = 63
      · refine (congrFun (dkr_E V c t (by omega) h1 (by omega) h3) _).trans ?_
        rw [if_pos (show n % 64 = 63 from h3), krAcc_next Q KV KR D h1, pay3_at, EReal.coe_mul]
        exact congrArg (· * ((scale : ℝ) : EReal)) step
      · rw [if_neg (show ¬ n % 64 = 63 from h3), mul_one, krAcc_next Q KV KR D h1]
        by_cases h0 : t.val % 8 = 0
        · exact (congrFun (dkr_D V c t h0 h1 (by omega) h3) _).trans step
        · by_cases h2 : t.val % 8 = 7
          · exact (congrFun (dkr_C V c t h0 h1 h2 h3) _).trans step
          · exact (congrFun (dkr_B V c t h0 h1 h2 h3) _).trans step

/-- The queries' gradient array after the backward call. -/
theorem dq_array : (dat1 V c).arrAt 6 cfg1.N
    = fun y : S4x2048x2048.Idx => ((dqArr Q KV KR D (y 0) (y 1) (y 2) : ℝ) : EReal) := by
  refine (dat1 V c).arrAt_eq_of_covers 6 _ (by decide +kernel) fun t hf y => ?_
  blk_simp
  rw [after1_6]
  rw [eq_one3 y]
  refine (dq_point V hQ hKV hKR hO hL hD t (y 1) (y 2)).trans ?_
  blk_simp [ix1_6]
  have h2 : (y 2).val < 256 := (y 2).isLt
  rw [dqArr, mul_comm (t.val % 8), show (t.val / 8 % 8 * 256 + (y 2).val) / 256 = t.val / 8 % 8 by omega,
    show (t.val / 8 % 8 * 256 + (y 2).val) % 256 = (y 2).val by omega]
  rw [show (t.val / 8 % 8 * 256 + (y 2).val) % 128 = (y 2).val % 128 by omega]

/-- The keys' and values' gradient array after the backward call. -/
theorem dkv_array : (dat1 V c).arrAt 7 cfg1.N
    = fun y : S4x2304x2048.Idx => ((dkvArr Q KV KR D (y 0) (y 1) (y 2) : ℝ) : EReal) := by
  refine (dat1 V c).arrAt_eq_of_covers 7 _ (by decide +kernel) fun t hf y => ?_
  have h7 := (flush1_7 t).mp hf
  blk_simp
  rw [after1_7]
  rw [eq_one3 y]
  refine (dkv_point V hQ hKV hKR hO hL hD t.val t.isLt (y 1) (y 2)).trans ?_
  blk_simp [ix1_7]
  have h2 : (y 2).val < 256 := (y 2).isLt
  rw [if_pos h7, kvAcc, h7, dkvArr]
  rw [show (t.val / 8 % 8 * 256 + (y 2).val) / 256 = t.val / 8 % 8 by omega,
    show (t.val / 8 % 8 * 256 + (y 2).val) % 256 = (y 2).val by omega,
    show (t.val / 8 % 8 * 256 + (y 2).val) % 128 = (y 2).val % 128 by omega]

/-- The shared rotary rows' gradient array after the backward call. -/
theorem dkr_array : (dat1 V c).arrAt 8 cfg1.N
    = fun y : S4x2304x128.Idx => ((dkrArr Q KV KR D (y 0) (y 1) (y 2) : ℝ) : EReal) := by
  refine (dat1 V c).arrAt_eq_of_covers 8 _ (by decide +kernel) fun t hf y => ?_
  have h7 := (flush1_8 t).mp hf
  blk_simp
  rw [after1_8]
  rw [eq_one3 y]
  refine (dkr_point V hQ hKV hKR hO hL hD t.val t.isLt (y 1) (y 2)).trans ?_
  blk_simp [ix1_8]
  rw [if_pos h7, krAcc, h7, dkrArr]

end Cert.KernelIdeal.Att
end
-- ==== Proof.RefTerms.lean ====
/-
  The reference's results as terms over its four arguments, named stage by stage.
-/
module

public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Att
open Cert.ReferenceIdeal Cert.ReferenceIdeal.Gen

variable {F : FTy → Type} [FloatOps F]

section
variable (x0 : FVec F S4x2048x16x96 .f32) (x1 : FVec F S4x2304x16x128 .f32) (x2 : FVec F S4x2304x32 .f32)
  (x3 : FVec F S4x2048x1024 .f32)

/-- The queries' lanes that meet the heads' own keys, and those that meet the shared keys. -/
def qn : FVec F S4x2048x16x64 .f32 := extractStridedSlice S4x2048x16x64 ![0, 0, 0, 0] x0 slices_S4x2048x16x96_S4x2048x16x64_0_0_0_0
def qr : FVec F S4x2048x16x32 .f32 := extractStridedSlice S4x2048x16x32 ![0, 0, 0, 64] x0 slices_S4x2048x16x96_S4x2048x16x32_0_0_0_64
/-- The heads' own keys and their values. -/
def kn : FVec F S4x2304x16x64 .f32 := extractStridedSlice S4x2304x16x64 ![0, 0, 0, 0] x1 slices_S4x2304x16x128_S4x2304x16x64_0_0_0_0
def vs : FVec F S4x2304x16x64 .f32 := extractStridedSlice S4x2304x16x64 ![0, 0, 0, 64] x1 slices_S4x2304x16x128_S4x2304x16x64_0_0_0_64
/-- The scaled scores. -/
def score : FVec F S4x16x2048x2304 .f32 :=
  mulf (addf (Host.dotGeneral dot_S4x2048x16x64_S4x2304x16x64_S4x16x2048x2304_3_3_1_1_02_02 none (qn x0) (kn x1))
      (transpose S4x16x2048x2304 [0, 3, 2, 1]
        (Host.dotGeneral dot_S4x2304x32_S4x2048x16x32_S4x2304x2048x16_2_3_1_12_0_0 none x2 (qr x0))
        transposes_S4x2304x2048x16_S4x16x2048x2304_0_3_2_1))
    (broadcastInDim S4x16x2048x2304 ![] bcast_S_S4x16x2048x2304 (constant S_ .f32 0x3DD105EC#32))
/-- The rows' maxima. -/
def top (s : FVec F S4x16x2048x2304 .f32) : FVec F S4x16x2048 .f32 :=
  maximumf (broadcastInDim S4x16x2048 ![] bcast_S_S4x16x2048 (constant S_ .f32 0xFF800000#32))
    (Host.reduce FloatOps.maximumf s (constant S_ .f32 0xFF800000#32) reducesTo_S4x16x2048x2304_S4x16x2048_d3 h_S_)
/-- The exponentials of the scores less their row's maximum. -/
def expo (s : FVec F S4x16x2048x2304 .f32) : FVec F S4x16x2048x2304 .f32 :=
  Host.exp (subf s (broadcastInDim S4x16x2048x2304 ![0, 1, 2, 3] bcast_S4x16x2048x1_S4x16x2048x2304_0_1_2_3
    (broadcastInDim S4x16x2048x1 ![0, 1, 2] bcast_S4x16x2048_S4x16x2048x1_0_1_2 (top s))))
/-- The rows' sums. -/
def total (e : FVec F S4x16x2048x2304 .f32) : FVec F S4x16x2048x1 .f32 :=
  broadcastInDim S4x16x2048x1 ![0, 1, 2] bcast_S4x16x2048_S4x16x2048x1_0_1_2
    (Host.reduceAdd e (constant S_ .f32 0x00000000#32) reducesTo_S4x16x2048x2304_S4x16x2048_d3 h_S_)
/-- A number per row, over the row. -/
def wide (l : FVec F S4x16x2048x1 .f32) : FVec F S4x16x2048x2304 .f32 :=
  broadcastInDim S4x16x2048x2304 ![0, 1, 2, 3] bcast_S4x16x2048x1_S4x16x2048x2304_0_1_2_3 l
/-- The probabilities. -/
def probs (e : FVec F S4x16x2048x2304 .f32) : FVec F S4x16x2048x2304 .f32 := Host.divf e (wide (total e))
/-- The attention's output from the probabilities. -/
def output (p : FVec F S4x16x2048x2304 .f32) : FVec F S4x2048x1024 .f32 :=
  shapeCast _ (transpose S4x2048x16x64 [0, 3, 1, 2]
    (Host.dotGeneral dot_S4x2304x16x64_S4x16x2048x2304_S4x16x64x2048_1_3_3_2_02_01 none (vs x1) p)
    transposes_S4x16x64x2048_S4x2048x16x64_0_3_1_2) shapeCasts_S4x2048x16x64_S4x2048x1024
/-- The arriving gradient, by head. -/
def dout : FVec F S4x16x64x2048 .f32 :=
  transpose S4x16x64x2048 [0, 2, 3, 1] (shapeCast S4x2048x16x64 x3 shapeCasts_S4x2048x1024_S4x2048x16x64)
    transposes_S4x2048x16x64_S4x16x64x2048_0_2_3_1
/-- The gradient of the probabilities. -/
def dpr : FVec F S4x16x2048x2304 .f32 :=
  Host.dotGeneral dot_S4x16x64x2048_S4x2304x16x64_S4x16x2048x2304_2_3_3_1_01_02 none (dout x3) (vs x1)
/-- The gradient of the scores, from the gradient of the probabilities, the exponentials and the rows' sums. -/
def dsc (dp e : FVec F S4x16x2048x2304 .f32) (l : FVec F S4x16x2048x1 .f32) : FVec F S4x16x2048x2304 .f32 :=
  mulf (mulf (addf (Host.divf dp (wide l))
      (broadcastInDim S4x16x2048x2304 ![0, 1, 2] bcast_S4x16x2048_S4x16x2048x2304_0_1_2
        (Host.reduceAdd (Host.negf (shapeCast S4x16x2048x1
          (Host.reduceAdd (mulf (mulf dp (wide (Host.divf
              (broadcastInDim S4x16x2048x1 ![] bcast_S_S4x16x2048x1 (constant S_ .f32 0x3F800000#32)) (mulf l l)))) e)
            (constant S_ .f32 0x00000000#32) reducesTo_S4x16x2048x2304_S4x16x2048_d3 h_S_) shapeCasts_S4x16x2048_S4x16x2048x1))
          (constant S_ .f32 0x00000000#32) reducesTo_S4x16x2048x1_S4x16x2048_d3 h_S_))) e)
    (broadcastInDim S4x16x2048x2304 ![] bcast_S_S4x16x2048x2304 (constant S_ .f32 0x3DD105EC#32))
/-- The scores' gradient with the keys in front. -/
def dscT (ds : FVec F S4x16x2048x2304 .f32) : FVec F S4x2304x2048x16 .f32 :=
  transpose S4x2304x2048x16 [0, 3, 2, 1] ds transposes_S4x16x2048x2304_S4x2304x2048x16_0_3_2_1
/-- The gradient of the queries, from the scores' gradient. -/
def dqs (ds : FVec F S4x16x2048x2304 .f32) : FVec F S4x2048x2048 .f32 :=
  shapeCast _ (pad S4x2048x16x128 ![0, 0, 0, 0] ![0, 0, 0, 32] ![0, 0, 0, 0]
    (addf
      (pad S4x2048x16x96 ![0, 0, 0, 64] ![0, 0, 0, 0] ![0, 0, 0, 0]
        (Host.dotGeneral dot_S4x2304x2048x16_S4x2304x32_S4x2048x16x32_1_1_23_2_0_0 none (dscT ds) x2)
        (constant S_ .f32 0x00000000#32) pads_S4x2048x16x32_S4x2048x16x96_000_000_000_6400 h_S_)
      (pad S4x2048x16x96 ![0, 0, 0, 0] ![0, 0, 0, 32] ![0, 0, 0, 0]
        (transpose S4x2048x16x64 [0, 2, 1, 3]
          (Host.dotGeneral dot_S4x16x2048x2304_S4x2304x16x64_S4x16x2048x64_3_1_2_3_01_02 none ds (kn x1))
          transposes_S4x16x2048x64_S4x2048x16x64_0_2_1_3)
        (constant S_ .f32 0x00000000#32) pads_S4x2048x16x64_S4x2048x16x96_000_000_000_0320 h_S_))
    (sitofp .f32 (constantI S_ 32 0#32)) pads_S4x2048x16x96_S4x2048x16x128_000_000_000_0320 h_S_)
    shapeCasts_S4x2048x16x128_S4x2048x2048
/-- The gradient of the keys and values, from the probabilities and the scores' gradient. -/
def dkvs (p ds : FVec F S4x16x2048x2304 .f32) : FVec F S4x2304x2048 .f32 :=
  shapeCast _ (addf
      (pad S4x2304x16x128 ![0, 0, 0, 64] ![0, 0, 0, 0] ![0, 0, 0, 0]
        (transpose S4x2304x16x64 [0, 3, 1, 2]
          (Host.dotGeneral dot_S4x16x64x2048_S4x16x2048x2304_S4x16x64x2304_3_2_2_3_01_01 none (dout x3) p)
          transposes_S4x16x64x2304_S4x2304x16x64_0_3_1_2)
        (constant S_ .f32 0x00000000#32) pads_S4x2304x16x64_S4x2304x16x128_000_000_000_6400 h_S_)
      (pad S4x2304x16x128 ![0, 0, 0, 0] ![0, 0, 0, 64] ![0, 0, 0, 0]
        (transpose S4x2304x16x64 [0, 2, 1, 3]
          (Host.dotGeneral dot_S4x16x2048x2304_S4x2048x16x64_S4x16x2304x64_2_1_3_3_01_02 none ds (qn x0))
          transposes_S4x16x2304x64_S4x2304x16x64_0_2_1_3)
        (constant S_ .f32 0x00000000#32) pads_S4x2304x16x64_S4x2304x16x128_000_000_000_0640 h_S_))
    shapeCasts_S4x2304x16x128_S4x2304x2048
/-- The gradient of the shared keys, from the scores' gradient. -/
def dkrs (ds : FVec F S4x16x2048x2304 .f32) : FVec F S4x2304x128 .f32 :=
  pad S4x2304x128 ![0, 0, 64] ![0, 0, 32] ![0, 0, 0]
    (Host.dotGeneral dot_S4x2304x2048x16_S4x2048x16x32_S4x2304x32_23_12_1_3_0_0 none (dscT ds) (qr x0))
    (sitofp .f32 (constantI S_ 32 0#32)) pads_S4x2304x32_S4x2304x128_000_000_64320 h_S_

/-- The exponentials and the scores' gradient, from the arguments. -/
def ex : FVec F S4x16x2048x2304 .f32 := expo (score x0 x1 x2)
def dsAll : FVec F S4x16x2048x2304 .f32 := dsc (dpr x1 x3) (ex x0 x1 x2) (total (ex x0 x1 x2))

end

section
variable (m : (ℓ : Loc nD τ sig) → Buf (Elt F) ℓ) (c : Dev nD)

/-- The four results are these terms. -/
theorem res0_eq : Value.res_main_v40 m c
    = output (m ((c.tc : Thread nD τ).loc main_arg1)) (probs (ex (m ((c.tc : Thread nD τ).loc main_arg0))
        (m ((c.tc : Thread nD τ).loc main_arg1)) (m ((c.tc : Thread nD τ).loc main_arg2)))) := rfl

theorem res1_eq : Value.res_main_v74 m c
    = dqs (m ((c.tc : Thread nD τ).loc main_arg1)) (m ((c.tc : Thread nD τ).loc main_arg2))
      (dsAll (m ((c.tc : Thread nD τ).loc main_arg0)) (m ((c.tc : Thread nD τ).loc main_arg1))
        (m ((c.tc : Thread nD τ).loc main_arg2)) (m ((c.tc : Thread nD τ).loc main_arg3))) := rfl

theorem res2_eq : Value.res_main_v76 m c
    = dkvs (m ((c.tc : Thread nD τ).loc main_arg0)) (m ((c.tc : Thread nD τ).loc main_arg3))
      (probs (ex (m ((c.tc : Thread nD τ).loc main_arg0)) (m ((c.tc : Thread nD τ).loc main_arg1))
        (m ((c.tc : Thread nD τ).loc main_arg2))))
      (dsAll (m ((c.tc : Thread nD τ).loc main_arg0)) (m ((c.tc : Thread nD τ).loc main_arg1))
        (m ((c.tc : Thread nD τ).loc main_arg2)) (m ((c.tc : Thread nD τ).loc main_arg3))) := rfl

theorem res3_eq : Value.res_main_v75 m c
    = dkrs (m ((c.tc : Thread nD τ).loc main_arg0))
      (dsAll (m ((c.tc : Thread nD τ).loc main_arg0)) (m ((c.tc : Thread nD τ).loc main_arg1))
        (m ((c.tc : Thread nD τ).loc main_arg2)) (m ((c.tc : Thread nD τ).loc main_arg3))) := rfl

end
end Cert.ReferenceIdeal.Att
end
-- ==== Proof.Spec.lean ====
/-
  The attention's output and its gradient by head and over whole arrays, on the real numbers, and the kernel's arrays
  (summed by pairs of heads and blocks of 256 query rows) in this form.
-/
module

public import proofs.«01_k».proof.Proof.ArrayModel

@[expose] public section

noncomputable section

namespace Cert.Att

/-- Head `h`'s row of the arriving gradient, in the upper lanes, from a row that holds 64 lanes per head. -/
def gHead (h : ℕ) (r : ℕ → ℝ) (l : ℕ) : ℝ := if l < 64 then 0 else r (64 * h + (l - 64))

theorem tile_sub (e p : ℕ) (r : ℕ → ℝ) : tile e (sub 256 p r) = tile (2 * p + e) r := by
  funext l
  rw [tile, tile, sub]
  congr 1
  ring

theorem keysOf_sub (e p : ℕ) (kv kr : ℕ → ℕ → ℝ) :
    keysOf (fun t => sub 256 p (kv t)) kr e = keysOf kv kr (2 * p + e) := by
  simp only [keysOf, tile_sub]

theorem gRow_sub {e : ℕ} (he : e < 2) (p : ℕ) (r : ℕ → ℝ) : gRow e (sub 128 p r) = gHead (2 * p + e) r := by
  funext l
  obtain rfl | rfl : e = 0 ∨ e = 1 := by omega
  · rw [gRow, if_pos rfl, fst64, gHead]
    split
    · rfl
    · rw [sub]
      congr 1
      ring
  · rw [gRow, if_neg one_ne_zero, snd64, gHead]
    split
    · rfl
    · rw [sub]
      congr 1
      omega

/-- A sum over 2048 rows is the sum over 8 blocks of 256. -/
theorem sum_blocks (f : ℕ → ℝ) :
    ∑ j ∈ Finset.range 8, ∑ i : Fin 256, f (256 * j + i) = ∑ i : Fin 2048, f i := by
  have h : ∀ n : ℕ, ∑ j ∈ Finset.range n, ∑ i : Fin 256, f (256 * j + i) = ∑ i ∈ Finset.range (256 * n), f i := by
    intro n
    induction n with
    | zero => simp
    | succ n ih =>
      rw [Finset.sum_range_succ, ih, Nat.mul_succ, Finset.sum_range_add]
      congr 1
  rw [h 8, ← Fin.sum_univ_eq_sum_range f 2048]

/-- A sum over 64 pairs of a pair of heads and a row block. -/
theorem sum_pairs (f : ℕ → ℕ → ℝ) :
    ∑ k ∈ Finset.range 64, f (k / 8) (k % 8) = ∑ p ∈ Finset.range 8, ∑ j ∈ Finset.range 8, f p j := by
  have h : ∀ n : ℕ, ∑ k ∈ Finset.range (8 * n), f (k / 8) (k % 8) = ∑ p ∈ Finset.range n, ∑ j ∈ Finset.range 8, f p j := by
    intro n
    induction n with
    | zero => simp
    | succ n ih =>
      rw [Finset.sum_range_succ, ← ih, Nat.mul_succ, Finset.sum_range_add]
      congr 1
      refine Finset.sum_congr rfl fun j hj => ?_
      have := Finset.mem_range.1 hj
      rw [show (8 * n + j) / 8 = n by omega, show (8 * n + j) % 8 = j by omega]
  exact h 8

/-- A sum over 16 heads is the sum over 8 pairs. -/
theorem sum_heads (f : ℕ → ℝ) :
    ∑ p ∈ Finset.range 8, (f (2 * p + 0) + f (2 * p + 1)) = ∑ h : Fin 16, f h := by
  rw [Fin.sum_univ_eq_sum_range f 16]
  simp [Finset.sum_range_succ]
  ring

section
variable (Q KV KR D : ℕ → ℕ → ℕ → ℝ)

/-- Head `h`'s query row, keys, values and arriving gradient row. -/
abbrev xH (b h i : ℕ) : ℕ → ℝ := tile h (Q b i)
abbrev kH (b h : ℕ) : ℕ → ℕ → ℝ := keysOf (KV b) (KR b) h
abbrev vH (b h : ℕ) : ℕ → ℕ → ℝ := fun t => tile h (KV b t)
abbrev gH (b h i : ℕ) : ℕ → ℝ := gHead h (D b i)

/-- The attention's output: head `n / 64`, value lane `n % 64`. -/
def oSpec (b i n : ℕ) : ℝ := out (xH Q b (n / 64) i) (kH KV KR b (n / 64)) (vH KV b (n / 64)) (64 + n % 64)

/-- The gradient of the queries: head `n / 128`, lane `n % 128`. -/
def dqSpec (b i n : ℕ) : ℝ :=
  dquery (xH Q b (n / 128) i) (kH KV KR b (n / 128)) (gH D b (n / 128) i) (vH KV b (n / 128)) (n % 128)

/-- What all rows add to head `h`'s gradient of key row `t`'s lane `l`, unscaled. -/
def dkAll (b h t l : ℕ) : ℝ :=
  ∑ i : Fin 2048, dscore (xH Q b h i) (kH KV KR b h) (gH D b h i) (vH KV b h) t * xH Q b h i l

/-- What all rows add to head `h`'s gradient of value row `t`'s lane `l`. -/
def dvAll (b h t l : ℕ) : ℝ := ∑ i : Fin 2048, prob (xH Q b h i) (kH KV KR b h) t * gH D b h i l

/-- The gradient of the keys and values: head `n / 128`; keys in the lower 64 lanes, values above. -/
def dkvSpec (b t n : ℕ) : ℝ :=
  if n % 128 < 64 then dkAll Q KV KR D b (n / 128) t (n % 128) * scale
  else dvAll Q KV KR D b (n / 128) t (n % 128)

/-- The gradient of the shared rotary keys. -/
def dkrSpec (b t l : ℕ) : ℝ :=
  if 64 ≤ l ∧ l < 96 then (∑ h : Fin 16, dkAll Q KV KR D b h t l) * scale else 0

theorem oArr_eq (b i n : ℕ) : oArr Q KV KR b i n = oSpec Q KV KR b i n := by
  rw [oArr, oSpec, pairOut]
  split
  · rw [outOf, tile_sub, keysOf_sub]
    simp only [tile_sub]
    rw [show 2 * (n / 128) + 0 = n / 64 by omega, show n % 128 + 64 = 64 + n % 64 by omega]
  · rw [outOf, tile_sub, keysOf_sub]
    simp only [tile_sub]
    rw [show 2 * (n / 128) + 1 = n / 64 by omega, show n % 128 = 64 + n % 64 by omega]

theorem dqArr_eq (b i n : ℕ) : dqArr Q KV KR D b i n = dqSpec Q KV KR D b i n := by
  rw [dqArr, dqSpec, dqOf, tile_sub, keysOf_sub, gRow_sub (by omega)]
  simp only [tile_sub]
  rw [show 2 * (n / 256) + n % 256 / 128 = n / 128 by omega]

theorem dkOf_eq (b p j t l : ℕ) {e : ℕ} (he : e < 2) :
    dkOf (fun i => sub 256 p (Q b (256 * j + i))) (fun i => sub 128 p (D b (256 * j + i)))
      (fun t => sub 256 p (KV b t)) (KR b) e t l
      = ∑ i : Fin 256, dscore (xH Q b (2 * p + e) (256 * j + i)) (kH KV KR b (2 * p + e)) (gH D b (2 * p + e) (256 * j + i))
          (vH KV b (2 * p + e)) t * xH Q b (2 * p + e) (256 * j + i) l := by
  rw [dkOf, dkPart]
  simp only [tile_sub, keysOf_sub, gRow_sub he]

theorem dkvArr_eq (b t n : ℕ) : dkvArr Q KV KR D b t n = dkvSpec Q KV KR D b t n := by
  have he : n % 256 / 128 < 2 := by omega
  have hh : 2 * (n / 256) + n % 256 / 128 = n / 128 := by omega
  have hl : n % 256 % 128 = n % 128 := by omega
  rw [dkvArr, dkvSpec]
  by_cases h : n % 128 < 64
  · rw [if_pos h, if_pos h]
    congr 1
    simp only [kvTerm, dkvOf, hl, if_pos h, dkOf_eq Q KV KR D _ _ _ _ _ he, hh]
    exact sum_blocks fun i => dscore (xH Q b (n / 128) i) (kH KV KR b (n / 128)) (gH D b (n / 128) i)
      (vH KV b (n / 128)) t * xH Q b (n / 128) i (n % 128)
  · rw [if_neg h, if_neg h, mul_one]
    simp only [kvTerm, dkvOf, hl, if_neg h, dvPart, tile_sub, keysOf_sub, gRow_sub he, hh]
    exact sum_blocks fun i => prob (xH Q b (n / 128) i) (kH KV KR b (n / 128)) t * gH D b (n / 128) i (n % 128)

theorem dkrArr_eq (b t l : ℕ) : dkrArr Q KV KR D b t l = dkrSpec Q KV KR D b t l := by
  rw [dkrArr, dkrSpec]
  by_cases h : 64 ≤ l ∧ l < 96
  · rw [if_pos h]
    congr 1
    rw [sum_pairs (fun p j => krTerm Q KV KR D b p j t l), ← sum_heads (fun h => dkAll Q KV KR D b h t l)]
    refine Finset.sum_congr rfl fun p _ => ?_
    simp only [krTerm, dkrOf, if_pos h, dkOf_eq Q KV KR D _ _ _ _ _ (zero_lt_two), dkOf_eq Q KV KR D _ _ _ _ _ (one_lt_two)]
    rw [Finset.sum_add_distrib]
    congr 1
    · exact sum_blocks fun i => dscore (xH Q b (2 * p + 0) i) (kH KV KR b (2 * p + 0)) (gH D b (2 * p + 0) i)
        (vH KV b (2 * p + 0)) t * xH Q b (2 * p + 0) i l
    · exact sum_blocks fun i => dscore (xH Q b (2 * p + 1) i) (kH KV KR b (2 * p + 1)) (gH D b (2 * p + 1) i)
        (vH KV b (2 * p + 1)) t * xH Q b (2 * p + 1) i l
  · rw [if_neg h]
    simp only [krTerm, dkrOf, if_neg h, Finset.sum_const_zero, zero_mul]

end

end Cert.Att
end
-- ==== Proof.RefValue.lean ====
/-
  The reference's results where its arguments are finite: the attention's output and gradient of `Spec`.
-/
module

public import proofs.«01_k».proof.Proof.RefTerms
public import proofs.«01_k».proof.Proof.Spec
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

namespace Cert.Att

/-- The arguments as arrays of 2048 lanes (head `h` in lanes `128 h …`), of 128 lanes for the shared keys. -/
def qRows (q : ℕ → ℕ → ℕ → ℕ → ℝ) (b i n : ℕ) : ℝ := if n % 128 < 96 then q b i (n / 128) (n % 128) else 0
def kvRows (kv : ℕ → ℕ → ℕ → ℕ → ℝ) (b t n : ℕ) : ℝ := kv b t (n / 128) (n % 128)
def krRows (kr : ℕ → ℕ → ℕ → ℝ) (b t l : ℕ) : ℝ := if 64 ≤ l ∧ l < 96 then kr b t (l - 64) else 0

/-- A sum over 128 lanes of which the last 32 hold nothing. -/
theorem sum_lanes (f : ℕ → ℝ) (h : ∀ l, 96 ≤ l → l < 128 → f l = 0) :
    ∑ l : Fin 128, f l = ∑ l : Fin 64, f l + ∑ l : Fin 32, f (64 + l) := by
  rw [sum_halves]
  congr 1
  have e := Fin.sum_univ_add (a := 32) (b := 32) fun l : Fin (32 + 32) => f (64 + l)
  refine Eq.trans e ?_
  rw [Fin.sum_univ_eq_sum_range (fun l => f (64 + l)) 32]
  refine (congrArg (_ + ·) (Finset.sum_eq_zero fun l _ => h _ ?_ ?_)).trans ?_
  · simp only [Fin.val_natAdd]; omega
  · simp only [Fin.val_natAdd]; omega
  · rw [add_zero, ← Fin.sum_univ_eq_sum_range (fun l => f (64 + l)) 32]
    rfl

end Cert.Att

namespace Cert.ReferenceIdeal.Att
open Cert.ReferenceIdeal Cert.ReferenceIdeal.Gen Cert.Att

variable {x0 : FVec Ideal S4x2048x16x96 .f32} {x1 : FVec Ideal S4x2304x16x128 .f32} {x2 : FVec Ideal S4x2304x32 .f32}
  {x3 : FVec Ideal S4x2048x1024 .f32}
  {q kv : ℕ → ℕ → ℕ → ℕ → ℝ} {kr d : ℕ → ℕ → ℕ → ℝ}
  (h0 : ∀ (b : Fin 4) (i : Fin 2048) (h : Fin 16) (l : Fin 96), x0 (ix4 b i h l) = ((q b i h l : ℝ) : EReal))
  (h1 : ∀ (b : Fin 4) (t : Fin 2304) (h : Fin 16) (l : Fin 128), x1 (ix4 b t h l) = ((kv b t h l : ℝ) : EReal))
  (h2 : ∀ (b : Fin 4) (t : Fin 2304) (l : Fin 32), x2 (ix3 b t l) = ((kr b t l : ℝ) : EReal))
  (h3 : ∀ (b : Fin 4) (i : Fin 2048) (n : Fin 1024), x3 (ix3 b i n) = ((d b i n : ℝ) : EReal))

theorem xRow (q : ℕ → ℕ → ℕ → ℕ → ℝ) (b h i : ℕ) {l : ℕ} (hl : l < 96) : xH (qRows q) b h i l = q b i h l := by
  rw [xH, tile, qRows, show (128 * h + l) % 128 = l by omega, show (128 * h + l) / 128 = h by omega, if_pos hl]

theorem xRow_zero (q : ℕ → ℕ → ℕ → ℕ → ℝ) (b h i : ℕ) {l : ℕ} (hl : 96 ≤ l) (hl' : l < 128) : xH (qRows q) b h i l = 0 := by
  rw [xH, tile, qRows, show (128 * h + l) % 128 = l by omega, if_neg (by omega)]

theorem vRow (kv : ℕ → ℕ → ℕ → ℕ → ℝ) (b h t : ℕ) {l : ℕ} (hl : l < 128) : vH (kvRows kv) b h t l = kv b t h l := by
  rw [vH, tile, kvRows, show (128 * h + l) % 128 = l by omega, show (128 * h + l) / 128 = h by omega]

theorem kRow_lo (kv : ℕ → ℕ → ℕ → ℕ → ℝ) (kr : ℕ → ℕ → ℕ → ℝ) (b h t : ℕ) {l : ℕ} (hl : l < 64) :
    kH (kvRows kv) (krRows kr) b h t l = kv b t h l := by
  rw [kH, keysOf, keys, if_pos hl]
  exact vRow kv b h t (by omega)

theorem kRow_mid (kv : ℕ → ℕ → ℕ → ℕ → ℝ) (kr : ℕ → ℕ → ℕ → ℝ) (b h t : ℕ) {l : ℕ} (hl : 64 ≤ l) (hl' : l < 96) :
    kH (kvRows kv) (krRows kr) b h t l = kr b t (l - 64) := by
  rw [kH, keysOf, keys, if_neg (by omega), krRows, if_pos ⟨hl, hl'⟩]

theorem kRow_hi (kv : ℕ → ℕ → ℕ → ℕ → ℝ) (kr : ℕ → ℕ → ℕ → ℝ) (b h t : ℕ) {l : ℕ} (hl : 96 ≤ l) :
    kH (kvRows kv) (krRows kr) b h t l = 0 := by
  rw [kH, keysOf, keys, if_neg (by omega), krRows, if_neg (by omega)]

theorem gRow_lo (d : ℕ → ℕ → ℕ → ℝ) (b h i : ℕ) {l : ℕ} (hl : l < 64) : gH d b h i l = 0 := by
  rw [gH, gHead, if_pos hl]

theorem gRow_hi (d : ℕ → ℕ → ℕ → ℝ) (b h i l : ℕ) : gH d b h i (64 + l) = d b i (64 * h + l) := by
  rw [gH, gHead, if_neg (by omega), Nat.add_sub_cancel_left]

/-- The unscaled score as the reference sums it. -/
theorem sc_split (q kv : ℕ → ℕ → ℕ → ℕ → ℝ) (kr : ℕ → ℕ → ℕ → ℝ) (b h i t : ℕ) :
    sc (xH (qRows q) b h i) (kH (kvRows kv) (krRows kr) b h) t
      = ∑ l : Fin 64, q b i h l * kv b t h l + ∑ l : Fin 32, kr b t l * q b i h (64 + l) := by
  rw [sc, sum_lanes (fun l => xH (qRows q) b h i l * kH (kvRows kv) (krRows kr) b h t l)
    fun l hl hl' => by rw [kRow_hi _ _ _ _ _ hl, mul_zero]]
  congr 1
  · refine Finset.sum_congr rfl fun l _ => ?_
    rw [xRow _ _ _ _ (by omega), kRow_lo _ _ _ _ _ (by omega)]
  · refine Finset.sum_congr rfl fun l _ => ?_
    rw [xRow _ _ _ _ (by omega), kRow_mid _ _ _ _ _ (by omega) (by omega), Nat.add_sub_cancel_left, mul_comm]

/-- The gradient of a probability as the reference sums it. -/
theorem dprob_split (kv : ℕ → ℕ → ℕ → ℕ → ℝ) (d : ℕ → ℕ → ℕ → ℝ) (b h i t : ℕ) :
    dprob (gH d b h i) (vH (kvRows kv) b h) t = ∑ l : Fin 64, d b i (h * 64 + l) * kv b t h (64 + l) := by
  rw [dprob, sum_halves fun l => gH d b h i l * vH (kvRows kv) b h t l]
  rw [Finset.sum_eq_zero fun l _ => by rw [gRow_lo _ _ _ _ l.isLt, zero_mul], zero_add]
  refine Finset.sum_congr rfl fun l _ => ?_
  rw [gRow_hi, vRow _ _ _ _ (by omega), mul_comm 64 h]

include h0 h1 h2 in
theorem score_at (b : Fin 4) (h : Fin 16) (i : Fin 2048) (t : Fin 2304) : score x0 x1 x2 (ix4 b h i t)
    = ((scale * sc (xH (qRows q) b h i) (kH (kvRows kv) (krRows kr) b h) t : ℝ) : EReal) := by
  unfold score qn qr kn
  pointwise
  rw [ofBits_scale, sc_split, mul_comm scale, EReal.coe_mul, EReal.coe_add]
  congr 2
  · refine sum_eq_coe _ _ _ fun l _ => ?_
    rw [h0, h1, EReal.coe_mul]
  · refine sum_eq_coe _ _ _ fun l _ => ?_
    rw [h0, h2, EReal.coe_mul]

theorem max_at {S : Shape} (a b : FVec Ideal S .f32) (j : S.Idx) : maximumf a b j = max (a j) (b j) := rfl

theorem filled_at (v : FVec Ideal S_ .f32) (b : Fin 4) (h : Fin 16) (i : Fin 2048) :
    broadcastInDim S4x16x2048 ![] bcast_S_S4x16x2048 v (ix3 b h i) = v ix0 := by
  pointwise

theorem maxRow_at (s : FVec Ideal S4x16x2048x2304 .f32) (w : FVec Ideal S_ .f32) (b : Fin 4) (h : Fin 16) (i : Fin 2048) :
    Host.reduce FloatOps.maximumf s w reducesTo_S4x16x2048x2304_S4x16x2048_d3 h_S_ (ix3 b h i)
      = Finset.fold max (w (Shape.Idx.first h_S_)) (fun t : Fin 2304 => s (ix4 b h i t)) Finset.univ := by
  pointwise

/-- The rows' maxima are reals. -/
theorem top_at (s : FVec Ideal S4x16x2048x2304 .f32) (b : Fin 4) (h : Fin 16) (i : Fin 2048) (f : ℕ → ℝ)
    (hs : ∀ t : Fin 2304, s (ix4 b h i t) = ((f t : ℝ) : EReal)) : ∃ m : ℝ, top s (ix3 b h i) = (m : EReal) := by
  have hc : ∀ j, (constant S_ .f32 0xFF800000#32 : FVec Ideal S_ .f32) j = ⊥ := fun _ => ofBits_neg_inf
  unfold top
  generalize (constant S_ .f32 0xFF800000#32 : FVec Ideal S_ .f32) = v at hc
  rw [max_at, filled_at, maxRow_at, hc, hc]
  obtain ⟨m, hm⟩ := fold_max_coe Finset.univ ⟨(0 : Fin 2304), Finset.mem_univ _⟩ fun t : Fin 2304 => f t
  refine ⟨m, ?_⟩
  rw [bot_sup_eq, ← hm]
  simp only [hs]

end Cert.ReferenceIdeal.Att
end
-- ==== Proof.Operands.lean ====
/-
  What the two kernel calls read: the program's arguments, padded and laid out by the host.
-/
module

public import proofs.«01_k».proof.Proof.BwdArrays
public import proofs.«01_k».proof.Proof.RefValue
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.KernelIdeal.Att
open Cert.KernelIdeal Cert.KernelIdeal.Gen Cert.Att

section
variable (m : (ℓ : Loc nD τ sig) → Buf (Elt Ideal) ℓ) (ρ : Dev nD → PrngReg) (c : Dev nD)

/-- The padded queries: lanes past 96 hold zero. -/
theorem pad_at (b : Fin 4) (i : Fin 2048) (h : Fin 16) (l : Fin 128) : W2 m ρ c main_v0 (ix4 b i h l)
    = if hl : l.val < 96 then m ((c : Thread nD τ).loc main_arg0) (ix4 b i h ⟨l.val, hl⟩)
      else (FloatOps.sitofp FTy.f32 (0#32 : BitVec 32) : Ideal .f32) := by
  show StableHlo.after hostOps0_1 (W1 m ρ c) main_v0 (ix4 b i h l) = _
  after_reads_at

/-- The queries with the heads side by side. -/
theorem main_v2_at (b : Fin 4) (i : Fin 2048) (n : Fin 2048) : W4 m ρ c main_v2 (ix3 b i n)
    = W2 m ρ c main_v0 (ix4 b i ⟨n.val / 128, by omega⟩ ⟨n.val % 128, by omega⟩) := by
  rw [W4_of m ρ c main_v2 (by decide)]
  show StableHlo.after hostOps0_2 (W2 m ρ c) main_v2 (ix3 b i n) = _
  after_reads_at

/-- The keys and values with the heads side by side. -/
theorem main_v4_at (b : Fin 4) (t : Fin 2304) (n : Fin 2048) : W4 m ρ c main_v4 (ix3 b t n)
    = m ((c : Thread nD τ).loc main_arg1) (ix4 b t ⟨n.val / 128, by omega⟩ ⟨n.val % 128, by omega⟩) := by
  rw [W4_of m ρ c main_v4 (by decide)]
  show StableHlo.after hostOps0_2 (W2 m ρ c) main_v4 (ix3 b t n) = _
  after_reads_at

/-- The padded shared keys: the 32 lanes from 64 on hold them, the others zero. -/
theorem main_v6_at (b : Fin 4) (t : Fin 2304) (l : Fin 128) : W4 m ρ c main_v6 (ix3 b t l)
    = if hl : 64 ≤ l.val ∧ l.val - 64 < 32 then m ((c : Thread nD τ).loc main_arg2) (ix3 b t ⟨l.val - 64, hl.2⟩)
      else (FloatOps.sitofp FTy.bf16 (0#32 : BitVec 32) : Ideal .bf16) := by
  show StableHlo.after hostOps0_3 (W3 m ρ c) main_v6 (ix3 b t l) = _
  after_reads_at

end

section
variable {m : (ℓ : Loc nD τ sig) → Buf (Elt Ideal) ℓ} (ρ : Dev nD → PrngReg) {c : Dev nD}
  {q kv : ℕ → ℕ → ℕ → ℕ → ℝ} {kr d : ℕ → ℕ → ℕ → ℝ}
  (h0 : ∀ (b : Fin 4) (i : Fin 2048) (h : Fin 16) (l : Fin 96),
    m ((c : Thread nD τ).loc main_arg0) (ix4 b i h l) = ((q b i h l : ℝ) : EReal))
  (h1 : ∀ (b : Fin 4) (t : Fin 2304) (h : Fin 16) (l : Fin 128),
    m ((c : Thread nD τ).loc main_arg1) (ix4 b t h l) = ((kv b t h l : ℝ) : EReal))
  (h2 : ∀ (b : Fin 4) (t : Fin 2304) (l : Fin 32), m ((c : Thread nD τ).loc main_arg2) (ix3 b t l) = ((kr b t l : ℝ) : EReal))
  (h3 : ∀ (b : Fin 4) (i : Fin 2048) (n : Fin 1024), m ((c : Thread nD τ).loc main_arg3) (ix3 b i n) = ((d b i n : ℝ) : EReal))

include h0 in
theorem hQ_at (b : Fin 4) (i n : Fin 2048) : V4 m ρ c main_v2 (ix3 b i n) = ((qRows q b i n : ℝ) : EReal) := by
  refine (main_v2_at m ρ c b i n).trans ((pad_at m ρ c _ _ _ _).trans ?_)
  rw [qRows]
  by_cases hl : n.val % 128 < 96
  · rw [dif_pos hl, if_pos hl]
    exact h0 _ _ _ _
  · rw [dif_neg hl, if_neg hl]
    exact sitofp_zero (φ := .f32)

include h0 in
theorem hQ4 (y : S4x2048x2048.Idx) : V4 m ρ c main_v2 y = ((qRows q (y 0) (y 1) (y 2) : ℝ) : EReal) := by
  rw [eq_ix3 y]
  exact hQ_at ρ h0 _ _ _

include h1 in
theorem hKV4 (y : S4x2304x2048.Idx) : V4 m ρ c main_v4 y = ((kvRows kv (y 0) (y 1) (y 2) : ℝ) : EReal) := by
  rw [eq_ix3 y]
  exact (main_v4_at m ρ c (y 0) (y 1) (y 2)).trans (h1 _ _ _ _)

include h2 in
theorem hKR_at (b : Fin 4) (t : Fin 2304) (l : Fin 128) : V4 m ρ c main_v6 (ix3 b t l) = ((krRows kr b t l : ℝ) : EReal) := by
  refine (main_v6_at m ρ c b t l).trans ?_
  rw [krRows]
  by_cases hl : 64 ≤ l.val ∧ l.val < 96
  · rw [dif_pos (by omega), if_pos hl]
    exact h2 _ _ _
  · rw [dif_neg (by omega), if_neg hl]
    exact sitofp_zero (φ := .bf16)

include h2 in
theorem hKR4 (y : S4x2304x128.Idx) : V4 m ρ c main_v6 y = ((krRows kr (y 0) (y 1) (y 2) : ℝ) : EReal) := by
  rw [eq_ix3 y]
  exact hKR_at ρ h2 _ _ _

include h0 in
theorem hQ5 (y : S4x2048x2048.Idx) : V5 m ρ c main_v2 y = ((qRows q (y 0) (y 1) (y 2) : ℝ) : EReal) :=
  (congrFun (W5_of m ρ c main_v2 (by decide)) y).trans (hQ4 ρ h0 y)

include h1 in
theorem hKV5 (y : S4x2304x2048.Idx) : V5 m ρ c main_v4 y = ((kvRows kv (y 0) (y 1) (y 2) : ℝ) : EReal) :=
  (congrFun (W5_of m ρ c main_v4 (by decide)) y).trans (hKV4 ρ h1 y)

include h2 in
theorem hKR5 (y : S4x2304x128.Idx) : V5 m ρ c main_v6 y = ((krRows kr (y 0) (y 1) (y 2) : ℝ) : EReal) :=
  (congrFun (W5_of m ρ c main_v6 (by decide)) y).trans (hKR4 ρ h2 y)

include h3 in
theorem hD5 (y : S4x2048x1024.Idx) : V5 m ρ c main_arg3 y = ((d (y 0) (y 1) (y 2) : ℝ) : EReal) := by
  rw [eq_ix3 y]
  exact (congrFun (W5_args m ρ c main_arg3 (by decide)) _).trans (h3 _ _ _)

include h0 h1 h2 in
/-- The attention's output as the forward call leaves it. -/
theorem hO5 : V5 m ρ c main_v7_0
    = fun y : S4x2048x1024.Idx => ((oArr (qRows q) (kvRows kv) (krRows kr) (y 0) (y 1) (y 2) : ℝ) : EReal) :=
  (W5_arr m ρ c 3).trans (o_array (V4 m ρ) (hQ4 ρ h0) (hKV4 ρ h1) (hKR4 ρ h2))

include h0 h1 h2 in
/-- The rows' logarithms as the forward call leaves them. -/
theorem hL5 : V5 m ρ c main_v7_1
    = fun y : S4x16x2048x1.Idx => ((lseArr (qRows q) (kvRows kv) (krRows kr) (y 0) (y 1) (y 2) : ℝ) : EReal) :=
  (W5_arr m ρ c 4).trans (lse_array (V4 m ρ) (hQ4 ρ h0) (hKV4 ρ h1) (hKR4 ρ h2))

include h0 h1 h2 in
/-- The program's first result: the attention's output. -/
theorem out0 : W6 m ρ c main_v7_0
    = fun y : S4x2048x1024.Idx => ((oArr (qRows q) (kvRows kv) (krRows kr) (y 0) (y 1) (y 2) : ℝ) : EReal) :=
  (W6_of m ρ c main_v7_0 (by decide)).trans (hO5 ρ h0 h1 h2)

include h0 h1 h2 h3 in
/-- The program's second result: the gradient of the queries. -/
theorem out1 : W6 m ρ c main_v8_0
    = fun y : S4x2048x2048.Idx => ((dqArr (qRows q) (kvRows kv) (krRows kr) d (y 0) (y 1) (y 2) : ℝ) : EReal) :=
  (W6_arr m ρ c 6).trans (dq_array (V5 m ρ) (hQ5 ρ h0) (hKV5 ρ h1) (hKR5 ρ h2)
    (fun y => congrFun (hO5 ρ h0 h1 h2) y) (fun y => congrFun (hL5 ρ h0 h1 h2) y) (hD5 ρ h3))

include h0 h1 h2 h3 in
/-- The program's third result: the gradient of the keys and values. -/
theorem out2 : W6 m ρ c main_v8_1
    = fun y : S4x2304x2048.Idx => ((dkvArr (qRows q) (kvRows kv) (krRows kr) d (y 0) (y 1) (y 2) : ℝ) : EReal) :=
  (W6_arr m ρ c 7).trans (dkv_array (V5 m ρ) (hQ5 ρ h0) (hKV5 ρ h1) (hKR5 ρ h2)
    (fun y => congrFun (hO5 ρ h0 h1 h2) y) (fun y => congrFun (hL5 ρ h0 h1 h2) y) (hD5 ρ h3))

include h0 h1 h2 h3 in
/-- The program's fourth result: the gradient of the shared keys. -/
theorem out3 : W6 m ρ c main_v8_2
    = fun y : S4x2304x128.Idx => ((dkrArr (qRows q) (kvRows kv) (krRows kr) d (y 0) (y 1) (y 2) : ℝ) : EReal) :=
  (W6_arr m ρ c 8).trans (dkr_array (V5 m ρ) (hQ5 ρ h0) (hKV5 ρ h1) (hKR5 ρ h2)
    (fun y => congrFun (hO5 ρ h0 h1 h2) y) (fun y => congrFun (hL5 ρ h0 h1 h2) y) (hD5 ρ h3))

end

end Cert.KernelIdeal.Att
end
-- ==== Proof.KernelRun.lean ====
/-
  The run of the two kernel calls at the ideal values: what each result holds, as the pipelines leave it.
-/
module

public import proofs.«01_k».proof.Proof.Gen.KernelIdeal.Frame

@[expose] public section

set_option maxRecDepth 16384

noncomputable section

namespace Cert.KernelIdeal.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates without a fault; each result ends at what the two pipelines
    leave there, and the arguments end unchanged. -/
theorem run_main : θ_run defs (onTc (τ := τ) (main (F := Ideal))) ⟨m, fun _ => 0, ρ⟩ (fun r => ∀ c : Dev nD,
      r.2.mem ((c.tc : Thread nD τ).loc main_v7_0) = W6 m ρ c main_v7_0
      ∧ r.2.mem ((c.tc : Thread nD τ).loc main_v8_0) = W6 m ρ c main_v8_0
      ∧ r.2.mem ((c.tc : Thread nD τ).loc main_v8_1) = W6 m ρ c main_v8_1
      ∧ r.2.mem ((c.tc : Thread nD τ).loc main_v8_2) = W6 m ρ c main_v8_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v7_0 (by decide)), h c _ (mem_uc main_v8_0 (by decide)),
       h c _ (mem_uc main_v8_1 (by decide)), h c _ (mem_uc main_v8_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Att
end
-- ==== Proof.RefResults.lean ====
/-
  The reference's four results where its arguments are finite.
-/
module

public import proofs.«01_k».proof.Proof.RefValue
public import Idealize.ShloMosaic.Lib.KernelVsHost

@[expose] public section

set_option maxRecDepth 16384

noncomputable section

open Idealize.ShloMosaic Idealize.ShloMosaic.TcCoe Idealize.SL.Sem

namespace Cert.ReferenceIdeal.Att
open Cert.ReferenceIdeal Cert.ReferenceIdeal.Gen Cert.Att

variable {x0 : FVec Ideal S4x2048x16x96 .f32} {x1 : FVec Ideal S4x2304x16x128 .f32} {x2 : FVec Ideal S4x2304x32 .f32}
  {x3 : FVec Ideal S4x2048x1024 .f32}
  {q kv : ℕ → ℕ → ℕ → ℕ → ℝ} {kr d : ℕ → ℕ → ℕ → ℝ}
  (h0 : ∀ (b : Fin 4) (i : Fin 2048) (h : Fin 16) (l : Fin 96), x0 (ix4 b i h l) = ((q b i h l : ℝ) : EReal))
  (h1 : ∀ (b : Fin 4) (t : Fin 2304) (h : Fin 16) (l : Fin 128), x1 (ix4 b t h l) = ((kv b t h l : ℝ) : EReal))
  (h2 : ∀ (b : Fin 4) (t : Fin 2304) (l : Fin 32), x2 (ix3 b t l) = ((kr b t l : ℝ) : EReal))
  (h3 : ∀ (b : Fin 4) (i : Fin 2048) (n : Fin 1024), x3 (ix3 b i n) = ((d b i n : ℝ) : EReal))

theorem scale_ne : scale ≠ 0 := by rw [scale]; norm_num

/-- The two forms of a score's gradient: over the exponentials and their sum, and over the probabilities. -/
theorem grad_form {L : ℝ} (hL : L ≠ 0) (E dp : ℕ → ℝ) (t : ℕ) :
    (dp t / L + -∑ x : Fin 2304, dp x * (1 / (L * L)) * E x) * E t * scale
      = E t / L * (dp t - ∑ x : Fin 2304, E x / L * dp x) * scale := by
  have e : ∑ x : Fin 2304, dp x * (1 / (L * L)) * E x = (∑ x : Fin 2304, E x / L * dp x) / L := by
    rw [Finset.sum_div]
    refine Finset.sum_congr rfl fun x _ => ?_
    field_simp
  rw [e]
  field_simp
  ring

include h0 h1 h2 in
/-- A row's exponentials and their sum: the scores less a real `m`. -/
theorem row_at (b : Fin 4) (h : Fin 16) (i : Fin 2048) : ∃ m : ℝ,
    (∀ t : Fin 2304, ex x0 x1 x2 (ix4 b h i t)
      = ((Real.exp (scale * (sc (xH (qRows q) b h i) (kH (kvRows kv) (krRows kr) b h) t - m)) : ℝ) : EReal))
    ∧ total (ex x0 x1 x2) (ix4 b h i 0)
      = ((den (xH (qRows q) b h i) (kH (kvRows kv) (krRows kr) b h) * Real.exp (-(scale * m)) : ℝ) : EReal) := by
  obtain ⟨M, hM⟩ := top_at (score x0 x1 x2) b h i
    (fun t => scale * sc (xH (qRows q) b h i) (kH (kvRows kv) (krRows kr) b h) t) (score_at h0 h1 h2 b h i)
  have he : ∀ t : Fin 2304, ex x0 x1 x2 (ix4 b h i t)
      = ((Real.exp (scale * (sc (xH (qRows q) b h i) (kH (kvRows kv) (krRows kr) b h) t - M / scale)) : ℝ) : EReal) := by
    intro t
    unfold ex expo
    pointwise
    rw [score_at h0 h1 h2, hM, ← EReal.coe_sub, Ideal.exp_coe, mul_sub, mul_div_cancel₀ _ scale_ne]
  refine ⟨M / scale, he, ?_⟩
  unfold total
  pointwise
  rw [← sum_shift]
  exact sum_eq_coe _ _ _ fun t _ => he t

include h0 h1 h2 in
theorem probs_at (b : Fin 4) (h : Fin 16) (i : Fin 2048) (t : Fin 2304) : probs (ex x0 x1 x2) (ix4 b h i t)
    = ((prob (xH (qRows q) b h i) (kH (kvRows kv) (krRows kr) b h) t : ℝ) : EReal) := by
  obtain ⟨m, he, hl⟩ := row_at h0 h1 h2 b h i
  unfold probs wide
  pointwise
  rw [he, hl, div_coe_coe _ (mul_pos (den_pos _ _) (Real.exp_pos _)).ne', prob_shift]

include h1 h3 in
theorem dpr_at (b : Fin 4) (h : Fin 16) (i : Fin 2048) (t : Fin 2304) : dpr x1 x3 (ix4 b h i t)
    = ((dprob (gH d b h i) (vH (kvRows kv) b h) t : ℝ) : EReal) := by
  unfold dpr dout vs
  pointwise
  rw [dprob_split]
  refine sum_eq_coe _ _ _ fun l _ => ?_
  rw [h1, h3, EReal.coe_mul]

include h0 h1 h2 h3 in
theorem ds_at (b : Fin 4) (h : Fin 16) (i : Fin 2048) (t : Fin 2304) : dsAll x0 x1 x2 x3 (ix4 b h i t)
    = ((dscore (xH (qRows q) b h i) (kH (kvRows kv) (krRows kr) b h) (gH d b h i) (vH (kvRows kv) b h) t * scale : ℝ) : EReal) := by
  obtain ⟨m, he, hl⟩ := row_at h0 h1 h2 b h i
  have hL := (mul_pos (den_pos (xH (qRows q) b h i) (kH (kvRows kv) (krRows kr) b h)) (Real.exp_pos (-(scale * m)))).ne'
  have hp := fun t => prob_shift (xH (qRows q) b h i) (kH (kvRows kv) (krRows kr) b h) m t
  have hd := dpr_at h1 h3 b h i
  unfold dsAll dsc wide
  pointwise
  rw [dscore, delta]
  simp only [he, hl, hd, ← hp]
  generalize den (xH (qRows q) b h i) (kH (kvRows kv) (krRows kr) b h) * Real.exp (-(scale * m)) = L at *
  rw [ofBits_scale, div_coe_coe _ hL, ← EReal.coe_mul L L, ← EReal.coe_one, div_coe_coe _ (mul_ne_zero hL hL)]
  simp only [Finset.univ_unique, Finset.sum_singleton, ← EReal.coe_mul, coe_sum, ← EReal.coe_neg, ← EReal.coe_add]
  exact congrArg Real.toEReal (grad_form hL
    (fun t => Real.exp (scale * (sc (xH (qRows q) b h i) (kH (kvRows kv) (krRows kr) b h) t - m)))
    (dprob (gH d b h i) (vH (kvRows kv) b h)) t)

include h0 h1 h2 in
theorem output_at (b : Fin 4) (i : Fin 2048) (n : Fin 1024) : output x1 (probs (ex x0 x1 x2)) (ix3 b i n)
    = ((oSpec (qRows q) (kvRows kv) (krRows kr) b i n : ℝ) : EReal) := by
  unfold output vs
  pointwise
  rw [oSpec, out]
  refine sum_eq_coe _ _ _ fun t _ => ?_
  rw [h1, probs_at h0 h1 h2, vRow _ _ _ _ (by omega), mul_comm, EReal.coe_mul]

/-- An upper lane of the arriving gradient's row, as the lane it came from. -/
theorem dout_lane {b h i n : ℕ} (hn : 64 ≤ n) : gH d b h i n = d b i (h * 64 + (n - 64)) := by
  rw [gH, gHead, if_neg (by omega), mul_comm]

/-- The gradient of the queries at an index, over the gradients of the scores. -/
theorem dqs_form (ds : FVec Ideal S4x16x2048x2304 .f32) (b : Fin 4) (i : Fin 2048) (n : Fin 2048) :
    dqs x1 x2 ds (ix3 b i n)
    = if h : n.val / 128 < 16 ∧ n.val % 128 < 96 then
        (if h_1 : n.val / 128 < 16 ∧ 64 ≤ n.val % 128 ∧ n.val % 128 - 64 < 32 then
          ∑ x : Fin 2304, ds (ix4 b ⟨n.val / 128, h.1⟩ i x) * x2 (ix3 b x ⟨n.val % 128 - 64, h_1.2.2⟩) else 0)
        + (if h_1 : n.val / 128 < 16 ∧ n.val % 128 < 64 then
          ∑ x : Fin 2304, ds (ix4 b ⟨n.val / 128, h.1⟩ i x) * x1 (ix4 b x ⟨n.val / 128, h.1⟩ ⟨n.val % 128, by omega⟩) else 0)
      else (FloatOps.sitofp FTy.f32 (0#32 : BitVec 32) : Ideal .f32) := by
  unfold dqs dscT kn
  pointwise

/-- The gradient of the keys and values at an index, over the probabilities and the gradients of the scores. -/
theorem dkvs_form (pr ds : FVec Ideal S4x16x2048x2304 .f32) (b : Fin 4) (t : Fin 2304) (n : Fin 2048) :
    dkvs x0 x3 pr ds (ix3 b t n)
    = (if h : n.val / 128 < 16 ∧ 64 ≤ n.val % 128 ∧ n.val % 128 - 64 < 64 then
          ∑ x : Fin 2048, x3 (ix3 b x ⟨n.val / 128 * 64 + (n.val % 128 - 64), by omega⟩) * pr (ix4 b ⟨n.val / 128, h.1⟩ x t) else 0)
        + (if h : n.val / 128 < 16 ∧ n.val % 128 < 64 then
          ∑ x : Fin 2048, ds (ix4 b ⟨n.val / 128, h.1⟩ x t) * x0 (ix4 b x ⟨n.val / 128, h.1⟩ ⟨n.val % 128, by omega⟩) else 0) := by
  unfold dkvs dout qn
  pointwise

include h0 h1 h2 h3 in
theorem dqs_at (b : Fin 4) (i : Fin 2048) (n : Fin 2048) : dqs x1 x2 (dsAll x0 x1 x2 x3) (ix3 b i n)
    = ((dqSpec (qRows q) (kvRows kv) (krRows kr) d b i n : ℝ) : EReal) := by
  rw [dqs_form]
  split_ifs with c1 c2 c3 c3
  · exact absurd c3.2 (by omega)
  · rw [add_zero, dqSpec, dquery, Finset.sum_mul]
    refine sum_eq_coe _ _ _ fun t _ => ?_
    rw [ds_at h0 h1 h2 h3, h2, kRow_mid _ _ _ _ _ c2.2.1 c1.2, mul_right_comm, ← EReal.coe_mul]
  · rw [zero_add, dqSpec, dquery, Finset.sum_mul]
    refine sum_eq_coe _ _ _ fun t _ => ?_
    rw [ds_at h0 h1 h2 h3, h1, kRow_lo _ _ _ _ _ c3.2, mul_right_comm, ← EReal.coe_mul]
  · exact absurd c1 (by omega)
  · rw [dqSpec, dquery, Finset.sum_mul, Finset.sum_eq_zero fun t _ => by
      rw [kRow_hi _ _ _ _ _ (by omega), mul_zero, zero_mul], EReal.coe_zero]
    exact sitofp_zero

include h0 h1 h2 h3 in
theorem dkvs_at (b : Fin 4) (t : Fin 2304) (n : Fin 2048) :
    dkvs x0 x3 (probs (ex x0 x1 x2)) (dsAll x0 x1 x2 x3) (ix3 b t n)
    = ((dkvSpec (qRows q) (kvRows kv) (krRows kr) d b t n : ℝ) : EReal) := by
  rw [dkvs_form]
  split_ifs with c1 c2 c2
  · exact absurd c2.2 (by omega)
  · rw [add_zero, dkvSpec, if_neg (by omega), dvAll]
    refine sum_eq_coe _ _ _ fun i _ => ?_
    rw [h3, probs_at h0 h1 h2, dout_lane c1.2.1, mul_comm, ← EReal.coe_mul]
  · rw [zero_add, dkvSpec, if_pos c2.2, dkAll, Finset.sum_mul]
    refine sum_eq_coe _ _ _ fun i _ => ?_
    rw [ds_at h0 h1 h2 h3, h0, xRow _ _ _ _ (by omega), mul_right_comm, ← EReal.coe_mul]
  · exact absurd n.isLt (by omega)

include h0 h1 h2 h3 in
theorem dkrs_at (b : Fin 4) (t : Fin 2304) (l : Fin 128) : dkrs x0 (dsAll x0 x1 x2 x3) (ix3 b t l)
    = ((dkrSpec (qRows q) (kvRows kv) (krRows kr) d b t l : ℝ) : EReal) := by
  unfold dkrs dscT qr
  pointwise
  rw [dkrSpec]
  by_cases h : 64 ≤ l.val ∧ l.val < 96
  · rw [dif_pos (by omega), if_pos h, Finset.sum_mul]
    simp only [dkAll, Finset.sum_mul]
    rw [Finset.sum_comm]
    refine sum_eq_coe _ _ _ fun i _ => sum_eq_coe _ _ _ fun h' _ => ?_
    rw [ds_at h0 h1 h2 h3, h0, xRow _ _ _ _ (by omega), mul_right_comm, ← EReal.coe_mul]
    simp only [show 64 + (l.val - 64) = l.val by omega]
  · rw [dif_neg (by omega), if_neg h]
    exact sitofp_zero

end Cert.ReferenceIdeal.Att
end
-- ==== Proof.Finite.lean ====
/-
  The precondition: its side conditions, and what it says of each argument — every element is a real number.
-/
module

public import proofs.«01_k».proof.Pre_finite
public import proofs.«01_k».proof.Proof.Scalars
public import Idealize.ShloMosaic.Lib.ReduceAll
public import Idealize.ShloMosaic.Lib.WordArith
public import Idealize.ShloMosaic.Lib.Decide

@[expose] public section

set_option maxRecDepth 16384

noncomputable section

open Idealize.ShloMosaic Idealize.ShloMosaic.WordArith

namespace Cert.Pre_finite.Att
open Cert.Pre_finite Cert.Att

/-- The side conditions the precondition's operations take. -/
instance facts : Cert.Pre_finite.Facts where
  bcast_S_S4x2048x16x96 := by decide
  reducesTo_S4x2048x16x96_S_d0_1_2_3 := by decide
  h_S_ := by decide
  bcast_S_S4x2304x16x128 := by decide
  reducesTo_S4x2304x16x128_S_d0_1_2_3 := by decide
  bcast_S_S4x2304x32 := by decide
  reducesTo_S4x2304x32_S_d0_1_2 := by decide
  bcast_S_S4x2048x1024 := by decide
  reducesTo_S4x2048x1024_S_d0_1_2 := by decide

theorem both_one : ∀ a b : BitVec 1, IntOp.andi a b = 1#1 → a = 1#1 ∧ b = 1#1 := by decide

/-- Where all elements of an array compare below plus infinity and above minus infinity, each is a real. -/
theorem real_at {s : Shape} {axes : List (Fin s.rank)} (x : FVec Ideal s .f32) (hb : S_.BroadcastsInDim s ![])
    (hr : s.ReducesTo axes S_) (hu : 0 < S_.numel) (j : S_.Idx)
    (e : Host.reduce IntOp.andi (andi (cmpf .olt x (broadcastInDim s ![] hb (constant S_ .f32 0x7F800000#32)))
        (cmpf .ogt x (broadcastInDim s ![] hb (constant S_ .f32 0xFF800000#32)))) (constantI S_ 1 1#1) hr hu j = 1#1)
    (i : s.Idx) : x i = (((x i : EReal).toReal : ℝ) : EReal) := by
  haveI : Subsingleton S_.Idx := ⟨fun a b => funext fun k => k.elim0⟩
  have h := both_one _ _ (Host.reduce_andi_all _ _ _ _ j e i)
  have h1 : BitVec.ofBool (decide ((x i : EReal) < Ideal.ofBits .f32 0x7F800000#32)) = 1#1 := h.1
  have h2 : BitVec.ofBool (decide (Ideal.ofBits .f32 0xFF800000#32 < (x i : EReal))) = 1#1 := h.2
  rw [ofBits_pos_inf, ofBool_eq_one_iff, decide_eq_true_eq] at h1
  rw [ofBits_neg_inf, ofBool_eq_one_iff, decide_eq_true_eq] at h2
  exact (EReal.coe_toReal h1.ne h2.ne').symm

/-- Under the precondition every element of the four arguments is a real. -/
theorem real_of {x0 : FVec Ideal S4x2048x16x96 .f32} {x1 : FVec Ideal S4x2304x16x128 .f32} {x2 : FVec Ideal S4x2304x32 .f32}
    {x3 : FVec Ideal S4x2048x1024 .f32} (h : fn x0 x1 x2 x3 = fun _ => 1#1) :
    (∀ i, x0 i = (((x0 i : EReal).toReal : ℝ) : EReal)) ∧ (∀ i, x1 i = (((x1 i : EReal).toReal : ℝ) : EReal))
    ∧ (∀ i, x2 i = (((x2 i : EReal).toReal : ℝ) : EReal)) ∧ (∀ i, x3 i = (((x3 i : EReal).toReal : ℝ) : EReal)) := by
  have e : fn x0 x1 x2 x3 (fun k => k.elim0) = 1#1 := congrFun h _
  unfold fn fn_part1 at e
  have a := both_one _ _ e
  have b := both_one _ _ a.1
  have c := both_one _ _ b.1
  exact ⟨real_at x0 _ _ _ _ c.1, real_at x1 _ _ _ _ c.2, real_at x2 _ _ _ _ b.2, real_at x3 _ _ _ _ a.2⟩

end Cert.Pre_finite.Att
end
-- ==== Proof.Algebraic.lean ====
/-
  The kernel's results and the reference's are equal wherever the arguments are finite.
-/
module

public import proofs.«01_k».proof.Defs
public import proofs.«01_k».proof.Proof.Operands
public import proofs.«01_k».proof.Proof.KernelRun
public import proofs.«01_k».proof.Proof.RefResults
public import proofs.«01_k».proof.Proof.Finite

@[expose] public section

set_option maxRecDepth 16384

noncomputable section

open Idealize.ShloMosaic Idealize.ShloMosaic.TcCoe Idealize.SL.Sem

namespace Cert.Att

/-- An array's real values over natural numbers, zero outside. -/
def real4 {n0 n1 n2 n3 : ℕ} (x : FVec Ideal ⟨4, ![n0, n1, n2, n3]⟩ .f32) (a b c d : ℕ) : ℝ :=
  if h : a < n0 ∧ b < n1 ∧ c < n2 ∧ d < n3 then
    (x (ix4 (⟨a, h.1⟩ : Fin n0) (⟨b, h.2.1⟩ : Fin n1) (⟨c, h.2.2.1⟩ : Fin n2) (⟨d, h.2.2.2⟩ : Fin n3)) : EReal).toReal else 0
def real3 {n0 n1 n2 : ℕ} (x : FVec Ideal ⟨3, ![n0, n1, n2]⟩ .f32) (a b c : ℕ) : ℝ :=
  if h : a < n0 ∧ b < n1 ∧ c < n2 then
    (x (ix3 (⟨a, h.1⟩ : Fin n0) (⟨b, h.2.1⟩ : Fin n1) (⟨c, h.2.2⟩ : Fin n2)) : EReal).toReal else 0

theorem real4_at {n0 n1 n2 n3 : ℕ} {x : FVec Ideal ⟨4, ![n0, n1, n2, n3]⟩ .f32}
    (hx : ∀ i, x i = (((x i : EReal).toReal : ℝ) : EReal)) (a : Fin n0) (b : Fin n1) (c : Fin n2) (d : Fin n3) :
    x (ix4 a b c d) = ((real4 x a b c d : ℝ) : EReal) := by
  rw [real4, dif_pos ⟨a.isLt, b.isLt, c.isLt, d.isLt⟩]
  exact hx _

theorem real3_at {n0 n1 n2 : ℕ} {x : FVec Ideal ⟨3, ![n0, n1, n2]⟩ .f32}
    (hx : ∀ i, x i = (((x i : EReal).toReal : ℝ) : EReal)) (a : Fin n0) (b : Fin n1) (c : Fin n2) :
    x (ix3 a b c) = ((real3 x a b c : ℝ) : EReal) := by
  rw [real3, dif_pos ⟨a.isLt, b.isLt, c.isLt⟩]
  exact hx _

section
variable {m : (ℓ : Loc Cert.KernelIdeal.nD Cert.KernelIdeal.τ Cert.KernelIdeal.sig) → Buf (Elt Ideal) ℓ}
  (ρ : Dev Cert.KernelIdeal.nD → PrngReg)
  {m' : (ℓ : Loc Cert.ReferenceIdeal.nD Cert.ReferenceIdeal.τ Cert.ReferenceIdeal.sig) → Buf (Elt Ideal) ℓ}
  {c : Dev Cert.KernelIdeal.nD}

/-- On a device whose arguments are finite and agree, the four results are equal. -/
theorem results_eq
    (hfin : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v40 m' c = Cert.KernelIdeal.Gen.W6 m ρ c Cert.KernelIdeal.main_v7_0
    ∧ Cert.ReferenceIdeal.Value.res_main_v74 m' c = Cert.KernelIdeal.Gen.W6 m ρ c Cert.KernelIdeal.main_v8_0
    ∧ Cert.ReferenceIdeal.Value.res_main_v76 m' c = Cert.KernelIdeal.Gen.W6 m ρ c Cert.KernelIdeal.main_v8_1
    ∧ Cert.ReferenceIdeal.Value.res_main_v75 m' c = Cert.KernelIdeal.Gen.W6 m ρ c Cert.KernelIdeal.main_v8_2 := by
  obtain ⟨f0, f1, f2, f3⟩ := Cert.Pre_finite.Att.real_of hfin
  have h0 := real4_at f0
  have h1 := real4_at f1
  have h2 := real3_at f2
  have h3 := real3_at f3
  refine ⟨?_, ?_, ?_, ?_⟩
  · rw [Cert.ReferenceIdeal.Att.res0_eq, e0, e1, e2]
    refine Eq.trans ?_ (Cert.KernelIdeal.Att.out0 ρ h0 h1 h2).symm
    funext y
    rw [oArr_eq, eq_ix3 y]
    exact Cert.ReferenceIdeal.Att.output_at h0 h1 h2 _ _ _
  · rw [Cert.ReferenceIdeal.Att.res1_eq, e0, e1, e2, e3]
    refine Eq.trans ?_ (Cert.KernelIdeal.Att.out1 ρ h0 h1 h2 h3).symm
    funext y
    rw [dqArr_eq, eq_ix3 y]
    exact Cert.ReferenceIdeal.Att.dqs_at h0 h1 h2 h3 _ _ _
  · rw [Cert.ReferenceIdeal.Att.res2_eq, e0, e1, e2, e3]
    refine Eq.trans ?_ (Cert.KernelIdeal.Att.out2 ρ h0 h1 h2 h3).symm
    funext y
    rw [dkvArr_eq, eq_ix3 y]
    exact Cert.ReferenceIdeal.Att.dkvs_at h0 h1 h2 h3 _ _ _
  · rw [Cert.ReferenceIdeal.Att.res3_eq, e0, e1, e2, e3]
    refine Eq.trans ?_ (Cert.KernelIdeal.Att.out3 ρ h0 h1 h2 h3).symm
    funext y
    rw [dkrArr_eq, eq_ix3 y]
    exact Cert.ReferenceIdeal.Att.dkrs_at h0 h1 h2 h3 _ _ _

end

/-- `Cert.algebraic_KernelIdeal_ReferenceIdeal_pre_finite`: both programs run, and their results are equal. -/
theorem algebraic : Cert.algebraic_KernelIdeal_ReferenceIdeal_pre_finite := by
  intro m ρ m' ρ' hfin hagree
  refine ⟨fun c => Cert.KernelIdeal.Gen.W6 m ρ c Cert.KernelIdeal.main_v7_0, fun c => Cert.KernelIdeal.Gen.W6 m ρ c Cert.KernelIdeal.main_v8_0,
    fun c => Cert.KernelIdeal.Gen.W6 m ρ c Cert.KernelIdeal.main_v8_1, fun c => Cert.KernelIdeal.Gen.W6 m ρ c Cert.KernelIdeal.main_v8_2,
    Cert.KernelIdeal.Att.run_main m ρ, ?_⟩
  refine (θ_run Cert.ReferenceIdeal.defs _ _).mono (fun r h c => ?_) (Cert.ReferenceIdeal.Value.run (F := Ideal) m' ρ')
  obtain ⟨e0, e1, e2, e3⟩ := results_eq ρ (hfin c) (hagree c).1 (hagree c).2.1 (hagree c).2.2.1 (hagree c).2.2.2
  obtain ⟨r0, r1, r2, r3, ra⟩ := h c
  exact ⟨r0.trans e0, r1.trans e1, r2.trans e2, r3.trans e3, ra⟩

end Cert.Att
end
-- ==== Proof.Mm3.lean ====
/-
  The feed-forward layer's second product: what the accumulating call leaves in its result.
-/
module

public import proofs.«01_k».proof.Proof.Gen.Kernel3Ideal.Value
public import proofs.«01_k».proof.Proof.Gen.Reference3Ideal.Run
public import proofs.«01_k».proof.Proof.Blocked
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel3Ideal.Mm
open Cert.Kernel3Ideal Cert.Kernel3Ideal.Gen Cert.Mm

theorem ix_0 : ∀ t : Fin cfg0.N, win0_0.index t = ![t.val / 4, t.val % 2] :=
  (by decide +kernel : ∀ t : Fin grid0.N, win0_0.index t = ![t.val / 4, t.val % 2])
theorem ix_1 : ∀ t : Fin cfg0.N, win0_1.index t = ![t.val % 2, t.val / 2 % 2] :=
  (by decide +kernel : ∀ t : Fin grid0.N, win0_1.index t = ![t.val % 2, t.val / 2 % 2])
theorem ix_2 : ∀ t : Fin cfg0.N, win0_2.index t = ![t.val / 4, t.val / 2 % 2] :=
  (by decide +kernel : ∀ t : Fin grid0.N, win0_2.index t = ![t.val / 4, t.val / 2 % 2])

/-- One point's partial product, added to what the accumulator held. -/
theorem pay2_at (v3 : Vec Ideal S1024x512 .f32) (v4 : Vec Ideal S1024x1408 .bf16) (v6 : Vec Ideal S1408x512 .bf16) (y : S1024x512.Idx) :
    k0_pay2 v3 v4 v6 y = v3 y + dotNN v4 v6 y := by
  rw [eq_ix2 y]
  unfold k0_pay2 dotNN
  pointwise

theorem pay1_at (y : S1024x512.Idx) : (k0_pay1 (F := Ideal)) y = 0 := by
  unfold k0_pay1
  pointwise

/-- The accumulator reads back as it was left. -/
theorem held (v : Vec Ideal S1024x512 .f32) (y : S1024x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S8192x2816.Idx) : V m c main_v0 y = m ((c : Thread nD τ).loc main_arg0) y := by
  show StableHlo.after hostOps0 _ main_v0 y = _
  rw [eq_ix2 y]
  after_reads_at

theorem v1_at (y : S2816x1024.Idx) : V m c main_v1 y = m ((c : Thread nD τ).loc main_arg1) y := by
  show StableHlo.after hostOps0 _ main_v1 y = _
  rw [eq_ix2 y]
  after_reads_at

theorem blk_0 (t : Fin cfg0.N) (i : Fin 1024) (k : Fin 1408) : iblk m c 0 t (ix2 i k)
    = nat2 (m ((c : Thread nD τ).loc main_arg0)) (t.val / 4 * 1024 + i) (t.val % 2 * 1408 + k) := by
  blk_simp [iblk]
  rw [v0_at]
  refine nat2_of _ _ ?_ ?_ <;> blk_simp [ix_0] <;> simp

theorem blk_1 (t : Fin cfg0.N) (k : Fin 1408) (j : Fin 512) : iblk m c 1 t (ix2 k j)
    = nat2 (m ((c : Thread nD τ).loc main_arg1)) (t.val % 2 * 1408 + k) (t.val / 2 % 2 * 512 + j) := by
  blk_simp [iblk]
  rw [v1_at]
  refine nat2_of _ _ ?_ ?_ <;> blk_simp [ix_1] <;> simp

/-- The products that an entry of the result sums. -/
def g (q : ℕ) (y : S1024x512.Idx) (k : ℕ) : EReal :=
  nat2 (m ((c : Thread nD τ).loc main_arg0)) (q / 2 * 1024 + (y 0).val) k
    * nat2 (m ((c : Thread nD τ).loc main_arg1)) k (q % 2 * 512 + (y 1).val)

theorem part_at (t : Fin cfg0.N) (y : S1024x512.Idx) : dotNN (iblk m c 0 t) (iblk m c 1 t) y
    = ∑ k ∈ Finset.range 1408, g m c (t.val / 2) y (t.val % 2 * 1408 + k) := by
  rw [← Fin.sum_univ_eq_sum_range (fun k => g m c (t.val / 2) y (t.val % 2 * 1408 + k))]
  refine Finset.sum_congr rfl fun k _ => (congrArg₂ (fun a b : EReal => a * b) (blk_0 m c t (y 0) k) (blk_1 m c t k (y 1))).trans ?_
  rw [g, Nat.div_div_eq_div_mul]

theorem acc_at (t : Fin cfg0.N) (y : S1024x512.Idx) : (outsAt0 m c t.val t.isLt).2 y
    = ∑ k ∈ Finset.range ((t.val % 2 + 1) * 1408), g m c (t.val / 2) y k := by
  refine accumulate (P := 2) (fun n h => (outsAt0 m c n h).2) (g m c) (fun t h y => ?_) (fun t h y => ?_) t y
  · rw [outsAt0_A m c t h (by omega)]
    frame_out
    rw [pay2_at, pay1_at]
    exact congrArg _ (part_at m c t y)
  · rw [outsAt0_B m c t h (by omega)]
    frame_out
    rw [pay2_at]
    exact congrArg₂ (fun a b : EReal => a + b) (held _ y) (part_at m c t y)

/-- What a point that writes back writes is the accumulator. -/
theorem out_at (t : Fin cfg0.N) (h3 : t.val % 2 = 1) : (outsAt0 m c t.val t.isLt).1 = (outsAt0 m c t.val t.isLt).2 := by
  rw [outsAt0_B m c t (by omega) h3]
  frame_out

theorem sum_g (q : ℕ) (z : S1024x512.Idx) (y : S8192x1024.Idx) (h0 : (y 0).val = q / 2 * 1024 + (z 0).val)
    (h1 : (y 1).val = q % 2 * 512 + (z 1).val) : ∑ k ∈ Finset.range ((1 + 1) * 1408), g m c q z k
      = dotNN (m ((c : Thread nD τ).loc main_arg0)) (m ((c : Thread nD τ).loc main_arg1)) y := by
  rw [dotNN_nat, h0, h1]
  rfl

/-- The result array. -/
theorem array : (dats m 0 c).arrAt 2 cfg0.N
    = dotNN (m ((c : Thread nD τ).loc main_arg0)) (m ((c : Thread nD τ).loc main_arg1)) := by
  refine (dats m 0 c).arrAt_eq_of_covers 2 _ (by decide +kernel) fun t hf y => ?_
  have h3 : t.val % 2 = 1 := (flush0_2 t).mp hf
  blk_simp
  rw [after0_2, out_at m c t h3, acc_at, h3]
  refine sum_g m c _ _ _ ?_ ?_ <;> blk_simp [ix_2]
  rw [Nat.div_div_eq_div_mul]

end

/-- `Cert.algebraic_Kernel3Ideal_Reference3Ideal`: both programs run, and their results are equal. -/
theorem algebraic : Cert.algebraic_Kernel3Ideal_Reference3Ideal := by
  intro m ρ m' ρ' _ hagree
  refine ⟨fun c => dotNN (m ((c : Thread nD τ).loc main_arg0)) (m ((c : Thread nD τ).loc main_arg1)), ?_, ?_⟩
  · exact (θ_run Cert.Kernel3Ideal.defs _ _).mono (fun r h c => ⟨(h c).1.trans (array m c), (h c).2⟩) (Cert.Kernel3Ideal.Value.run_blocks m ρ)
  · refine (θ_run Cert.Reference3Ideal.defs _ _).mono (fun r h c => ⟨(h c).1.trans ?_, (h c).2⟩)
      (Cert.Reference3Ideal.Value.run (F := Ideal) m' ρ')
    rw [(hagree c).1, (hagree c).2]
    funext y
    rw [eq_ix2 y]
    unfold dotNN
    pointwise

end Cert.Kernel3Ideal.Mm
-- ==== Proof.Mm4.lean ====
/-
  The weight gradient of the feed-forward layer's second product: what the accumulating call leaves in its result.
-/
module

public import proofs.«01_k».proof.Proof.Gen.Kernel4Ideal.Value
public import proofs.«01_k».proof.Proof.Gen.Reference4Ideal.Run
public import proofs.«01_k».proof.Proof.Blocked
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel4Ideal.Mm
open Cert.Kernel4Ideal Cert.Kernel4Ideal.Gen Cert.Mm

theorem ix_0 : ∀ t : Fin cfg0.N, win0_0.index t = ![t.val % 4, t.val / 8] :=
  (by decide +kernel : ∀ t : Fin grid0.N, win0_0.index t = ![t.val % 4, t.val / 8])
theorem ix_1 : ∀ t : Fin cfg0.N, win0_1.index t = ![t.val % 4, t.val / 4 % 2] :=
  (by decide +kernel : ∀ t : Fin grid0.N, win0_1.index t = ![t.val % 4, t.val / 4 % 2])
theorem ix_2 : ∀ t : Fin cfg0.N, win0_2.index t = ![t.val / 8, t.val / 4 % 2] :=
  (by decide +kernel : ∀ t : Fin grid0.N, win0_2.index t = ![t.val / 8, t.val / 4 % 2])

/-- One point's partial product, added to what the accumulator held. -/
theorem pay2_at (v3 : Vec Ideal S256x512 .f32) (v4 : Vec Ideal S2048x256 .bf16) (v6 : Vec Ideal S2048x512 .bf16) (y : S256x512.Idx) :
    k0_pay2 v3 v4 v6 y = v3 y + dotTN v4 v6 y := by
  rw [eq_ix2 y]
  unfold k0_pay2 dotTN
  pointwise

theorem pay1_at (y : S256x512.Idx) : (k0_pay1 (F := Ideal)) y = 0 := by
  unfold k0_pay1
  pointwise

/-- The accumulator reads back as it was left. -/
theorem held (v : Vec Ideal S256x512 .f32) (y : S256x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S8192x2816.Idx) : V m c main_v0 y = m ((c : Thread nD τ).loc main_arg0) y := by
  show StableHlo.after hostOps0 _ main_v0 y = _
  rw [eq_ix2 y]
  after_reads_at

theorem v1_at (y : S8192x1024.Idx) : V m c main_v1 y = m ((c : Thread nD τ).loc main_arg1) y := by
  show StableHlo.after hostOps0 _ main_v1 y = _
  rw [eq_ix2 y]
  after_reads_at

theorem blk_0 (t : Fin cfg0.N) (k : Fin 2048) (i : Fin 256) : iblk m c 0 t (ix2 k i)
    = nat2 (m ((c : Thread nD τ).loc main_arg0)) (t.val % 4 * 2048 + k) (t.val / 8 * 256 + i) := by
  blk_simp [iblk]
  rw [v0_at]
  refine nat2_of _ _ ?_ ?_ <;> blk_simp [ix_0] <;> simp

theorem blk_1 (t : Fin cfg0.N) (k : Fin 2048) (j : Fin 512) : iblk m c 1 t (ix2 k j)
    = nat2 (m ((c : Thread nD τ).loc main_arg1)) (t.val % 4 * 2048 + k) (t.val / 4 % 2 * 512 + j) := by
  blk_simp [iblk]
  rw [v1_at]
  refine nat2_of _ _ ?_ ?_ <;> blk_simp [ix_1] <;> simp

/-- The products that an entry of the result sums. -/
def g (q : ℕ) (y : S256x512.Idx) (k : ℕ) : EReal :=
  nat2 (m ((c : Thread nD τ).loc main_arg0)) k (q / 2 * 256 + (y 0).val)
    * nat2 (m ((c : Thread nD τ).loc main_arg1)) k (q % 2 * 512 + (y 1).val)

theorem part_at (t : Fin cfg0.N) (y : S256x512.Idx) : dotTN (iblk m c 0 t) (iblk m c 1 t) y
    = ∑ k ∈ Finset.range 2048, g m c (t.val / 4) y (t.val % 4 * 2048 + k) := by
  rw [← Fin.sum_univ_eq_sum_range (fun k => g m c (t.val / 4) y (t.val % 4 * 2048 + k))]
  refine Finset.sum_congr rfl fun k _ => (congrArg₂ (fun a b : EReal => a * b) (blk_0 m c t k (y 0)) (blk_1 m c t k (y 1))).trans ?_
  rw [g, Nat.div_div_eq_div_mul]

theorem acc_at (t : Fin cfg0.N) (y : S256x512.Idx) : (outsAt0 m c t.val t.isLt).2 y
    = ∑ k ∈ Finset.range ((t.val % 4 + 1) * 2048), g m c (t.val / 4) y k := by
  refine accumulate (P := 4) (fun n h => (outsAt0 m c n h).2) (g m c) (fun t h y => ?_) (fun t h y => ?_) t y
  · rw [outsAt0_A m c t h (by omega)]
    frame_out
    rw [pay2_at, pay1_at]
    exact congrArg _ (part_at m c t y)
  · by_cases h3 : t.val % 4 = 3
    · rw [outsAt0_C m c t h h3]
      frame_out
      rw [pay2_at]
      exact congrArg₂ (fun a b : EReal => a + b) (held _ y) (part_at m c t y)
    · rw [outsAt0_B m c t h h3]
      frame_out
      rw [pay2_at]
      exact congrArg₂ (fun a b : EReal => a + b) (held _ y) (part_at m c t y)

/-- What a point that writes back writes is the accumulator. -/
theorem out_at (t : Fin cfg0.N) (h3 : t.val % 4 = 3) : (outsAt0 m c t.val t.isLt).1 = (outsAt0 m c t.val t.isLt).2 := by
  rw [outsAt0_C m c t (by omega) h3]
  frame_out

theorem sum_g (q : ℕ) (z : S256x512.Idx) (y : S2816x1024.Idx) (h0 : (y 0).val = q / 2 * 256 + (z 0).val)
    (h1 : (y 1).val = q % 2 * 512 + (z 1).val) : ∑ k ∈ Finset.range ((3 + 1) * 2048), g m c q z k
      = dotTN (m ((c : Thread nD τ).loc main_arg0)) (m ((c : Thread nD τ).loc main_arg1)) y := by
  rw [dotTN_nat, h0, h1]
  rfl

/-- The result array. -/
theorem array : (dats m 0 c).arrAt 2 cfg0.N
    = dotTN (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_at m c t h3, acc_at, h3]
  refine sum_g m c _ _ _ ?_ ?_ <;> blk_simp [ix_2]
  rw [Nat.div_div_eq_div_mul]

end

/-- `Cert.algebraic_Kernel4Ideal_Reference4Ideal`: both programs run, and their results are equal. -/
theorem algebraic : Cert.algebraic_Kernel4Ideal_Reference4Ideal := by
  intro m ρ m' ρ' _ hagree
  refine ⟨fun c => dotTN (m ((c : Thread nD τ).loc main_arg0)) (m ((c : Thread nD τ).loc main_arg1)), ?_, ?_⟩
  · exact (θ_run Cert.Kernel4Ideal.defs _ _).mono (fun r h c => ⟨(h c).1.trans (array m c), (h c).2⟩) (Cert.Kernel4Ideal.Value.run_blocks m ρ)
  · refine (θ_run Cert.Reference4Ideal.defs _ _).mono (fun r h c => ⟨(h c).1.trans ?_, (h c).2⟩)
      (Cert.Reference4Ideal.Value.run (F := Ideal) m' ρ')
    rw [(hagree c).1, (hagree c).2]
    funext y
    rw [eq_ix2 y]
    unfold dotTN
    pointwise
    exact Finset.sum_congr rfl fun k _ => mul_comm _ _

end Cert.Kernel4Ideal.Mm
-- ==== Proof.Mm5.lean ====
/-
  The weight gradient of the feed-forward layer's first product: what the accumulating call leaves in its result, and the
  result laid out as the two halves of the columns.
-/
module

public import proofs.«01_k».proof.Proof.Gen.Kernel5Ideal.Frame
public import proofs.«01_k».proof.Proof.Gen.Reference5Ideal.Run
public import proofs.«01_k».proof.Proof.Blocked
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel5Ideal.Mm
open Cert.Kernel5Ideal Cert.Kernel5Ideal.Gen Cert.Mm

theorem ix_0 : ∀ t : Fin cfg0.N, win0_0.index t = ![t.val % 4, 0] :=
  (by decide +kernel : ∀ t : Fin grid0.N, win0_0.index t = ![t.val % 4, 0])
theorem ix_1 : ∀ t : Fin cfg0.N, win0_1.index t = ![t.val % 4, t.val / 4] :=
  (by decide +kernel : ∀ t : Fin grid0.N, win0_1.index t = ![t.val % 4, t.val / 4])
theorem ix_2 : ∀ t : Fin cfg0.N, win0_2.index t = ![0, t.val / 4] :=
  (by decide +kernel : ∀ t : Fin grid0.N, win0_2.index t = ![0, t.val / 4])

/-- One point's partial product, added to what the accumulator held. -/
theorem pay2_at (v3 : Vec Ideal S1024x512 .f32) (v4 : Vec Ideal S2048x1024 .bf16) (v6 : Vec Ideal S2048x512 .bf16) (y : S1024x512.Idx) :
    k0_pay2 v3 v4 v6 y = v3 y + dotTN v4 v6 y := by
  rw [eq_ix2 y]
  unfold k0_pay2 dotTN
  pointwise

theorem pay1_at (y : S1024x512.Idx) : (k0_pay1 (F := Ideal)) y = 0 := by
  unfold k0_pay1
  pointwise

/-- The accumulator reads back as it was left. -/
theorem held (v : Vec Ideal S1024x512 .f32) (y : S1024x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S8192x1024.Idx) : V m c main_v0 y = m ((c : Thread nD τ).loc main_arg0) y := by
  show StableHlo.after hostOps0 _ main_v0 y = _
  rw [eq_ix2 y]
  after_reads_at

theorem v4_at (r : Fin 8192) (k : Fin 5632) : V m c main_v4 (ix2 r k)
    = m ((c : Thread nD τ).loc main_arg1) (ix2 r ⟨weave k, weave_lt k.isLt⟩) := by
  show StableHlo.after hostOps0 _ main_v4 (ix2 r k) = _
  after_reads_at
  rfl

theorem blk_0 (t : Fin cfg0.N) (k : Fin 2048) (i : Fin 1024) : iblk m c 0 t (ix2 k i)
    = nat2 (m ((c : Thread nD τ).loc main_arg0)) (t.val % 4 * 2048 + k) i := by
  blk_simp [iblk]
  rw [v0_at]
  refine nat2_of _ _ ?_ ?_ <;> blk_simp [ix_0] <;> simp

theorem blk_1 (t : Fin cfg0.N) (k : Fin 2048) (j : Fin 512) : iblk m c 1 t (ix2 k j)
    = nat2 (m ((c : Thread nD τ).loc main_arg1)) (t.val % 4 * 2048 + k) (weave (t.val / 4 * 512 + j)) := by
  blk_simp [iblk]
  rw [eq_ix2 (((cfg0.win 1).blk t).view.emb (ix2 k j))]
  refine (v4_at m c _ _).trans (nat2_of _ _ ?_ ?_) <;> blk_simp [ix_1] <;> simp

/-- The products that an entry of the result sums. -/
def g (q : ℕ) (y : S1024x512.Idx) (k : ℕ) : EReal :=
  nat2 (m ((c : Thread nD τ).loc main_arg0)) k (y 0).val
    * nat2 (m ((c : Thread nD τ).loc main_arg1)) k (weave (q * 512 + (y 1).val))

theorem part_at (t : Fin cfg0.N) (y : S1024x512.Idx) : dotTN (iblk m c 0 t) (iblk m c 1 t) y
    = ∑ k ∈ Finset.range 2048, g m c (t.val / 4) y (t.val % 4 * 2048 + k) := by
  rw [← Fin.sum_univ_eq_sum_range (fun k => g m c (t.val / 4) y (t.val % 4 * 2048 + k))]
  refine Finset.sum_congr rfl fun k _ => (congrArg₂ (fun a b : EReal => a * b) (blk_0 m c t k (y 0)) (blk_1 m c t k (y 1))).trans ?_
  rw [g]

theorem acc_at (t : Fin cfg0.N) (y : S1024x512.Idx) : (outsAt0 m c t.val t.isLt).2 y
    = ∑ k ∈ Finset.range ((t.val % 4 + 1) * 2048), g m c (t.val / 4) y k := by
  refine accumulate (P := 4) (fun n h => (outsAt0 m c n h).2) (g m c) (fun t h y => ?_) (fun t h y => ?_) t y
  · rw [outsAt0_A m c t h (by omega)]
    frame_out
    rw [pay2_at, pay1_at]
    exact congrArg _ (part_at m c t y)
  · by_cases h3 : t.val % 4 = 3
    · rw [outsAt0_C m c t h h3]
      frame_out
      rw [pay2_at]
      exact congrArg₂ (fun a b : EReal => a + b) (held _ y) (part_at m c t y)
    · rw [outsAt0_B m c t h h3]
      frame_out
      rw [pay2_at]
      exact congrArg₂ (fun a b : EReal => a + b) (held _ y) (part_at m c t y)

/-- What a point that writes back writes is the accumulator. -/
theorem out_at (t : Fin cfg0.N) (h3 : t.val % 4 = 3) : (outsAt0 m c t.val t.isLt).1 = (outsAt0 m c t.val t.isLt).2 := by
  rw [outsAt0_C m c t (by omega) h3]
  frame_out

/-- The call's result array: the gradient with its columns in the woven order. -/
theorem array : (dats m 0 c).arrAt 2 cfg0.N = fun y : S1024x5632.Idx => dotTN (m ((c : Thread nD τ).loc main_arg0))
    (m ((c : Thread nD τ).loc main_arg1)) (ix2 (y 0) ⟨weave (y 1), weave_lt (y 1).isLt⟩) := by
  refine (dats m 0 c).arrAt_eq_of_covers 2 _ (by decide +kernel) fun t hf y => ?_
  have h3 : t.val % 4 = 3 := (flush0_2 t).mp hf
  rw [dotTN_nat]
  blk_simp
  rw [after0_2, out_at m c t h3, acc_at, h3]
  unfold g
  blk_simp [ix_2]

/-- The program's result: the columns in their plain order. -/
theorem v8_at (i : Fin 1024) (k : Fin 5632) :
    Pipeline.afterTail₀ cfgs (dats m) 0 (V0 m) [hostOps1] c main_v8 (ix2 i k)
      = (dats m 0 c).arrAt 2 cfg0.N (ix2 i ⟨unweave k, unweave_lt k.isLt⟩) := by
  unfold Pipeline.afterTail₀
  show StableHlo.after hostOps1 _ main_v8 (ix2 i k) = _
  after_reads_at
  exact congrFun (Pipeline.withArrays_arr spec0 (by decide) c (V0 m c) (fun w => (dats m 0 c).arrAt w cfg0.N) 2) _

theorem result : Pipeline.afterTail₀ cfgs (dats m) 0 (V0 m) [hostOps1] c main_v8
    = dotTN (m ((c : Thread nD τ).loc main_arg0)) (m ((c : Thread nD τ).loc main_arg1)) := by
  refine funext fun y : S1024x5632.Idx => ?_
  rw [eq_ix2 y]
  refine (v8_at m c _ _).trans ((congrFun (array m c) _).trans ?_)
  refine congrArg (dotTN _ _) (congrArg (ix2 _) (Fin.ext ?_))
  exact weave_unweave (y 1).isLt

/-- The run of the whole program. -/
theorem run (ρ : Dev nD → PrngReg) : θ_run defs (onTc (τ := τ) (main (F := Ideal))) ⟨m, fun _ => 0, ρ⟩ fun r => ∀ c : Dev nD,
      r.2.mem ((c : Thread nD τ).loc main_v8) = dotTN (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v8 (Pipeline.mem_restRefs_of main_v8 (by decide) (by decide))).trans (result m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end

/-- `Cert.algebraic_Kernel5Ideal_Reference5Ideal`: both programs run, and their results are equal. -/
theorem algebraic : Cert.algebraic_Kernel5Ideal_Reference5Ideal := by
  intro m ρ m' ρ' _ hagree
  refine ⟨fun c => dotTN (m ((c : Thread nD τ).loc main_arg0)) (m ((c : Thread nD τ).loc main_arg1)), ?_, ?_⟩
  · exact run m ρ
  · refine (θ_run Cert.Reference5Ideal.defs _ _).mono (fun r h c => ⟨(h c).1.trans ?_, (h c).2⟩)
      (Cert.Reference5Ideal.Value.run (F := Ideal) m' ρ')
    rw [(hagree c).1, (hagree c).2]
    funext y
    rw [eq_ix2 y]
    unfold dotTN
    pointwise
    exact Finset.sum_congr rfl fun k _ => mul_comm _ _

end Cert.Kernel5Ideal.Mm
-- ==== Proof.Mm6.lean ====
/-
  The gradient of the feed-forward layer's input from its first product: what the accumulating call leaves in its result.
-/
module

public import proofs.«01_k».proof.Proof.Gen.Kernel6Ideal.Value
public import proofs.«01_k».proof.Proof.Gen.Reference6Ideal.Run
public import proofs.«01_k».proof.Proof.Blocked
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel6Ideal.Mm
open Cert.Kernel6Ideal Cert.Kernel6Ideal.Gen Cert.Mm

theorem ix_0 : ∀ t : Fin cfg0.N, win0_0.index t = ![t.val / 8, t.val % 4] :=
  (by decide +kernel : ∀ t : Fin grid0.N, win0_0.index t = ![t.val / 8, t.val % 4])
theorem ix_1 : ∀ t : Fin cfg0.N, win0_1.index t = ![t.val / 4 % 2, t.val % 4] :=
  (by decide +kernel : ∀ t : Fin grid0.N, win0_1.index t = ![t.val / 4 % 2, t.val % 4])
theorem ix_2 : ∀ t : Fin cfg0.N, win0_2.index t = ![t.val / 8, t.val / 4 % 2] :=
  (by decide +kernel : ∀ t : Fin grid0.N, win0_2.index t = ![t.val / 8, t.val / 4 % 2])

/-- One point's partial product, added to what the accumulator held. -/
theorem pay2_at (v3 : Vec Ideal S1024x512 .f32) (v4 : Vec Ideal S1024x1408 .bf16) (v6 : Vec Ideal S512x1408 .bf16) (y : S1024x512.Idx) :
    k0_pay2 v3 v4 v6 y = v3 y + dotNT v4 v6 y := by
  rw [eq_ix2 y]
  unfold k0_pay2 dotNT
  pointwise

theorem pay1_at (y : S1024x512.Idx) : (k0_pay1 (F := Ideal)) y = 0 := by
  unfold k0_pay1
  pointwise

/-- The accumulator reads back as it was left. -/
theorem held (v : Vec Ideal S1024x512 .f32) (y : S1024x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v3_at (r : Fin 8192) (k : Fin 5632) : V m c main_v3 (ix2 r k)
    = m ((c : Thread nD τ).loc main_arg0) (ix2 r ⟨weave k, weave_lt k.isLt⟩) := by
  show StableHlo.after hostOps0 _ main_v3 (ix2 r k) = _
  after_reads_at
  rfl

theorem v7_at (r : Fin 1024) (k : Fin 5632) : V m c main_v7 (ix2 r k)
    = m ((c : Thread nD τ).loc main_arg1) (ix2 r ⟨weave k, weave_lt k.isLt⟩) := by
  show StableHlo.after hostOps0 _ main_v7 (ix2 r k) = _
  after_reads_at
  rfl

theorem blk_0 (t : Fin cfg0.N) (i : Fin 1024) (k : Fin 1408) : iblk m c 0 t (ix2 i k)
    = nat2 (m ((c : Thread nD τ).loc main_arg0)) (t.val / 8 * 1024 + i) (weave (t.val % 4 * 1408 + k)) := by
  blk_simp [iblk]
  rw [eq_ix2 (((cfg0.win 0).blk t).view.emb (ix2 i k))]
  refine (v3_at m c _ _).trans (nat2_of _ _ ?_ ?_) <;> blk_simp [ix_0] <;> simp

theorem blk_1 (t : Fin cfg0.N) (j : Fin 512) (k : Fin 1408) : iblk m c 1 t (ix2 j k)
    = nat2 (m ((c : Thread nD τ).loc main_arg1)) (t.val / 4 % 2 * 512 + j) (weave (t.val % 4 * 1408 + k)) := by
  blk_simp [iblk]
  rw [eq_ix2 (((cfg0.win 1).blk t).view.emb (ix2 j k))]
  refine (v7_at m c _ _).trans (nat2_of _ _ ?_ ?_) <;> blk_simp [ix_1] <;> simp

/-- The products that an entry of the result sums. -/
def g (q : ℕ) (y : S1024x512.Idx) (k : ℕ) : EReal :=
  nat2 (m ((c : Thread nD τ).loc main_arg0)) (q / 2 * 1024 + (y 0).val) (weave k)
    * nat2 (m ((c : Thread nD τ).loc main_arg1)) (q % 2 * 512 + (y 1).val) (weave k)

theorem part_at (t : Fin cfg0.N) (y : S1024x512.Idx) : dotNT (iblk m c 0 t) (iblk m c 1 t) y
    = ∑ k ∈ Finset.range 1408, g m c (t.val / 4) y (t.val % 4 * 1408 + k) := by
  rw [← Fin.sum_univ_eq_sum_range (fun k => g m c (t.val / 4) y (t.val % 4 * 1408 + k))]
  refine Finset.sum_congr rfl fun k _ => (congrArg₂ (fun a b : EReal => a * b) (blk_0 m c t (y 0) k) (blk_1 m c t (y 1) k)).trans ?_
  rw [g, Nat.div_div_eq_div_mul]

theorem acc_at (t : Fin cfg0.N) (y : S1024x512.Idx) : (outsAt0 m c t.val t.isLt).2 y
    = ∑ k ∈ Finset.range ((t.val % 4 + 1) * 1408), g m c (t.val / 4) y k := by
  refine accumulate (P := 4) (fun n h => (outsAt0 m c n h).2) (g m c) (fun t h y => ?_) (fun t h y => ?_) t y
  · rw [outsAt0_A m c t h (by omega)]
    frame_out
    rw [pay2_at, pay1_at]
    exact congrArg _ (part_at m c t y)
  · by_cases h3 : t.val % 4 = 3
    · rw [outsAt0_C m c t h h3]
      frame_out
      rw [pay2_at]
      exact congrArg₂ (fun a b : EReal => a + b) (held _ y) (part_at m c t y)
    · rw [outsAt0_B m c t h h3]
      frame_out
      rw [pay2_at]
      exact congrArg₂ (fun a b : EReal => a + b) (held _ y) (part_at m c t y)

/-- What a point that writes back writes is the accumulator. -/
theorem out_at (t : Fin cfg0.N) (h3 : t.val % 4 = 3) : (outsAt0 m c t.val t.isLt).1 = (outsAt0 m c t.val t.isLt).2 := by
  rw [outsAt0_C m c t (by omega) h3]
  frame_out

theorem sum_g (q : ℕ) (z : S1024x512.Idx) (y : S8192x1024.Idx) (h0 : (y 0).val = q / 2 * 1024 + (z 0).val)
    (h1 : (y 1).val = q % 2 * 512 + (z 1).val) : ∑ k ∈ Finset.range ((3 + 1) * 1408), g m c q z k
      = dotNT (m ((c : Thread nD τ).loc main_arg0)) (m ((c : Thread nD τ).loc main_arg1)) y := by
  rw [dotNT_nat, h0, h1]
  exact sum_weave fun k => _ * _

/-- The result array. -/
theorem array : (dats m 0 c).arrAt 2 cfg0.N
    = dotNT (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_at m c t h3, acc_at, h3]
  refine sum_g m c _ _ _ ?_ ?_ <;> blk_simp [ix_2]
  rw [Nat.div_div_eq_div_mul]

end

/-- `Cert.algebraic_Kernel6Ideal_Reference6Ideal`: both programs run, and their results are equal. -/
theorem algebraic : Cert.algebraic_Kernel6Ideal_Reference6Ideal := by
  intro m ρ m' ρ' _ hagree
  refine ⟨fun c => dotNT (m ((c : Thread nD τ).loc main_arg0)) (m ((c : Thread nD τ).loc main_arg1)), ?_, ?_⟩
  · exact (θ_run Cert.Kernel6Ideal.defs _ _).mono (fun r h c => ⟨(h c).1.trans (array m c), (h c).2⟩) (Cert.Kernel6Ideal.Value.run_blocks m ρ)
  · refine (θ_run Cert.Reference6Ideal.defs _ _).mono (fun r h c => ⟨(h c).1.trans ?_, (h c).2⟩)
      (Cert.Reference6Ideal.Value.run (F := Ideal) m' ρ')
    rw [(hagree c).1, (hagree c).2]
    funext y
    rw [eq_ix2 y]
    unfold dotNT
    pointwise

end Cert.Kernel6Ideal.Mm
-- ==== Proof.Mm7.lean ====
/-
  The weight gradient of the output projection's lower half: what the call leaves in its result.
-/
module

public import proofs.«01_k».proof.Proof.Gen.Kernel7Ideal.Value
public import proofs.«01_k».proof.Proof.Gen.Reference7Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel7Ideal.Mm
open Cert.Kernel7Ideal Cert.Kernel7Ideal.Gen Cert.Mm

theorem ix_0 : ∀ t : Fin cfg0.N, win0_0.index t = ![t.val % 4, 0] :=
  (by decide +kernel : ∀ t : Fin grid0.N, win0_0.index t = ![t.val % 4, 0])
theorem ix_1 : ∀ t : Fin cfg0.N, win0_1.index t = ![t.val % 4, t.val / 4] :=
  (by decide +kernel : ∀ t : Fin grid0.N, win0_1.index t = ![t.val % 4, t.val / 4])
theorem ix_2 : ∀ t : Fin cfg0.N, win0_2.index t = ![0, t.val / 4] :=
  (by decide +kernel : ∀ t : Fin grid0.N, win0_2.index t = ![0, t.val / 4])

/-- One point's partial product, added to what the accumulator held. -/
theorem pay2_at (v3 : Vec Ideal S1024x512 .f32) (v4 : Vec Ideal S2048x1024 .bf16) (v6 : Vec Ideal S2048x512 .bf16) (y : S1024x512.Idx) :
    k0_pay2 v3 v4 v6 y = v3 y + dotTN v4 v6 y := by
  rw [eq_ix2 y]
  unfold k0_pay2 dotTN
  pointwise

theorem pay1_at (y : S1024x512.Idx) : (k0_pay1 (F := Ideal)) y = 0 := by
  unfold k0_pay1
  pointwise

/-- The accumulator reads back as it was left. -/
theorem held (v : Vec Ideal S1024x512 .f32) (y : S1024x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S8192x1024.Idx) : V m c main_v0 y = m ((c : Thread nD τ).loc main_arg0) y := by
  show StableHlo.after hostOps0 _ main_v0 y = _
  rw [eq_ix2 y]
  after_reads_at

theorem v1_at (y : S8192x1024.Idx) : V m c main_v1 y = m ((c : Thread nD τ).loc main_arg1) y := by
  show StableHlo.after hostOps0 _ main_v1 y = _
  rw [eq_ix2 y]
  after_reads_at

theorem blk_0 (t : Fin cfg0.N) (k : Fin 2048) (i : Fin 1024) : iblk m c 0 t (ix2 k i)
    = nat2 (m ((c : Thread nD τ).loc main_arg0)) (t.val % 4 * 2048 + k) i := by
  blk_simp [iblk]
  rw [v0_at]
  refine nat2_of _ _ ?_ ?_ <;> blk_simp [ix_0] <;> simp

theorem blk_1 (t : Fin cfg0.N) (k : Fin 2048) (j : Fin 512) : iblk m c 1 t (ix2 k j)
    = nat2 (m ((c : Thread nD τ).loc main_arg1)) (t.val % 4 * 2048 + k) (t.val / 4 * 512 + j) := by
  blk_simp [iblk]
  rw [v1_at]
  refine nat2_of _ _ ?_ ?_ <;> blk_simp [ix_1] <;> simp

/-- The products that an entry of the result sums. -/
def g (q : ℕ) (y : S1024x512.Idx) (k : ℕ) : EReal :=
  nat2 (m ((c : Thread nD τ).loc main_arg0)) k (y 0).val * nat2 (m ((c : Thread nD τ).loc main_arg1)) k (q * 512 + (y 1).val)

theorem part_at (t : Fin cfg0.N) (y : S1024x512.Idx) : dotTN (iblk m c 0 t) (iblk m c 1 t) y
    = ∑ k ∈ Finset.range 2048, g m c (t.val / 4) y (t.val % 4 * 2048 + k) := by
  rw [← Fin.sum_univ_eq_sum_range (fun k => g m c (t.val / 4) y (t.val % 4 * 2048 + k))]
  refine Finset.sum_congr rfl fun k _ => (congrArg₂ (fun a b : EReal => a * b) (blk_0 m c t k (y 0)) (blk_1 m c t k (y 1))).trans ?_
  rw [g]

theorem acc_at (t : Fin cfg0.N) (y : S1024x512.Idx) : (outsAt0 m c t.val t.isLt).2 y
    = ∑ k ∈ Finset.range ((t.val % 4 + 1) * 2048), g m c (t.val / 4) y k := by
  refine accumulate (P := 4) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 4 = 3
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 4 = 3) : (outsAt0 m c t.val t.isLt).1 = (outsAt0 m c t.val t.isLt).2 := by
  rw [outsAt0_C m c t (by omega) hl]
  frame_out

/-- The result array. -/
theorem array : (dats m 0 c).arrAt 2 cfg0.N = fun y : S1024x1024.Idx =>
    dotTN (m ((c : Thread nD τ).loc main_arg0)) (m ((c : Thread nD τ).loc main_arg1)) y := by
  refine (dats m 0 c).arrAt_eq_of_covers 2 _ (by decide +kernel) fun t hf y => ?_
  have hl : t.val % 4 = 3 := (flush0_2 t).mp hf
  rw [dotTN_nat]
  blk_simp
  rw [after0_2, out_at m c t hl, acc_at, hl]
  unfold g
  blk_simp [ix_2]

end

/-- `Cert.algebraic_Kernel7Ideal_Reference7Ideal`: both programs run, and their results are equal. -/
theorem algebraic : Cert.algebraic_Kernel7Ideal_Reference7Ideal := by
  intro m ρ m' ρ' _ hagree
  refine ⟨fun c => dotTN (m ((c : Thread nD τ).loc main_arg0)) (m ((c : Thread nD τ).loc main_arg1)), ?_, ?_⟩
  · exact (θ_run Cert.Kernel7Ideal.defs _ _).mono (fun r h c => ⟨(h c).1.trans (array m c), (h c).2⟩) (Cert.Kernel7Ideal.Value.run_blocks m ρ)
  · refine (θ_run Cert.Reference7Ideal.defs _ _).mono (fun r h c => ⟨(h c).1.trans ?_, (h c).2⟩)
      (Cert.Reference7Ideal.Value.run (F := Ideal) m' ρ')
    rw [(hagree c).1, (hagree c).2]
    funext y
    rw [eq_ix2 y]
    unfold dotTN
    pointwise
    exact Finset.sum_congr rfl fun k _ => mul_comm _ _

end Cert.Kernel7Ideal.Mm
-- ==== Proof.Mm8.lean ====
/-
  The gradient of either input of the output projection: what the call leaves in its result.
-/
module

public import proofs.«01_k».proof.Proof.Gen.Kernel8Ideal.Value
public import proofs.«01_k».proof.Proof.Gen.Reference8Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel8Ideal.Mm
open Cert.Kernel8Ideal Cert.Kernel8Ideal.Gen Cert.Mm

theorem ix_0 : ∀ t : Fin cfg0.N, win0_0.index t = ![t.val / 2, 0] :=
  (by decide +kernel : ∀ t : Fin grid0.N, win0_0.index t = ![t.val / 2, 0])
theorem ix_1 : ∀ t : Fin cfg0.N, win0_1.index t = ![t.val % 2, 0] :=
  (by decide +kernel : ∀ t : Fin grid0.N, win0_1.index t = ![t.val % 2, 0])
theorem ix_2 : ∀ t : Fin cfg0.N, win0_2.index t = ![t.val / 2, t.val % 2] :=
  (by decide +kernel : ∀ t : Fin grid0.N, win0_2.index t = ![t.val / 2, t.val % 2])

/-- One point's product. -/
theorem pay_at (v0 : Vec Ideal S1024x1024 .bf16) (v2 : Vec Ideal S512x1024 .bf16) (y : S1024x512.Idx) : k0_pay1 v0 v2 y = dotNT v0 v2 y := by
  rw [eq_ix2 y]
  unfold k0_pay1 dotNT
  pointwise

section
variable (m : (ℓ : Loc nD τ sig) → Buf (Elt Ideal) ℓ) (c : Dev nD)

theorem v0_at (y : S8192x1024.Idx) : V m c main_v0 y = m ((c : Thread nD τ).loc main_arg0) y := by
  show StableHlo.after hostOps0 _ main_v0 y = _
  rw [eq_ix2 y]
  after_reads_at

theorem v1_at (y : S1024x1024.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S8192x1024.Idx =>
    dotNT (m ((c : Thread nD τ).loc main_arg0)) (m ((c : Thread nD τ).loc main_arg1)) y := by
  refine (dats m 0 c).arrAt_eq_of_covers 2 _ (by decide +kernel) fun t _ y => ?_
  rw [dotNT_nat]
  blk_simp
  rw [after0_2]
  frame_out
  refine (pay_at _ _ y).trans (dotNT_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel8Ideal_Reference8Ideal`: both programs run, and their results are equal. -/
theorem algebraic : Cert.algebraic_Kernel8Ideal_Reference8Ideal := by
  intro m ρ m' ρ' _ hagree
  refine ⟨fun c => dotNT (m ((c : Thread nD τ).loc main_arg0)) (m ((c : Thread nD τ).loc main_arg1)), ?_, ?_⟩
  · exact (θ_run Cert.Kernel8Ideal.defs _ _).mono (fun r h c => ⟨(h c).1.trans (array m c), (h c).2⟩) (Cert.Kernel8Ideal.Value.run_blocks m ρ)
  · refine (θ_run Cert.Reference8Ideal.defs _ _).mono (fun r h c => ⟨(h c).1.trans ?_, (h c).2⟩)
      (Cert.Reference8Ideal.Value.run (F := Ideal) m' ρ')
    rw [(hagree c).1, (hagree c).2]
    funext y
    rw [eq_ix2 y]
    unfold dotNT
    pointwise

end Cert.Kernel8Ideal.Mm
-- ==== Proof.Mm9.lean ====
/-
  The gradient of the input projection's input: what the call leaves in its result.
-/
module

public import proofs.«01_k».proof.Proof.Gen.Kernel9Ideal.Value
public import proofs.«01_k».proof.Proof.Gen.Reference9Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel9Ideal.Mm
open Cert.Kernel9Ideal Cert.Kernel9Ideal.Gen Cert.Mm

theorem ix_0 : ∀ t : Fin cfg0.N, win0_0.index t = ![t.val / 2, 0] :=
  (by decide +kernel : ∀ t : Fin grid0.N, win0_0.index t = ![t.val / 2, 0])
theorem ix_2 : ∀ t : Fin cfg0.N, win0_2.index t = ![t.val / 2, 0] :=
  (by decide +kernel : ∀ t : Fin grid0.N, win0_2.index t = ![t.val / 2, 0])
theorem ix_4 : ∀ t : Fin cfg0.N, win0_4.index t = ![t.val / 2, 0] :=
  (by decide +kernel : ∀ t : Fin grid0.N, win0_4.index t = ![t.val / 2, 0])
theorem ix_6 : ∀ t : Fin cfg0.N, win0_6.index t = ![t.val / 2, 0] :=
  (by decide +kernel : ∀ t : Fin grid0.N, win0_6.index t = ![t.val / 2, 0])
theorem ix_8 : ∀ t : Fin cfg0.N, win0_8.index t = ![t.val / 2, 0] :=
  (by decide +kernel : ∀ t : Fin grid0.N, win0_8.index t = ![t.val / 2, 0])
theorem ix_1 : ∀ t : Fin cfg0.N, win0_1.index t = ![t.val % 2, 0] :=
  (by decide +kernel : ∀ t : Fin grid0.N, win0_1.index t = ![t.val % 2, 0])
theorem ix_3 : ∀ t : Fin cfg0.N, win0_3.index t = ![t.val % 2, 0] :=
  (by decide +kernel : ∀ t : Fin grid0.N, win0_3.index t = ![t.val % 2, 0])
theorem ix_5 : ∀ t : Fin cfg0.N, win0_5.index t = ![t.val % 2, 0] :=
  (by decide +kernel : ∀ t : Fin grid0.N, win0_5.index t = ![t.val % 2, 0])
theorem ix_7 : ∀ t : Fin cfg0.N, win0_7.index t = ![t.val % 2, 0] :=
  (by decide +kernel : ∀ t : Fin grid0.N, win0_7.index t = ![t.val % 2, 0])
theorem ix_9 : ∀ t : Fin cfg0.N, win0_9.index t = ![t.val % 2, 0] :=
  (by decide +kernel : ∀ t : Fin grid0.N, win0_9.index t = ![t.val % 2, 0])
theorem ix_10 : ∀ t : Fin cfg0.N, win0_10.index t = ![t.val / 2, t.val % 2] :=
  (by decide +kernel : ∀ t : Fin grid0.N, win0_10.index t = ![t.val / 2, t.val % 2])

/-- One point's sum of five products. -/
theorem pay_at (v0 : Vec Ideal S1024x384 .bf16) (v2 : Vec Ideal S512x384 .bf16) (v5 : Vec Ideal S1024x256 .bf16) (v7 : Vec Ideal S512x256 .bf16) (v11 : Vec Ideal S1024x1024 .bf16) (v13 : Vec Ideal S512x1024 .bf16) (v17 : Vec Ideal S1024x1536 .bf16) (v19 : Vec Ideal S512x1536 .bf16) (v23 : Vec Ideal S1024x128 .bf16) (v25 : Vec Ideal S512x128 .bf16)
    (y : S1024x512.Idx) : k0_pay1 v0 v2 v5 v7 v11 v13 v17 v19 v23 v25 y
      = dotNT v0 v2 y + dotNT v5 v7 y + dotNT v11 v13 y + dotNT v17 v19 y + dotNT v23 v25 y := by
  rw [eq_ix2 y]
  unfold k0_pay1 dotNT
  pointwise

section
variable (m : (ℓ : Loc nD τ sig) → Buf (Elt Ideal) ℓ) (c : Dev nD)

theorem v0_at (y : S9216x384.Idx) : V m c main_v0 y = m ((c : Thread nD τ).loc main_arg0) y := by
  show StableHlo.after hostOps0 _ main_v0 y = _
  rw [eq_ix2 y]
  after_reads_at

theorem v1_at (y : S9216x256.Idx) : V m c main_v1 y = m ((c : Thread nD τ).loc main_arg1) y := by
  show StableHlo.after hostOps0 _ main_v1 y = _
  rw [eq_ix2 y]
  after_reads_at

theorem v2_at (y : S9216x1024.Idx) : V m c main_v2 y = m ((c : Thread nD τ).loc main_arg2) y := by
  show StableHlo.after hostOps0 _ main_v2 y = _
  rw [eq_ix2 y]
  after_reads_at

theorem v3_at (y : S9216x1536.Idx) : V m c main_v3 y = m ((c : Thread nD τ).loc main_arg3) y := by
  show StableHlo.after hostOps0 _ main_v3 y = _
  rw [eq_ix2 y]
  after_reads_at

theorem v4_at (y : S9216x128.Idx) : V m c main_v4 y = m ((c : Thread nD τ).loc main_arg4) y := by
  show StableHlo.after hostOps0 _ main_v4 y = _
  rw [eq_ix2 y]
  after_reads_at

theorem v5_at (y : S1024x384.Idx) : V m c main_v5 y = m ((c : Thread nD τ).loc main_arg5) y := by
  show StableHlo.after hostOps0 _ main_v5 y = _
  rw [eq_ix2 y]
  after_reads_at

theorem v6_at (y : S1024x256.Idx) : V m c main_v6 y = m ((c : Thread nD τ).loc main_arg6) y := by
  show StableHlo.after hostOps0 _ main_v6 y = _
  rw [eq_ix2 y]
  after_reads_at

theorem v7_at (y : S1024x1024.Idx) : V m c main_v7 y = m ((c : Thread nD τ).loc main_arg7) y := by
  show StableHlo.after hostOps0 _ main_v7 y = _
  rw [eq_ix2 y]
  after_reads_at

theorem v8_at (y : S1024x1536.Idx) : V m c main_v8 y = m ((c : Thread nD τ).loc main_arg8) y := by
  show StableHlo.after hostOps0 _ main_v8 y = _
  rw [eq_ix2 y]
  after_reads_at

theorem v9_at (y : S1024x128.Idx) : V m c main_v9 y = m ((c : Thread nD τ).loc main_arg9) y := by
  show StableHlo.after hostOps0 _ main_v9 y = _
  rw [eq_ix2 y]
  after_reads_at

theorem part_0 (t : Fin cfg0.N) (y : S1024x512.Idx) (z : S9216x1024.Idx) (h0 : (z 0).val = t.val / 2 * 1024 + (y 0).val)
    (h1 : (z 1).val = t.val % 2 * 512 + (y 1).val) : dotNT (iblk m c 0 t) (iblk m c 1 t) y
      = dotNT (m ((c : Thread nD τ).loc main_arg0)) (m ((c : Thread nD τ).loc main_arg5)) z := by
  rw [dotNT_nat (m ((c : Thread nD τ).loc main_arg0)), h0, h1]
  refine dotNT_blk _ _ _ (fun k => ?_) fun k => ?_
  · blk_simp [iblk]
    rw [v0_at]
    refine nat2_of _ _ ?_ ?_ <;> blk_simp [ix_0] <;> simp
  · blk_simp [iblk]
    rw [v5_at]
    refine nat2_of _ _ ?_ ?_ <;> blk_simp [ix_1] <;> simp

theorem part_1 (t : Fin cfg0.N) (y : S1024x512.Idx) (z : S9216x1024.Idx) (h0 : (z 0).val = t.val / 2 * 1024 + (y 0).val)
    (h1 : (z 1).val = t.val % 2 * 512 + (y 1).val) : dotNT (iblk m c 2 t) (iblk m c 3 t) y
      = dotNT (m ((c : Thread nD τ).loc main_arg1)) (m ((c : Thread nD τ).loc main_arg6)) z := by
  rw [dotNT_nat (m ((c : Thread nD τ).loc main_arg1)), h0, h1]
  refine dotNT_blk _ _ _ (fun k => ?_) fun k => ?_
  · blk_simp [iblk]
    rw [v1_at]
    refine nat2_of _ _ ?_ ?_ <;> blk_simp [ix_2] <;> simp
  · blk_simp [iblk]
    rw [v6_at]
    refine nat2_of _ _ ?_ ?_ <;> blk_simp [ix_3] <;> simp

theorem part_2 (t : Fin cfg0.N) (y : S1024x512.Idx) (z : S9216x1024.Idx) (h0 : (z 0).val = t.val / 2 * 1024 + (y 0).val)
    (h1 : (z 1).val = t.val % 2 * 512 + (y 1).val) : dotNT (iblk m c 4 t) (iblk m c 5 t) y
      = dotNT (m ((c : Thread nD τ).loc main_arg2)) (m ((c : Thread nD τ).loc main_arg7)) z := by
  rw [dotNT_nat (m ((c : Thread nD τ).loc main_arg2)), h0, h1]
  refine dotNT_blk _ _ _ (fun k => ?_) fun k => ?_
  · blk_simp [iblk]
    rw [v2_at]
    refine nat2_of _ _ ?_ ?_ <;> blk_simp [ix_4] <;> simp
  · blk_simp [iblk]
    rw [v7_at]
    refine nat2_of _ _ ?_ ?_ <;> blk_simp [ix_5] <;> simp

theorem part_3 (t : Fin cfg0.N) (y : S1024x512.Idx) (z : S9216x1024.Idx) (h0 : (z 0).val = t.val / 2 * 1024 + (y 0).val)
    (h1 : (z 1).val = t.val % 2 * 512 + (y 1).val) : dotNT (iblk m c 6 t) (iblk m c 7 t) y
      = dotNT (m ((c : Thread nD τ).loc main_arg3)) (m ((c : Thread nD τ).loc main_arg8)) z := by
  rw [dotNT_nat (m ((c : Thread nD τ).loc main_arg3)), h0, h1]
  refine dotNT_blk _ _ _ (fun k => ?_) fun k => ?_
  · blk_simp [iblk]
    rw [v3_at]
    refine nat2_of _ _ ?_ ?_ <;> blk_simp [ix_6] <;> simp
  · blk_simp [iblk]
    rw [v8_at]
    refine nat2_of _ _ ?_ ?_ <;> blk_simp [ix_7] <;> simp

theorem part_4 (t : Fin cfg0.N) (y : S1024x512.Idx) (z : S9216x1024.Idx) (h0 : (z 0).val = t.val / 2 * 1024 + (y 0).val)
    (h1 : (z 1).val = t.val % 2 * 512 + (y 1).val) : dotNT (iblk m c 8 t) (iblk m c 9 t) y
      = dotNT (m ((c : Thread nD τ).loc main_arg4)) (m ((c : Thread nD τ).loc main_arg9)) z := by
  rw [dotNT_nat (m ((c : Thread nD τ).loc main_arg4)), h0, h1]
  refine dotNT_blk _ _ _ (fun k => ?_) fun k => ?_
  · blk_simp [iblk]
    rw [v4_at]
    refine nat2_of _ _ ?_ ?_ <;> blk_simp [ix_8] <;> simp
  · blk_simp [iblk]
    rw [v9_at]
    refine nat2_of _ _ ?_ ?_ <;> blk_simp [ix_9] <;> simp

/-- The sum of the five segments' products. -/
def total (y : S9216x1024.Idx) : EReal :=
  dotNT (m ((c : Thread nD τ).loc main_arg0)) (m ((c : Thread nD τ).loc main_arg5)) y
    + dotNT (m ((c : Thread nD τ).loc main_arg1)) (m ((c : Thread nD τ).loc main_arg6)) y
    + dotNT (m ((c : Thread nD τ).loc main_arg2)) (m ((c : Thread nD τ).loc main_arg7)) y
    + dotNT (m ((c : Thread nD τ).loc main_arg3)) (m ((c : Thread nD τ).loc main_arg8)) y
    + dotNT (m ((c : Thread nD τ).loc main_arg4)) (m ((c : Thread nD τ).loc main_arg9)) y

/-- The result array. -/
theorem array : (dats m 0 c).arrAt 10 cfg0.N = fun y : S9216x1024.Idx => total m c y := by
  refine (dats m 0 c).arrAt_eq_of_covers 10 _ (by decide +kernel) fun t _ y => ?_
  have h0 : ((((cfg0.win 10).blk t).view.emb y) 0).val = t.val / 2 * 1024 + (y 0).val := by blk_simp [ix_10]
  have h1 : ((((cfg0.win 10).blk t).view.emb y) 1).val = t.val % 2 * 512 + (y 1).val := by blk_simp [ix_10]
  blk_simp
  rw [after0_10]
  frame_out
  rw [pay_at, part_0 m c t y _ h0 h1, part_1 m c t y _ h0 h1, part_2 m c t y _ h0 h1, part_3 m c t y _ h0 h1, part_4 m c t y _ h0 h1]
  rfl

end

/-- Five terms summed from the last to the first. -/
theorem reversed (a b c d e : EReal) : e + d + c + b + a = a + b + c + d + e := by
  simp only [add_comm, add_left_comm]

/-- `Cert.algebraic_Kernel9Ideal_Reference9Ideal`: both programs run, and their results are equal. -/
theorem algebraic : Cert.algebraic_Kernel9Ideal_Reference9Ideal := by
  intro m ρ m' ρ' _ hagree
  refine ⟨fun c => total m c, ?_, ?_⟩
  · exact (θ_run Cert.Kernel9Ideal.defs _ _).mono (fun r h c => ⟨(h c).1.trans (array m c), (h c).2⟩) (Cert.Kernel9Ideal.Value.run_blocks m ρ)
  · refine (θ_run Cert.Reference9Ideal.defs _ _).mono (fun r h c => ⟨(h c).1.trans ?_, (h c).2⟩)
      (Cert.Reference9Ideal.Value.run (F := Ideal) m' ρ')
    obtain ⟨e0, e1, e2, e3, e4, e5, e6, e7, e8, e9⟩ := hagree c
    rw [e0, e1, e2, e3, e4, e5, e6, e7, e8, e9]
    funext y
    rw [eq_ix2 y]
    unfold total dotNT
    pointwise
    exact reversed _ _ _ _ _

end Cert.Kernel9Ideal.Mm
-- ==== Proof.Mm10.lean ====
/-
  The weight gradient of the input projection's gate columns: what the call leaves in its result.
-/
module

public import proofs.«01_k».proof.Proof.Gen.Kernel10Ideal.Value
public import proofs.«01_k».proof.Proof.Gen.Reference10Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel10Ideal.Mm
open Cert.Kernel10Ideal Cert.Kernel10Ideal.Gen Cert.Mm

theorem ix_0 : ∀ t : Fin cfg0.N, win0_0.index t = ![t.val % 6, 0] :=
  (by decide +kernel : ∀ t : Fin grid0.N, win0_0.index t = ![t.val % 6, 0])
theorem ix_1 : ∀ t : Fin cfg0.N, win0_1.index t = ![t.val % 6, t.val / 6] :=
  (by decide +kernel : ∀ t : Fin grid0.N, win0_1.index t = ![t.val % 6, t.val / 6])
theorem ix_2 : ∀ t : Fin cfg0.N, win0_2.index t = ![0, t.val / 6] :=
  (by decide +kernel : ∀ t : Fin grid0.N, win0_2.index t = ![0, t.val / 6])

/-- One point's partial product, added to what the accumulator held. -/
theorem pay2_at (v3 : Vec Ideal S1024x512 .f32) (v4 : Vec Ideal S1536x1024 .bf16) (v6 : Vec Ideal S1536x512 .bf16) (y : S1024x512.Idx) :
    k0_pay2 v3 v4 v6 y = v3 y + dotTN v4 v6 y := by
  rw [eq_ix2 y]
  unfold k0_pay2 dotTN
  pointwise

theorem pay1_at (y : S1024x512.Idx) : (k0_pay1 (F := Ideal)) y = 0 := by
  unfold k0_pay1
  pointwise

/-- The accumulator reads back as it was left. -/
theorem held (v : Vec Ideal S1024x512 .f32) (y : S1024x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S9216x1024.Idx) : V m c main_v1 y = m ((c : Thread nD τ).loc main_arg1) y := by
  show StableHlo.after hostOps0 _ main_v1 y = _
  rw [eq_ix2 y]
  after_reads_at

theorem blk_0 (t : Fin cfg0.N) (k : Fin 1536) (i : Fin 1024) : iblk m c 0 t (ix2 k i)
    = nat2 (m ((c : Thread nD τ).loc main_arg0)) (t.val % 6 * 1536 + k) i := by
  blk_simp [iblk]
  rw [v0_at]
  refine nat2_of _ _ ?_ ?_ <;> blk_simp [ix_0] <;> simp

theorem blk_1 (t : Fin cfg0.N) (k : Fin 1536) (j : Fin 512) : iblk m c 1 t (ix2 k j)
    = nat2 (m ((c : Thread nD τ).loc main_arg1)) (t.val % 6 * 1536 + k) (t.val / 6 * 512 + j) := by
  blk_simp [iblk]
  rw [v1_at]
  refine nat2_of _ _ ?_ ?_ <;> blk_simp [ix_1] <;> simp

/-- The products that an entry of the result sums. -/
def g (q : ℕ) (y : S1024x512.Idx) (k : ℕ) : EReal :=
  nat2 (m ((c : Thread nD τ).loc main_arg0)) k (y 0).val * nat2 (m ((c : Thread nD τ).loc main_arg1)) k (q * 512 + (y 1).val)

theorem part_at (t : Fin cfg0.N) (y : S1024x512.Idx) : dotTN (iblk m c 0 t) (iblk m c 1 t) y
    = ∑ k ∈ Finset.range 1536, g m c (t.val / 6) y (t.val % 6 * 1536 + k) := by
  rw [← Fin.sum_univ_eq_sum_range (fun k => g m c (t.val / 6) y (t.val % 6 * 1536 + k))]
  refine Finset.sum_congr rfl fun k _ => (congrArg₂ (fun a b : EReal => a * b) (blk_0 m c t k (y 0)) (blk_1 m c t k (y 1))).trans ?_
  rw [g]

theorem acc_at (t : Fin cfg0.N) (y : S1024x512.Idx) : (outsAt0 m c t.val t.isLt).2 y
    = ∑ k ∈ Finset.range ((t.val % 6 + 1) * 1536), g m c (t.val / 6) y k := by
  refine accumulate (P := 6) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 6 = 5
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 6 = 5) : (outsAt0 m c t.val t.isLt).1 = (outsAt0 m c t.val t.isLt).2 := by
  rw [outsAt0_C m c t (by omega) hl]
  frame_out

/-- The result array. -/
theorem array : (dats m 0 c).arrAt 2 cfg0.N = fun y : S1024x1024.Idx =>
    dotTN (m ((c : Thread nD τ).loc main_arg0)) (m ((c : Thread nD τ).loc main_arg1)) y := by
  refine (dats m 0 c).arrAt_eq_of_covers 2 _ (by decide +kernel) fun t hf y => ?_
  have hl : t.val % 6 = 5 := (flush0_2 t).mp hf
  rw [dotTN_nat]
  blk_simp
  rw [after0_2, out_at m c t hl, acc_at, hl]
  unfold g
  blk_simp [ix_2]

end

/-- `Cert.algebraic_Kernel10Ideal_Reference10Ideal`: both programs run, and their results are equal. -/
theorem algebraic : Cert.algebraic_Kernel10Ideal_Reference10Ideal := by
  intro m ρ m' ρ' _ hagree
  refine ⟨fun c => dotTN (m ((c : Thread nD τ).loc main_arg0)) (m ((c : Thread nD τ).loc main_arg1)), ?_, ?_⟩
  · exact (θ_run Cert.Kernel10Ideal.defs _ _).mono (fun r h c => ⟨(h c).1.trans (array m c), (h c).2⟩) (Cert.Kernel10Ideal.Value.run_blocks m ρ)
  · refine (θ_run Cert.Reference10Ideal.defs _ _).mono (fun r h c => ⟨(h c).1.trans ?_, (h c).2⟩)
      (Cert.Reference10Ideal.Value.run (F := Ideal) m' ρ')
    rw [(hagree c).1, (hagree c).2]
    funext y
    rw [eq_ix2 y]
    unfold dotTN
    pointwise
    exact Finset.sum_congr rfl fun k _ => mul_comm _ _

end Cert.Kernel10Ideal.Mm
-- ==== Proof.Mm11.lean ====
/-
  The weight gradient of the input projection's scan columns: what the call leaves in its result.
-/
module

public import proofs.«01_k».proof.Proof.Gen.Kernel11Ideal.Value
public import proofs.«01_k».proof.Proof.Gen.Reference11Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel11Ideal.Mm
open Cert.Kernel11Ideal Cert.Kernel11Ideal.Gen Cert.Mm

theorem ix_0 : ∀ t : Fin cfg0.N, win0_0.index t = ![t.val % 6, 0] :=
  (by decide +kernel : ∀ t : Fin grid0.N, win0_0.index t = ![t.val % 6, 0])
theorem ix_1 : ∀ t : Fin cfg0.N, win0_1.index t = ![t.val % 6, t.val / 6] :=
  (by decide +kernel : ∀ t : Fin grid0.N, win0_1.index t = ![t.val % 6, t.val / 6])
theorem ix_2 : ∀ t : Fin cfg0.N, win0_2.index t = ![0, t.val / 6] :=
  (by decide +kernel : ∀ t : Fin grid0.N, win0_2.index t = ![0, t.val / 6])

/-- One point's partial product, added to what the accumulator held. -/
theorem pay2_at (v3 : Vec Ideal S1024x512 .f32) (v4 : Vec Ideal S1536x1024 .bf16) (v6 : Vec Ideal S1536x512 .bf16) (y : S1024x512.Idx) :
    k0_pay2 v3 v4 v6 y = v3 y + dotTN v4 v6 y := by
  rw [eq_ix2 y]
  unfold k0_pay2 dotTN
  pointwise

theorem pay1_at (y : S1024x512.Idx) : (k0_pay1 (F := Ideal)) y = 0 := by
  unfold k0_pay1
  pointwise

/-- The accumulator reads back as it was left. -/
theorem held (v : Vec Ideal S1024x512 .f32) (y : S1024x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S9216x1536.Idx) : V m c main_v1 y = m ((c : Thread nD τ).loc main_arg1) y := by
  show StableHlo.after hostOps0 _ main_v1 y = _
  rw [eq_ix2 y]
  after_reads_at

theorem blk_0 (t : Fin cfg0.N) (k : Fin 1536) (i : Fin 1024) : iblk m c 0 t (ix2 k i)
    = nat2 (m ((c : Thread nD τ).loc main_arg0)) (t.val % 6 * 1536 + k) i := by
  blk_simp [iblk]
  rw [v0_at]
  refine nat2_of _ _ ?_ ?_ <;> blk_simp [ix_0] <;> simp

theorem blk_1 (t : Fin cfg0.N) (k : Fin 1536) (j : Fin 512) : iblk m c 1 t (ix2 k j)
    = nat2 (m ((c : Thread nD τ).loc main_arg1)) (t.val % 6 * 1536 + k) (t.val / 6 * 512 + j) := by
  blk_simp [iblk]
  rw [v1_at]
  refine nat2_of _ _ ?_ ?_ <;> blk_simp [ix_1] <;> simp

/-- The products that an entry of the result sums. -/
def g (q : ℕ) (y : S1024x512.Idx) (k : ℕ) : EReal :=
  nat2 (m ((c : Thread nD τ).loc main_arg0)) k (y 0).val * nat2 (m ((c : Thread nD τ).loc main_arg1)) k (q * 512 + (y 1).val)

theorem part_at (t : Fin cfg0.N) (y : S1024x512.Idx) : dotTN (iblk m c 0 t) (iblk m c 1 t) y
    = ∑ k ∈ Finset.range 1536, g m c (t.val / 6) y (t.val % 6 * 1536 + k) := by
  rw [← Fin.sum_univ_eq_sum_range (fun k => g m c (t.val / 6) y (t.val % 6 * 1536 + k))]
  refine Finset.sum_congr rfl fun k _ => (congrArg₂ (fun a b : EReal => a * b) (blk_0 m c t k (y 0)) (blk_1 m c t k (y 1))).trans ?_
  rw [g]

theorem acc_at (t : Fin cfg0.N) (y : S1024x512.Idx) : (outsAt0 m c t.val t.isLt).2 y
    = ∑ k ∈ Finset.range ((t.val % 6 + 1) * 1536), g m c (t.val / 6) y k := by
  refine accumulate (P := 6) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 6 = 5
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 6 = 5) : (outsAt0 m c t.val t.isLt).1 = (outsAt0 m c t.val t.isLt).2 := by
  rw [outsAt0_C m c t (by omega) hl]
  frame_out

/-- The result array. -/
theorem array : (dats m 0 c).arrAt 2 cfg0.N = fun y : S1024x1536.Idx =>
    dotTN (m ((c : Thread nD τ).loc main_arg0)) (m ((c : Thread nD τ).loc main_arg1)) y := by
  refine (dats m 0 c).arrAt_eq_of_covers 2 _ (by decide +kernel) fun t hf y => ?_
  have hl : t.val % 6 = 5 := (flush0_2 t).mp hf
  rw [dotTN_nat]
  blk_simp
  rw [after0_2, out_at m c t hl, acc_at, hl]
  unfold g
  blk_simp [ix_2]

end

/-- `Cert.algebraic_Kernel11Ideal_Reference11Ideal`: both programs run, and their results are equal. -/
theorem algebraic : Cert.algebraic_Kernel11Ideal_Reference11Ideal := by
  intro m ρ m' ρ' _ hagree
  refine ⟨fun c => dotTN (m ((c : Thread nD τ).loc main_arg0)) (m ((c : Thread nD τ).loc main_arg1)), ?_, ?_⟩
  · exact (θ_run Cert.Kernel11Ideal.defs _ _).mono (fun r h c => ⟨(h c).1.trans (array m c), (h c).2⟩) (Cert.Kernel11Ideal.Value.run_blocks m ρ)
  · refine (θ_run Cert.Reference11Ideal.defs _ _).mono (fun r h c => ⟨(h c).1.trans ?_, (h c).2⟩)
      (Cert.Reference11Ideal.Value.run (F := Ideal) m' ρ')
    rw [(hagree c).1, (hagree c).2]
    funext y
    rw [eq_ix2 y]
    unfold dotTN
    pointwise
    exact Finset.sum_congr rfl fun k _ => mul_comm _ _

end Cert.Kernel11Ideal.Mm
-- ==== Proof.Mm12.lean ====
/-
  The weight gradient of the input projection's query columns: what the call leaves in its result.
-/
module

public import proofs.«01_k».proof.Proof.Gen.Kernel12Ideal.Value
public import proofs.«01_k».proof.Proof.Gen.Reference12Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel12Ideal.Mm
open Cert.Kernel12Ideal Cert.Kernel12Ideal.Gen Cert.Mm

theorem ix_0 : ∀ t : Fin cfg0.N, win0_0.index t = ![t.val % 6, 0] :=
  (by decide +kernel : ∀ t : Fin grid0.N, win0_0.index t = ![t.val % 6, 0])
theorem ix_1 : ∀ t : Fin cfg0.N, win0_1.index t = ![t.val % 6, 0] :=
  (by decide +kernel : ∀ t : Fin grid0.N, win0_1.index t = ![t.val % 6, 0])
theorem ix_2 : ∀ t : Fin cfg0.N, win0_2.index t = ![0, 0] :=
  (by decide +kernel : ∀ t : Fin grid0.N, win0_2.index t = ![0, 0])

/-- One point's partial product, added to what the accumulator held. -/
theorem pay2_at (v3 : Vec Ideal S1024x384 .f32) (v4 : Vec Ideal S1536x1024 .bf16) (v6 : Vec Ideal S1536x384 .bf16) (y : S1024x384.Idx) :
    k0_pay2 v3 v4 v6 y = v3 y + dotTN v4 v6 y := by
  rw [eq_ix2 y]
  unfold k0_pay2 dotTN
  pointwise

theorem pay1_at (y : S1024x384.Idx) : (k0_pay1 (F := Ideal)) y = 0 := by
  unfold k0_pay1
  pointwise

/-- The accumulator reads back as it was left. -/
theorem held (v : Vec Ideal S1024x384 .f32) (y : S1024x384.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S9216x384.Idx) : V m c main_v1 y = m ((c : Thread nD τ).loc main_arg1) y := by
  show StableHlo.after hostOps0 _ main_v1 y = _
  rw [eq_ix2 y]
  after_reads_at

theorem blk_0 (t : Fin cfg0.N) (k : Fin 1536) (i : Fin 1024) : iblk m c 0 t (ix2 k i)
    = nat2 (m ((c : Thread nD τ).loc main_arg0)) (t.val % 6 * 1536 + k) i := by
  blk_simp [iblk]
  rw [v0_at]
  refine nat2_of _ _ ?_ ?_ <;> blk_simp [ix_0] <;> simp

theorem blk_1 (t : Fin cfg0.N) (k : Fin 1536) (j : Fin 384) : iblk m c 1 t (ix2 k j)
    = nat2 (m ((c : Thread nD τ).loc main_arg1)) (t.val % 6 * 1536 + k) (j) := by
  blk_simp [iblk]
  rw [v1_at]
  refine nat2_of _ _ ?_ ?_ <;> blk_simp [ix_1] <;> simp

/-- The products that an entry of the result sums. -/
def g (_ : ℕ) (y : S1024x384.Idx) (k : ℕ) : EReal :=
  nat2 (m ((c : Thread nD τ).loc main_arg0)) k (y 0).val * nat2 (m ((c : Thread nD τ).loc main_arg1)) k ((y 1).val)

theorem part_at (t : Fin cfg0.N) (y : S1024x384.Idx) : dotTN (iblk m c 0 t) (iblk m c 1 t) y
    = ∑ k ∈ Finset.range 1536, g m c (t.val / 6) y (t.val % 6 * 1536 + k) := by
  rw [← Fin.sum_univ_eq_sum_range (fun k => g m c (t.val / 6) y (t.val % 6 * 1536 + k))]
  refine Finset.sum_congr rfl fun k _ => (congrArg₂ (fun a b : EReal => a * b) (blk_0 m c t k (y 0)) (blk_1 m c t k (y 1))).trans ?_
  rw [g]

theorem acc_at (t : Fin cfg0.N) (y : S1024x384.Idx) : (outsAt0 m c t.val t.isLt).2 y
    = ∑ k ∈ Finset.range ((t.val % 6 + 1) * 1536), g m c (t.val / 6) y k := by
  refine accumulate (P := 6) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 6 = 5
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 6 = 5) : (outsAt0 m c t.val t.isLt).1 = (outsAt0 m c t.val t.isLt).2 := by
  rw [outsAt0_C m c t (by omega) hl]
  frame_out

/-- The result array. -/
theorem array : (dats m 0 c).arrAt 2 cfg0.N = fun y : S1024x384.Idx =>
    dotTN (m ((c : Thread nD τ).loc main_arg0)) (m ((c : Thread nD τ).loc main_arg1)) y := by
  refine (dats m 0 c).arrAt_eq_of_covers 2 _ (by decide +kernel) fun t hf y => ?_
  have hl : t.val % 6 = 5 := (flush0_2 t).mp hf
  rw [dotTN_nat]
  blk_simp
  rw [after0_2, out_at m c t hl, acc_at, hl]
  unfold g
  blk_simp [ix_2]

end

/-- `Cert.algebraic_Kernel12Ideal_Reference12Ideal`: both programs run, and their results are equal. -/
theorem algebraic : Cert.algebraic_Kernel12Ideal_Reference12Ideal := by
  intro m ρ m' ρ' _ hagree
  refine ⟨fun c => dotTN (m ((c : Thread nD τ).loc main_arg0)) (m ((c : Thread nD τ).loc main_arg1)), ?_, ?_⟩
  · exact (θ_run Cert.Kernel12Ideal.defs _ _).mono (fun r h c => ⟨(h c).1.trans (array m c), (h c).2⟩) (Cert.Kernel12Ideal.Value.run_blocks m ρ)
  · refine (θ_run Cert.Reference12Ideal.defs _ _).mono (fun r h c => ⟨(h c).1.trans ?_, (h c).2⟩)
      (Cert.Reference12Ideal.Value.run (F := Ideal) m' ρ')
    rw [(hagree c).1, (hagree c).2]
    funext y
    rw [eq_ix2 y]
    unfold dotTN
    pointwise
    exact Finset.sum_congr rfl fun k _ => mul_comm _ _

end Cert.Kernel12Ideal.Mm
-- ==== Proof.Mm13.lean ====
/-
  The weight gradient of the input projection's key and value columns: what the call leaves in its result.
-/
module

public import proofs.«01_k».proof.Proof.Gen.Kernel13Ideal.Value
public import proofs.«01_k».proof.Proof.Gen.Reference13Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel13Ideal.Mm
open Cert.Kernel13Ideal Cert.Kernel13Ideal.Gen Cert.Mm

theorem ix_0 : ∀ t : Fin cfg0.N, win0_0.index t = ![t.val % 6, 0] :=
  (by decide +kernel : ∀ t : Fin grid0.N, win0_0.index t = ![t.val % 6, 0])
theorem ix_1 : ∀ t : Fin cfg0.N, win0_1.index t = ![t.val % 6, 0] :=
  (by decide +kernel : ∀ t : Fin grid0.N, win0_1.index t = ![t.val % 6, 0])
theorem ix_2 : ∀ t : Fin cfg0.N, win0_2.index t = ![0, 0] :=
  (by decide +kernel : ∀ t : Fin grid0.N, win0_2.index t = ![0, 0])

/-- One point's partial product, added to what the accumulator held. -/
theorem pay2_at (v3 : Vec Ideal S1024x256 .f32) (v4 : Vec Ideal S1536x1024 .bf16) (v6 : Vec Ideal S1536x256 .bf16) (y : S1024x256.Idx) :
    k0_pay2 v3 v4 v6 y = v3 y + dotTN v4 v6 y := by
  rw [eq_ix2 y]
  unfold k0_pay2 dotTN
  pointwise

theorem pay1_at (y : S1024x256.Idx) : (k0_pay1 (F := Ideal)) y = 0 := by
  unfold k0_pay1
  pointwise

/-- The accumulator reads back as it was left. -/
theorem held (v : Vec Ideal S1024x256 .f32) (y : S1024x256.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S9216x256.Idx) : V m c main_v1 y = m ((c : Thread nD τ).loc main_arg1) y := by
  show StableHlo.after hostOps0 _ main_v1 y = _
  rw [eq_ix2 y]
  after_reads_at

theorem blk_0 (t : Fin cfg0.N) (k : Fin 1536) (i : Fin 1024) : iblk m c 0 t (ix2 k i)
    = nat2 (m ((c : Thread nD τ).loc main_arg0)) (t.val % 6 * 1536 + k) i := by
  blk_simp [iblk]
  rw [v0_at]
  refine nat2_of _ _ ?_ ?_ <;> blk_simp [ix_0] <;> simp

theorem blk_1 (t : Fin cfg0.N) (k : Fin 1536) (j : Fin 256) : iblk m c 1 t (ix2 k j)
    = nat2 (m ((c : Thread nD τ).loc main_arg1)) (t.val % 6 * 1536 + k) (j) := by
  blk_simp [iblk]
  rw [v1_at]
  refine nat2_of _ _ ?_ ?_ <;> blk_simp [ix_1] <;> simp

/-- The products that an entry of the result sums. -/
def g (_ : ℕ) (y : S1024x256.Idx) (k : ℕ) : EReal :=
  nat2 (m ((c : Thread nD τ).loc main_arg0)) k (y 0).val * nat2 (m ((c : Thread nD τ).loc main_arg1)) k ((y 1).val)

theorem part_at (t : Fin cfg0.N) (y : S1024x256.Idx) : dotTN (iblk m c 0 t) (iblk m c 1 t) y
    = ∑ k ∈ Finset.range 1536, g m c (t.val / 6) y (t.val % 6 * 1536 + k) := by
  rw [← Fin.sum_univ_eq_sum_range (fun k => g m c (t.val / 6) y (t.val % 6 * 1536 + k))]
  refine Finset.sum_congr rfl fun k _ => (congrArg₂ (fun a b : EReal => a * b) (blk_0 m c t k (y 0)) (blk_1 m c t k (y 1))).trans ?_
  rw [g]

theorem acc_at (t : Fin cfg0.N) (y : S1024x256.Idx) : (outsAt0 m c t.val t.isLt).2 y
    = ∑ k ∈ Finset.range ((t.val % 6 + 1) * 1536), g m c (t.val / 6) y k := by
  refine accumulate (P := 6) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 6 = 5
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 6 = 5) : (outsAt0 m c t.val t.isLt).1 = (outsAt0 m c t.val t.isLt).2 := by
  rw [outsAt0_C m c t (by omega) hl]
  frame_out

/-- The result array. -/
theorem array : (dats m 0 c).arrAt 2 cfg0.N = fun y : S1024x256.Idx =>
    dotTN (m ((c : Thread nD τ).loc main_arg0)) (m ((c : Thread nD τ).loc main_arg1)) y := by
  refine (dats m 0 c).arrAt_eq_of_covers 2 _ (by decide +kernel) fun t hf y => ?_
  have hl : t.val % 6 = 5 := (flush0_2 t).mp hf
  rw [dotTN_nat]
  blk_simp
  rw [after0_2, out_at m c t hl, acc_at, hl]
  unfold g
  blk_simp [ix_2]

end

/-- `Cert.algebraic_Kernel13Ideal_Reference13Ideal`: both programs run, and their results are equal. -/
theorem algebraic : Cert.algebraic_Kernel13Ideal_Reference13Ideal := by
  intro m ρ m' ρ' _ hagree
  refine ⟨fun c => dotTN (m ((c : Thread nD τ).loc main_arg0)) (m ((c : Thread nD τ).loc main_arg1)), ?_, ?_⟩
  · exact (θ_run Cert.Kernel13Ideal.defs _ _).mono (fun r h c => ⟨(h c).1.trans (array m c), (h c).2⟩) (Cert.Kernel13Ideal.Value.run_blocks m ρ)
  · refine (θ_run Cert.Reference13Ideal.defs _ _).mono (fun r h c => ⟨(h c).1.trans ?_, (h c).2⟩)
      (Cert.Reference13Ideal.Value.run (F := Ideal) m' ρ')
    rw [(hagree c).1, (hagree c).2]
    funext y
    rw [eq_ix2 y]
    unfold dotTN
    pointwise
    exact Finset.sum_congr rfl fun k _ => mul_comm _ _

end Cert.Kernel13Ideal.Mm
-- ==== Proof.Mm14.lean ====
/-
  The weight gradient of the input projection's rotary key and step size columns: what the call leaves in its result.
-/
module

public import proofs.«01_k».proof.Proof.Gen.Kernel14Ideal.Value
public import proofs.«01_k».proof.Proof.Gen.Reference14Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel14Ideal.Mm
open Cert.Kernel14Ideal Cert.Kernel14Ideal.Gen Cert.Mm

theorem ix_0 : ∀ t : Fin cfg0.N, win0_0.index t = ![t.val % 6, 0] :=
  (by decide +kernel : ∀ t : Fin grid0.N, win0_0.index t = ![t.val % 6, 0])
theorem ix_1 : ∀ t : Fin cfg0.N, win0_1.index t = ![t.val % 6, 0] :=
  (by decide +kernel : ∀ t : Fin grid0.N, win0_1.index t = ![t.val % 6, 0])
theorem ix_2 : ∀ t : Fin cfg0.N, win0_2.index t = ![0, 0] :=
  (by decide +kernel : ∀ t : Fin grid0.N, win0_2.index t = ![0, 0])

/-- One point's partial product, added to what the accumulator held. -/
theorem pay2_at (v3 : Vec Ideal S1024x128 .f32) (v4 : Vec Ideal S1536x1024 .bf16) (v6 : Vec Ideal S1536x128 .bf16) (y : S1024x128.Idx) :
    k0_pay2 v3 v4 v6 y = v3 y + dotTN v4 v6 y := by
  rw [eq_ix2 y]
  unfold k0_pay2 dotTN
  pointwise

theorem pay1_at (y : S1024x128.Idx) : (k0_pay1 (F := Ideal)) y = 0 := by
  unfold k0_pay1
  pointwise

/-- The accumulator reads back as it was left. -/
theorem held (v : Vec Ideal S1024x128 .f32) (y : S1024x128.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S9216x128.Idx) : V m c main_v1 y = m ((c : Thread nD τ).loc main_arg1) y := by
  show StableHlo.after hostOps0 _ main_v1 y = _
  rw [eq_ix2 y]
  after_reads_at

theorem blk_0 (t : Fin cfg0.N) (k : Fin 1536) (i : Fin 1024) : iblk m c 0 t (ix2 k i)
    = nat2 (m ((c : Thread nD τ).loc main_arg0)) (t.val % 6 * 1536 + k) i := by
  blk_simp [iblk]
  rw [v0_at]
  refine nat2_of _ _ ?_ ?_ <;> blk_simp [ix_0] <;> simp

theorem blk_1 (t : Fin cfg0.N) (k : Fin 1536) (j : Fin 128) : iblk m c 1 t (ix2 k j)
    = nat2 (m ((c : Thread nD τ).loc main_arg1)) (t.val % 6 * 1536 + k) (j) := by
  blk_simp [iblk]
  rw [v1_at]
  refine nat2_of _ _ ?_ ?_ <;> blk_simp [ix_1] <;> simp

/-- The products that an entry of the result sums. -/
def g (_ : ℕ) (y : S1024x128.Idx) (k : ℕ) : EReal :=
  nat2 (m ((c : Thread nD τ).loc main_arg0)) k (y 0).val * nat2 (m ((c : Thread nD τ).loc main_arg1)) k ((y 1).val)

theorem part_at (t : Fin cfg0.N) (y : S1024x128.Idx) : dotTN (iblk m c 0 t) (iblk m c 1 t) y
    = ∑ k ∈ Finset.range 1536, g m c (t.val / 6) y (t.val % 6 * 1536 + k) := by
  rw [← Fin.sum_univ_eq_sum_range (fun k => g m c (t.val / 6) y (t.val % 6 * 1536 + k))]
  refine Finset.sum_congr rfl fun k _ => (congrArg₂ (fun a b : EReal => a * b) (blk_0 m c t k (y 0)) (blk_1 m c t k (y 1))).trans ?_
  rw [g]

theorem acc_at (t : Fin cfg0.N) (y : S1024x128.Idx) : (outsAt0 m c t.val t.isLt).2 y
    = ∑ k ∈ Finset.range ((t.val % 6 + 1) * 1536), g m c (t.val / 6) y k := by
  refine accumulate (P := 6) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 6 = 5
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 6 = 5) : (outsAt0 m c t.val t.isLt).1 = (outsAt0 m c t.val t.isLt).2 := by
  rw [outsAt0_C m c t (by omega) hl]
  frame_out

/-- The result array. -/
theorem array : (dats m 0 c).arrAt 2 cfg0.N = fun y : S1024x128.Idx =>
    dotTN (m ((c : Thread nD τ).loc main_arg0)) (m ((c : Thread nD τ).loc main_arg1)) y := by
  refine (dats m 0 c).arrAt_eq_of_covers 2 _ (by decide +kernel) fun t hf y => ?_
  have hl : t.val % 6 = 5 := (flush0_2 t).mp hf
  rw [dotTN_nat]
  blk_simp
  rw [after0_2, out_at m c t hl, acc_at, hl]
  unfold g
  blk_simp [ix_2]

end

/-- `Cert.algebraic_Kernel14Ideal_Reference14Ideal`: both programs run, and their results are equal. -/
theorem algebraic : Cert.algebraic_Kernel14Ideal_Reference14Ideal := by
  intro m ρ m' ρ' _ hagree
  refine ⟨fun c => dotTN (m ((c : Thread nD τ).loc main_arg0)) (m ((c : Thread nD τ).loc main_arg1)), ?_, ?_⟩
  · exact (θ_run Cert.Kernel14Ideal.defs _ _).mono (fun r h c => ⟨(h c).1.trans (array m c), (h c).2⟩) (Cert.Kernel14Ideal.Value.run_blocks m ρ)
  · refine (θ_run Cert.Reference14Ideal.defs _ _).mono (fun r h c => ⟨(h c).1.trans ?_, (h c).2⟩)
      (Cert.Reference14Ideal.Value.run (F := Ideal) m' ρ')
    rw [(hagree c).1, (hagree c).2]
    funext y
    rw [eq_ix2 y]
    unfold dotTN
    pointwise
    exact Finset.sum_congr rfl fun k _ => mul_comm _ _

end Cert.Kernel14Ideal.Mm
-- ==== Proof.Mm15.lean ====
/-
  The weight gradient of the query up-projection: what the call leaves in its result.
-/
module

public import proofs.«01_k».proof.Proof.Gen.Kernel15Ideal.Value
public import proofs.«01_k».proof.Proof.Gen.Reference15Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel15Ideal.Mm
open Cert.Kernel15Ideal Cert.Kernel15Ideal.Gen Cert.Mm

theorem ix_0 : ∀ t : Fin cfg0.N, win0_0.index t = ![t.val % 4, 0] :=
  (by decide +kernel : ∀ t : Fin grid0.N, win0_0.index t = ![t.val % 4, 0])
theorem ix_1 : ∀ t : Fin cfg0.N, win0_1.index t = ![t.val % 4, t.val / 4] :=
  (by decide +kernel : ∀ t : Fin grid0.N, win0_1.index t = ![t.val % 4, t.val / 4])
theorem ix_2 : ∀ t : Fin cfg0.N, win0_2.index t = ![0, t.val / 4] :=
  (by decide +kernel : ∀ t : Fin grid0.N, win0_2.index t = ![0, t.val / 4])

/-- One point's partial product, added to what the accumulator held. -/
theorem pay2_at (v3 : Vec Ideal S384x512 .f32) (v4 : Vec Ideal S2048x384 .bf16) (v6 : Vec Ideal S2048x512 .bf16) (y : S384x512.Idx) :
    k0_pay2 v3 v4 v6 y = v3 y + dotTN v4 v6 y := by
  rw [eq_ix2 y]
  unfold k0_pay2 dotTN
  pointwise

theorem pay1_at (y : S384x512.Idx) : (k0_pay1 (F := Ideal)) y = 0 := by
  unfold k0_pay1
  pointwise

/-- The accumulator reads back as it was left. -/
theorem held (v : Vec Ideal S384x512 .f32) (y : S384x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S8192x384.Idx) : V m c main_v0 y = m ((c : Thread nD τ).loc main_arg0) y := by
  show StableHlo.after hostOps0 _ main_v0 y = _
  rw [eq_ix2 y]
  after_reads_at

theorem v1_at (y : S8192x2048.Idx) : V m c main_v1 y = m ((c : Thread nD τ).loc main_arg1) y := by
  show StableHlo.after hostOps0 _ main_v1 y = _
  rw [eq_ix2 y]
  after_reads_at

theorem blk_0 (t : Fin cfg0.N) (k : Fin 2048) (i : Fin 384) : iblk m c 0 t (ix2 k i)
    = nat2 (m ((c : Thread nD τ).loc main_arg0)) (t.val % 4 * 2048 + k) i := by
  blk_simp [iblk]
  rw [v0_at]
  refine nat2_of _ _ ?_ ?_ <;> blk_simp [ix_0] <;> simp

theorem blk_1 (t : Fin cfg0.N) (k : Fin 2048) (j : Fin 512) : iblk m c 1 t (ix2 k j)
    = nat2 (m ((c : Thread nD τ).loc main_arg1)) (t.val % 4 * 2048 + k) (t.val / 4 * 512 + j) := by
  blk_simp [iblk]
  rw [v1_at]
  refine nat2_of _ _ ?_ ?_ <;> blk_simp [ix_1] <;> simp

/-- The products that an entry of the result sums. -/
def g (q : ℕ) (y : S384x512.Idx) (k : ℕ) : EReal :=
  nat2 (m ((c : Thread nD τ).loc main_arg0)) k (y 0).val * nat2 (m ((c : Thread nD τ).loc main_arg1)) k (q * 512 + (y 1).val)

theorem part_at (t : Fin cfg0.N) (y : S384x512.Idx) : dotTN (iblk m c 0 t) (iblk m c 1 t) y
    = ∑ k ∈ Finset.range 2048, g m c (t.val / 4) y (t.val % 4 * 2048 + k) := by
  rw [← Fin.sum_univ_eq_sum_range (fun k => g m c (t.val / 4) y (t.val % 4 * 2048 + k))]
  refine Finset.sum_congr rfl fun k _ => (congrArg₂ (fun a b : EReal => a * b) (blk_0 m c t k (y 0)) (blk_1 m c t k (y 1))).trans ?_
  rw [g]

theorem acc_at (t : Fin cfg0.N) (y : S384x512.Idx) : (outsAt0 m c t.val t.isLt).2 y
    = ∑ k ∈ Finset.range ((t.val % 4 + 1) * 2048), g m c (t.val / 4) y k := by
  refine accumulate (P := 4) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 4 = 3
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 4 = 3) : (outsAt0 m c t.val t.isLt).1 = (outsAt0 m c t.val t.isLt).2 := by
  rw [outsAt0_C m c t (by omega) hl]
  frame_out

/-- The result array. -/
theorem array : (dats m 0 c).arrAt 2 cfg0.N = fun y : S384x2048.Idx =>
    dotTN (m ((c : Thread nD τ).loc main_arg0)) (m ((c : Thread nD τ).loc main_arg1)) y := by
  refine (dats m 0 c).arrAt_eq_of_covers 2 _ (by decide +kernel) fun t hf y => ?_
  have hl : t.val % 4 = 3 := (flush0_2 t).mp hf
  rw [dotTN_nat]
  blk_simp
  rw [after0_2, out_at m c t hl, acc_at, hl]
  unfold g
  blk_simp [ix_2]

end

/-- `Cert.algebraic_Kernel15Ideal_Reference15Ideal`: both programs run, and their results are equal. -/
theorem algebraic : Cert.algebraic_Kernel15Ideal_Reference15Ideal := by
  intro m ρ m' ρ' _ hagree
  refine ⟨fun c => dotTN (m ((c : Thread nD τ).loc main_arg0)) (m ((c : Thread nD τ).loc main_arg1)), ?_, ?_⟩
  · exact (θ_run Cert.Kernel15Ideal.defs _ _).mono (fun r h c => ⟨(h c).1.trans (array m c), (h c).2⟩) (Cert.Kernel15Ideal.Value.run_blocks m ρ)
  · refine (θ_run Cert.Reference15Ideal.defs _ _).mono (fun r h c => ⟨(h c).1.trans ?_, (h c).2⟩)
      (Cert.Reference15Ideal.Value.run (F := Ideal) m' ρ')
    rw [(hagree c).1, (hagree c).2]
    funext y
    rw [eq_ix2 y]
    unfold dotTN
    pointwise
    exact Finset.sum_congr rfl fun k _ => mul_comm _ _

end Cert.Kernel15Ideal.Mm
-- ==== Proof.Mm16.lean ====
/-
  The gradient of the query up-projection's input: what the call leaves in its result.
-/
module

public import proofs.«01_k».proof.Proof.Gen.Kernel16Ideal.Value
public import proofs.«01_k».proof.Proof.Gen.Reference16Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel16Ideal.Mm
open Cert.Kernel16Ideal Cert.Kernel16Ideal.Gen Cert.Mm

theorem ix_0 : ∀ t : Fin cfg0.N, win0_0.index t = ![t.val, 0] :=
  (by decide +kernel : ∀ t : Fin grid0.N, win0_0.index t = ![t.val, 0])
theorem ix_1 : ∀ t : Fin cfg0.N, win0_1.index t = ![0, 0] :=
  (by decide +kernel : ∀ t : Fin grid0.N, win0_1.index t = ![0, 0])
theorem ix_2 : ∀ t : Fin cfg0.N, win0_2.index t = ![t.val, 0] :=
  (by decide +kernel : ∀ t : Fin grid0.N, win0_2.index t = ![t.val, 0])

/-- One point's product. -/
theorem pay_at (v0 : Vec Ideal S1024x2048 .bf16) (v2 : Vec Ideal S384x2048 .bf16) (y : S1024x384.Idx) : k0_pay1 v0 v2 y = dotNT v0 v2 y := by
  rw [eq_ix2 y]
  unfold k0_pay1 dotNT
  pointwise

section
variable (m : (ℓ : Loc nD τ sig) → Buf (Elt Ideal) ℓ) (c : Dev nD)

theorem v0_at (y : S8192x2048.Idx) : V m c main_v0 y = m ((c : Thread nD τ).loc main_arg0) y := by
  show StableHlo.after hostOps0 _ main_v0 y = _
  rw [eq_ix2 y]
  after_reads_at

theorem v1_at (y : S384x2048.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S8192x384.Idx =>
    dotNT (m ((c : Thread nD τ).loc main_arg0)) (m ((c : Thread nD τ).loc main_arg1)) y := by
  refine (dats m 0 c).arrAt_eq_of_covers 2 _ (by decide +kernel) fun t _ y => ?_
  rw [dotNT_nat]
  blk_simp
  rw [after0_2]
  frame_out
  refine (pay_at _ _ y).trans (dotNT_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel16Ideal_Reference16Ideal`: both programs run, and their results are equal. -/
theorem algebraic : Cert.algebraic_Kernel16Ideal_Reference16Ideal := by
  intro m ρ m' ρ' _ hagree
  refine ⟨fun c => dotNT (m ((c : Thread nD τ).loc main_arg0)) (m ((c : Thread nD τ).loc main_arg1)), ?_, ?_⟩
  · exact (θ_run Cert.Kernel16Ideal.defs _ _).mono (fun r h c => ⟨(h c).1.trans (array m c), (h c).2⟩) (Cert.Kernel16Ideal.Value.run_blocks m ρ)
  · refine (θ_run Cert.Reference16Ideal.defs _ _).mono (fun r h c => ⟨(h c).1.trans ?_, (h c).2⟩)
      (Cert.Reference16Ideal.Value.run (F := Ideal) m' ρ')
    rw [(hagree c).1, (hagree c).2]
    funext y
    rw [eq_ix2 y]
    unfold dotNT
    pointwise

end Cert.Kernel16Ideal.Mm
-- ==== Proof.Mm17.lean ====
/-
  The weight gradient of the key and value up-projection: what the call leaves in its result.
-/
module

public import proofs.«01_k».proof.Proof.Gen.Kernel17Ideal.Value
public import proofs.«01_k».proof.Proof.Gen.Reference17Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel17Ideal.Mm
open Cert.Kernel17Ideal Cert.Kernel17Ideal.Gen Cert.Mm

theorem ix_0 : ∀ t : Fin cfg0.N, win0_0.index t = ![t.val % 6, 0] :=
  (by decide +kernel : ∀ t : Fin grid0.N, win0_0.index t = ![t.val % 6, 0])
theorem ix_1 : ∀ t : Fin cfg0.N, win0_1.index t = ![t.val % 6, t.val / 6] :=
  (by decide +kernel : ∀ t : Fin grid0.N, win0_1.index t = ![t.val % 6, t.val / 6])
theorem ix_2 : ∀ t : Fin cfg0.N, win0_2.index t = ![0, t.val / 6] :=
  (by decide +kernel : ∀ t : Fin grid0.N, win0_2.index t = ![0, t.val / 6])

/-- One point's partial product, added to what the accumulator held. -/
theorem pay2_at (v3 : Vec Ideal S256x512 .f32) (v4 : Vec Ideal S1536x256 .bf16) (v6 : Vec Ideal S1536x512 .f32) (y : S256x512.Idx) :
    k0_pay2 v3 v4 v6 y = v3 y + dotTN v4 v6 y := by
  rw [eq_ix2 y]
  unfold k0_pay2 dotTN
  pointwise

theorem pay1_at (y : S256x512.Idx) : (k0_pay1 (F := Ideal)) y = 0 := by
  unfold k0_pay1
  pointwise

/-- The accumulator reads back as it was left. -/
theorem held (v : Vec Ideal S256x512 .f32) (y : S256x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S9216x256.Idx) : V m c main_v0 y = m ((c : Thread nD τ).loc main_arg0) y := by
  show StableHlo.after hostOps0 _ main_v0 y = _
  rw [eq_ix2 y]
  after_reads_at

theorem v1_at (y : S9216x2048.Idx) : V m c main_arg1 y = m ((c : Thread nD τ).loc main_arg1) y := by
  show StableHlo.after hostOps0 _ main_arg1 y = _
  rw [eq_ix2 y]
  after_reads_at

theorem blk_0 (t : Fin cfg0.N) (k : Fin 1536) (i : Fin 256) : iblk m c 0 t (ix2 k i)
    = nat2 (m ((c : Thread nD τ).loc main_arg0)) (t.val % 6 * 1536 + k) i := by
  blk_simp [iblk]
  rw [v0_at]
  refine nat2_of _ _ ?_ ?_ <;> blk_simp [ix_0] <;> simp

theorem blk_1 (t : Fin cfg0.N) (k : Fin 1536) (j : Fin 512) : iblk m c 1 t (ix2 k j)
    = nat2 (m ((c : Thread nD τ).loc main_arg1)) (t.val % 6 * 1536 + k) (t.val / 6 * 512 + j) := by
  blk_simp [iblk]
  rw [v1_at]
  refine nat2_of _ _ ?_ ?_ <;> blk_simp [ix_1] <;> simp

/-- The products that an entry of the result sums. -/
def g (q : ℕ) (y : S256x512.Idx) (k : ℕ) : EReal :=
  nat2 (m ((c : Thread nD τ).loc main_arg0)) k (y 0).val * nat2 (m ((c : Thread nD τ).loc main_arg1)) k (q * 512 + (y 1).val)

theorem part_at (t : Fin cfg0.N) (y : S256x512.Idx) : dotTN (iblk m c 0 t) (iblk m c 1 t) y
    = ∑ k ∈ Finset.range 1536, g m c (t.val / 6) y (t.val % 6 * 1536 + k) := by
  rw [← Fin.sum_univ_eq_sum_range (fun k => g m c (t.val / 6) y (t.val % 6 * 1536 + k))]
  refine Finset.sum_congr rfl fun k _ => (congrArg₂ (fun a b : EReal => a * b) (blk_0 m c t k (y 0)) (blk_1 m c t k (y 1))).trans ?_
  rw [g]

theorem acc_at (t : Fin cfg0.N) (y : S256x512.Idx) : (outsAt0 m c t.val t.isLt).2 y
    = ∑ k ∈ Finset.range ((t.val % 6 + 1) * 1536), g m c (t.val / 6) y k := by
  refine accumulate (P := 6) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 6 = 5
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 6 = 5) : (outsAt0 m c t.val t.isLt).1 = (outsAt0 m c t.val t.isLt).2 := by
  rw [outsAt0_C m c t (by omega) hl]
  frame_out

/-- The result array. -/
theorem array : (dats m 0 c).arrAt 2 cfg0.N = fun y : S256x2048.Idx =>
    dotTN (m ((c : Thread nD τ).loc main_arg0)) (m ((c : Thread nD τ).loc main_arg1)) y := by
  refine (dats m 0 c).arrAt_eq_of_covers 2 _ (by decide +kernel) fun t hf y => ?_
  have hl : t.val % 6 = 5 := (flush0_2 t).mp hf
  rw [dotTN_nat]
  blk_simp
  rw [after0_2, out_at m c t hl, acc_at, hl]
  unfold g
  blk_simp [ix_2]

end

/-- `Cert.algebraic_Kernel17Ideal_Reference17Ideal`: both programs run, and their results are equal. -/
theorem algebraic : Cert.algebraic_Kernel17Ideal_Reference17Ideal := by
  intro m ρ m' ρ' _ hagree
  refine ⟨fun c => dotTN (m ((c : Thread nD τ).loc main_arg0)) (m ((c : Thread nD τ).loc main_arg1)), ?_, ?_⟩
  · exact (θ_run Cert.Kernel17Ideal.defs _ _).mono (fun r h c => ⟨(h c).1.trans (array m c), (h c).2⟩) (Cert.Kernel17Ideal.Value.run_blocks m ρ)
  · refine (θ_run Cert.Reference17Ideal.defs _ _).mono (fun r h c => ⟨(h c).1.trans ?_, (h c).2⟩)
      (Cert.Reference17Ideal.Value.run (F := Ideal) m' ρ')
    rw [(hagree c).1, (hagree c).2]
    funext y
    rw [eq_ix2 y]
    unfold dotTN
    pointwise
    exact Finset.sum_congr rfl fun k _ => mul_comm _ _

end Cert.Kernel17Ideal.Mm
-- ==== Proof.Mm18.lean ====
/-
  The gradient of the key and value up-projection's input: what the call leaves in its result.
-/
module

public import proofs.«01_k».proof.Proof.Gen.Kernel18Ideal.Value
public import proofs.«01_k».proof.Proof.Gen.Reference18Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel18Ideal.Mm
open Cert.Kernel18Ideal Cert.Kernel18Ideal.Gen Cert.Mm

theorem ix_0 : ∀ t : Fin cfg0.N, win0_0.index t = ![t.val, 0] :=
  (by decide +kernel : ∀ t : Fin grid0.N, win0_0.index t = ![t.val, 0])
theorem ix_1 : ∀ t : Fin cfg0.N, win0_1.index t = ![0, 0] :=
  (by decide +kernel : ∀ t : Fin grid0.N, win0_1.index t = ![0, 0])
theorem ix_2 : ∀ t : Fin cfg0.N, win0_2.index t = ![t.val, 0] :=
  (by decide +kernel : ∀ t : Fin grid0.N, win0_2.index t = ![t.val, 0])

/-- One point's product. -/
theorem pay_at (v0 : Vec Ideal S1024x2048 .f32) (v2 : Vec Ideal S256x2048 .bf16) (y : S1024x256.Idx) : k0_pay1 v0 v2 y = dotNT v0 v2 y := by
  rw [eq_ix2 y]
  unfold k0_pay1 dotNT
  pointwise

section
variable (m : (ℓ : Loc nD τ sig) → Buf (Elt Ideal) ℓ) (c : Dev nD)

theorem v0_at (y : S9216x2048.Idx) : V m c main_arg0 y = m ((c : Thread nD τ).loc main_arg0) y := by
  show StableHlo.after hostOps0 _ main_arg0 y = _
  rw [eq_ix2 y]
  after_reads_at

theorem v1_at (y : S256x2048.Idx) : V m c main_v0 y = m ((c : Thread nD τ).loc main_arg1) y := by
  show StableHlo.after hostOps0 _ main_v0 y = _
  rw [eq_ix2 y]
  after_reads_at

/-- The result array. -/
theorem array : (dats m 0 c).arrAt 2 cfg0.N = fun y : S9216x256.Idx =>
    dotNT (m ((c : Thread nD τ).loc main_arg0)) (m ((c : Thread nD τ).loc main_arg1)) y := by
  refine (dats m 0 c).arrAt_eq_of_covers 2 _ (by decide +kernel) fun t _ y => ?_
  rw [dotNT_nat]
  blk_simp
  rw [after0_2]
  frame_out
  refine (pay_at _ _ y).trans (dotNT_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel18Ideal_Reference18Ideal`: both programs run, and their results are equal. -/
theorem algebraic : Cert.algebraic_Kernel18Ideal_Reference18Ideal := by
  intro m ρ m' ρ' _ hagree
  refine ⟨fun c => dotNT (m ((c : Thread nD τ).loc main_arg0)) (m ((c : Thread nD τ).loc main_arg1)), ?_, ?_⟩
  · exact (θ_run Cert.Kernel18Ideal.defs _ _).mono (fun r h c => ⟨(h c).1.trans (array m c), (h c).2⟩) (Cert.Kernel18Ideal.Value.run_blocks m ρ)
  · refine (θ_run Cert.Reference18Ideal.defs _ _).mono (fun r h c => ⟨(h c).1.trans ?_, (h c).2⟩)
      (Cert.Reference18Ideal.Value.run (F := Ideal) m' ρ')
    rw [(hagree c).1, (hagree c).2]
    funext y
    rw [eq_ix2 y]
    unfold dotNT
    pointwise

end Cert.Kernel18Ideal.Mm
-- ==== Proof.Mm19.lean ====
/-
  The output projection, a sum of two products: what the call leaves in its result.
-/
module

public import proofs.«01_k».proof.Proof.Gen.Kernel19Ideal.Value
public import proofs.«01_k».proof.Proof.Gen.Reference19Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel19Ideal.Mm
open Cert.Kernel19Ideal Cert.Kernel19Ideal.Gen Cert.Mm

theorem ix_0 : ∀ t : Fin cfg0.N, win0_0.index t = ![t.val / 2, 0] :=
  (by decide +kernel : ∀ t : Fin grid0.N, win0_0.index t = ![t.val / 2, 0])
theorem ix_1 : ∀ t : Fin cfg0.N, win0_1.index t = ![0, t.val % 2] :=
  (by decide +kernel : ∀ t : Fin grid0.N, win0_1.index t = ![0, t.val % 2])
theorem ix_2 : ∀ t : Fin cfg0.N, win0_2.index t = ![t.val / 2, 0] :=
  (by decide +kernel : ∀ t : Fin grid0.N, win0_2.index t = ![t.val / 2, 0])
theorem ix_3 : ∀ t : Fin cfg0.N, win0_3.index t = ![0, t.val % 2] :=
  (by decide +kernel : ∀ t : Fin grid0.N, win0_3.index t = ![0, t.val % 2])
theorem ix_4 : ∀ t : Fin cfg0.N, win0_4.index t = ![t.val / 2, t.val % 2] :=
  (by decide +kernel : ∀ t : Fin grid0.N, win0_4.index t = ![t.val / 2, t.val % 2])

/-- One point's sum of two products. -/
theorem pay_at (v0 : Vec Ideal S1024x1024 .f32) (v2 : Vec Ideal S1024x512 .bf16) (v5 : Vec Ideal S1024x1024 .bf16) (v7 : Vec Ideal S1024x512 .bf16)
    (y : S1024x512.Idx) : k0_pay1 v0 v2 v5 v7 y = dotNN v0 v2 y + dotNN v5 v7 y := by
  rw [eq_ix2 y]
  unfold k0_pay1 dotNN
  pointwise

section
variable (m : (ℓ : Loc nD τ sig) → Buf (Elt Ideal) ℓ) (c : Dev nD)

theorem v0_at (y : S8192x1024.Idx) : V m c main_arg0 y = m ((c : Thread nD τ).loc main_arg0) y := by
  show StableHlo.after hostOps0 _ main_arg0 y = _
  rw [eq_ix2 y]
  after_reads_at

theorem v1_at (y : S8192x1024.Idx) : V m c main_v0 y = m ((c : Thread nD τ).loc main_arg1) y := by
  show StableHlo.after hostOps0 _ main_v0 y = _
  rw [eq_ix2 y]
  after_reads_at

/-- The weight's upper and lower half. -/
theorem upper_at (k j : Fin 1024) : V m c main_v2 (ix2 k j) = nat2 (m ((c : Thread nD τ).loc main_arg2)) k j := by
  show StableHlo.after hostOps0 _ main_v2 (ix2 k j) = _
  after_reads_at
  exact nat2_of _ _ (by simp) (by simp)

theorem lower_at (k j : Fin 1024) : V m c main_v3 (ix2 k j) = nat2 (m ((c : Thread nD τ).loc main_arg2)) (1024 + k) j := by
  show StableHlo.after hostOps0 _ main_v3 (ix2 k j) = _
  after_reads_at
  exact nat2_of _ _ (by simp) (by simp)

/-- An entry of the result: the two inputs' rows with the column's two halves. -/
def total (y : S8192x1024.Idx) : EReal :=
  ∑ k ∈ Finset.range 1024, nat2 (m ((c : Thread nD τ).loc main_arg0)) (y 0).val k * nat2 (m ((c : Thread nD τ).loc main_arg2)) k (y 1).val
    + ∑ k ∈ Finset.range 1024, nat2 (m ((c : Thread nD τ).loc main_arg1)) (y 0).val k * nat2 (m ((c : Thread nD τ).loc main_arg2)) (1024 + k) (y 1).val

theorem part_0 (t : Fin cfg0.N) (y : S1024x512.Idx) (z : S8192x1024.Idx) (h0 : (z 0).val = t.val / 2 * 1024 + (y 0).val)
    (h1 : (z 1).val = t.val % 2 * 512 + (y 1).val) : dotNN (iblk m c 0 t) (iblk m c 1 t) y
      = ∑ k ∈ Finset.range 1024, nat2 (m ((c : Thread nD τ).loc main_arg0)) (z 0).val k * nat2 (m ((c : Thread nD τ).loc main_arg2)) k (z 1).val := by
  rw [h0, h1]
  refine dotNN_blk _ _ _ (fun k => ?_) fun k => ?_
  · blk_simp [iblk]
    rw [v0_at]
    refine nat2_of _ _ ?_ ?_ <;> blk_simp [ix_0] <;> simp
  · blk_simp [iblk]
    rw [eq_ix2 (((cfg0.win 1).blk t).view.emb (ix2 k (y 1)))]
    refine (upper_at m c _ _).trans (congrArg₂ (nat2 _) ?_ ?_) <;> blk_simp [ix_1] <;> simp

theorem part_1 (t : Fin cfg0.N) (y : S1024x512.Idx) (z : S8192x1024.Idx) (h0 : (z 0).val = t.val / 2 * 1024 + (y 0).val)
    (h1 : (z 1).val = t.val % 2 * 512 + (y 1).val) : dotNN (iblk m c 2 t) (iblk m c 3 t) y
      = ∑ k ∈ Finset.range 1024, nat2 (m ((c : Thread nD τ).loc main_arg1)) (z 0).val k * nat2 (m ((c : Thread nD τ).loc main_arg2)) (1024 + k) (z 1).val := by
  rw [h0, h1]
  refine dotNN_blk _ _ _ (fun k => ?_) fun k => ?_
  · blk_simp [iblk]
    rw [v1_at]
    refine nat2_of _ _ ?_ ?_ <;> blk_simp [ix_2] <;> simp
  · blk_simp [iblk]
    rw [eq_ix2 (((cfg0.win 3).blk t).view.emb (ix2 k (y 1)))]
    refine (lower_at m c _ _).trans (congrArg₂ (nat2 _) ?_ ?_) <;> blk_simp [ix_3] <;> simp

/-- The result array. -/
theorem array : (dats m 0 c).arrAt 4 cfg0.N = fun y : S8192x1024.Idx => total m c y := by
  refine (dats m 0 c).arrAt_eq_of_covers 4 _ (by decide +kernel) fun t _ y => ?_
  have h0 : ((((cfg0.win 4).blk t).view.emb y) 0).val = t.val / 2 * 1024 + (y 0).val := by blk_simp [ix_4]
  have h1 : ((((cfg0.win 4).blk t).view.emb y) 1).val = t.val % 2 * 512 + (y 1).val := by blk_simp [ix_4]
  blk_simp
  rw [after0_4]
  frame_out
  rw [pay_at, part_0 m c t y _ h0 h1, part_1 m c t y _ h0 h1]
  rfl

end

/-- `Cert.algebraic_Kernel19Ideal_Reference19Ideal`: both programs run, and their results are equal. -/
theorem algebraic : Cert.algebraic_Kernel19Ideal_Reference19Ideal := by
  intro m ρ m' ρ' _ hagree
  refine ⟨fun c => total m c, ?_, ?_⟩
  · exact (θ_run Cert.Kernel19Ideal.defs _ _).mono (fun r h c => ⟨(h c).1.trans (array m c), (h c).2⟩) (Cert.Kernel19Ideal.Value.run_blocks m ρ)
  · refine (θ_run Cert.Reference19Ideal.defs _ _).mono (fun r h c => ⟨(h c).1.trans ?_, (h c).2⟩)
      (Cert.Reference19Ideal.Value.run (F := Ideal) m' ρ')
    obtain ⟨e0, e1, e2⟩ := hagree c
    rw [e0, e1, e2]
    refine funext fun y : S8192x1024.Idx => ?_
    show _ = total m c y
    rw [eq_ix2 y]
    unfold total
    rw [← Fin.sum_univ_eq_sum_range, ← Fin.sum_univ_eq_sum_range]
    pointwise
    refine congrArg₂ (fun a b : EReal => a + b) ?_ ?_ <;> refine Finset.sum_congr rfl fun k _ => ?_
    · exact congrArg₂ (fun a b : EReal => a * b) (nat2_ix _ (y 0) k) (nat2_ix _ ⟨k.val, _⟩ (y 1))
    · exact congrArg₂ (fun a b : EReal => a * b) (nat2_ix _ (y 0) k) (nat2_ix _ ⟨1024 + k.val, _⟩ (y 1))

end Cert.Kernel19Ideal.Mm
-- ==== Proof.Mm20.lean ====
/-
  The input projection's gate columns: what the call leaves in its result.
-/
module

public import proofs.«01_k».proof.Proof.Gen.Kernel20Ideal.Value
public import proofs.«01_k».proof.Proof.Gen.Reference20Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel20Ideal.Mm
open Cert.Kernel20Ideal Cert.Kernel20Ideal.Gen Cert.Mm

theorem ix_0 : ∀ t : Fin cfg0.N, win0_0.index t = ![t.val / 2, 0] :=
  (by decide +kernel : ∀ t : Fin grid0.N, win0_0.index t = ![t.val / 2, 0])
theorem ix_1 : ∀ t : Fin cfg0.N, win0_1.index t = ![0, t.val % 2] :=
  (by decide +kernel : ∀ t : Fin grid0.N, win0_1.index t = ![0, t.val % 2])
theorem ix_2 : ∀ t : Fin cfg0.N, win0_2.index t = ![t.val / 2, t.val % 2] :=
  (by decide +kernel : ∀ t : Fin grid0.N, win0_2.index t = ![t.val / 2, t.val % 2])

/-- One point's product. -/
theorem pay_at (v0 : Vec Ideal S1024x1024 .bf16) (v2 : Vec Ideal S1024x512 .bf16) (y : S1024x512.Idx) : k0_pay1 v0 v2 y = dotNN v0 v2 y := by
  rw [eq_ix2 y]
  unfold k0_pay1 dotNN
  pointwise

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S1024x1024.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S9216x1024.Idx =>
    dotNN (m ((c : Thread nD τ).loc main_arg0)) (m ((c : Thread nD τ).loc main_arg1)) y := by
  refine (dats m 0 c).arrAt_eq_of_covers 2 _ (by decide +kernel) fun t _ y => ?_
  rw [dotNN_nat]
  blk_simp
  rw [after0_2]
  frame_out
  refine (pay_at _ _ y).trans (dotNN_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel20Ideal_Reference20Ideal`: both programs run, and their results are equal. -/
theorem algebraic : Cert.algebraic_Kernel20Ideal_Reference20Ideal := by
  intro m ρ m' ρ' _ hagree
  refine ⟨fun c => dotNN (m ((c : Thread nD τ).loc main_arg0)) (m ((c : Thread nD τ).loc main_arg1)), ?_, ?_⟩
  · exact (θ_run Cert.Kernel20Ideal.defs _ _).mono (fun r h c => ⟨(h c).1.trans (array m c), (h c).2⟩) (Cert.Kernel20Ideal.Value.run_blocks m ρ)
  · refine (θ_run Cert.Reference20Ideal.defs _ _).mono (fun r h c => ⟨(h c).1.trans ?_, (h c).2⟩)
      (Cert.Reference20Ideal.Value.run (F := Ideal) m' ρ')
    rw [(hagree c).1, (hagree c).2]
    funext y
    rw [eq_ix2 y]
    unfold dotNN
    pointwise

end Cert.Kernel20Ideal.Mm
-- ==== Proof.Mm21.lean ====
/-
  The input projection's scan columns: what the call leaves in its result.
-/
module

public import proofs.«01_k».proof.Proof.Gen.Kernel21Ideal.Value
public import proofs.«01_k».proof.Proof.Gen.Reference21Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel21Ideal.Mm
open Cert.Kernel21Ideal Cert.Kernel21Ideal.Gen Cert.Mm

theorem ix_0 : ∀ t : Fin cfg0.N, win0_0.index t = ![t.val / 3, 0] :=
  (by decide +kernel : ∀ t : Fin grid0.N, win0_0.index t = ![t.val / 3, 0])
theorem ix_1 : ∀ t : Fin cfg0.N, win0_1.index t = ![0, t.val % 3] :=
  (by decide +kernel : ∀ t : Fin grid0.N, win0_1.index t = ![0, t.val % 3])
theorem ix_2 : ∀ t : Fin cfg0.N, win0_2.index t = ![t.val / 3, t.val % 3] :=
  (by decide +kernel : ∀ t : Fin grid0.N, win0_2.index t = ![t.val / 3, t.val % 3])

/-- One point's product. -/
theorem pay_at (v0 : Vec Ideal S1024x1024 .bf16) (v2 : Vec Ideal S1024x512 .bf16) (y : S1024x512.Idx) : k0_pay1 v0 v2 y = dotNN v0 v2 y := by
  rw [eq_ix2 y]
  unfold k0_pay1 dotNN
  pointwise

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S1024x1536.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S9216x1536.Idx =>
    dotNN (m ((c : Thread nD τ).loc main_arg0)) (m ((c : Thread nD τ).loc main_arg1)) y := by
  refine (dats m 0 c).arrAt_eq_of_covers 2 _ (by decide +kernel) fun t _ y => ?_
  rw [dotNN_nat]
  blk_simp
  rw [after0_2]
  frame_out
  refine (pay_at _ _ y).trans (dotNN_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel21Ideal_Reference21Ideal`: both programs run, and their results are equal. -/
theorem algebraic : Cert.algebraic_Kernel21Ideal_Reference21Ideal := by
  intro m ρ m' ρ' _ hagree
  refine ⟨fun c => dotNN (m ((c : Thread nD τ).loc main_arg0)) (m ((c : Thread nD τ).loc main_arg1)), ?_, ?_⟩
  · exact (θ_run Cert.Kernel21Ideal.defs _ _).mono (fun r h c => ⟨(h c).1.trans (array m c), (h c).2⟩) (Cert.Kernel21Ideal.Value.run_blocks m ρ)
  · refine (θ_run Cert.Reference21Ideal.defs _ _).mono (fun r h c => ⟨(h c).1.trans ?_, (h c).2⟩)
      (Cert.Reference21Ideal.Value.run (F := Ideal) m' ρ')
    rw [(hagree c).1, (hagree c).2]
    funext y
    rw [eq_ix2 y]
    unfold dotNN
    pointwise

end Cert.Kernel21Ideal.Mm
-- ==== Proof.Mm22.lean ====
/-
  The input projection's query columns: what the call leaves in its result.
-/
module

public import proofs.«01_k».proof.Proof.Gen.Kernel22Ideal.Value
public import proofs.«01_k».proof.Proof.Gen.Reference22Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel22Ideal.Mm
open Cert.Kernel22Ideal Cert.Kernel22Ideal.Gen Cert.Mm

theorem ix_0 : ∀ t : Fin cfg0.N, win0_0.index t = ![t.val, 0] :=
  (by decide +kernel : ∀ t : Fin grid0.N, win0_0.index t = ![t.val, 0])
theorem ix_1 : ∀ t : Fin cfg0.N, win0_1.index t = ![0, 0] :=
  (by decide +kernel : ∀ t : Fin grid0.N, win0_1.index t = ![0, 0])
theorem ix_2 : ∀ t : Fin cfg0.N, win0_2.index t = ![t.val, 0] :=
  (by decide +kernel : ∀ t : Fin grid0.N, win0_2.index t = ![t.val, 0])

/-- One point's product. -/
theorem pay_at (v0 : Vec Ideal S1024x1024 .bf16) (v2 : Vec Ideal S1024x384 .bf16) (y : S1024x384.Idx) : k0_pay1 v0 v2 y = dotNN v0 v2 y := by
  rw [eq_ix2 y]
  unfold k0_pay1 dotNN
  pointwise

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S1024x384.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S9216x384.Idx =>
    dotNN (m ((c : Thread nD τ).loc main_arg0)) (m ((c : Thread nD τ).loc main_arg1)) y := by
  refine (dats m 0 c).arrAt_eq_of_covers 2 _ (by decide +kernel) fun t _ y => ?_
  rw [dotNN_nat]
  blk_simp
  rw [after0_2]
  frame_out
  refine (pay_at _ _ y).trans (dotNN_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel22Ideal_Reference22Ideal`: both programs run, and their results are equal. -/
theorem algebraic : Cert.algebraic_Kernel22Ideal_Reference22Ideal := by
  intro m ρ m' ρ' _ hagree
  refine ⟨fun c => dotNN (m ((c : Thread nD τ).loc main_arg0)) (m ((c : Thread nD τ).loc main_arg1)), ?_, ?_⟩
  · exact (θ_run Cert.Kernel22Ideal.defs _ _).mono (fun r h c => ⟨(h c).1.trans (array m c), (h c).2⟩) (Cert.Kernel22Ideal.Value.run_blocks m ρ)
  · refine (θ_run Cert.Reference22Ideal.defs _ _).mono (fun r h c => ⟨(h c).1.trans ?_, (h c).2⟩)
      (Cert.Reference22Ideal.Value.run (F := Ideal) m' ρ')
    rw [(hagree c).1, (hagree c).2]
    funext y
    rw [eq_ix2 y]
    unfold dotNN
    pointwise

end Cert.Kernel22Ideal.Mm
-- ==== Proof.Mm23.lean ====
/-
  The input projection's key and value columns: what the call leaves in its result.
-/
module

public import proofs.«01_k».proof.Proof.Gen.Kernel23Ideal.Value
public import proofs.«01_k».proof.Proof.Gen.Reference23Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel23Ideal.Mm
open Cert.Kernel23Ideal Cert.Kernel23Ideal.Gen Cert.Mm

theorem ix_0 : ∀ t : Fin cfg0.N, win0_0.index t = ![t.val, 0] :=
  (by decide +kernel : ∀ t : Fin grid0.N, win0_0.index t = ![t.val, 0])
theorem ix_1 : ∀ t : Fin cfg0.N, win0_1.index t = ![0, 0] :=
  (by decide +kernel : ∀ t : Fin grid0.N, win0_1.index t = ![0, 0])
theorem ix_2 : ∀ t : Fin cfg0.N, win0_2.index t = ![t.val, 0] :=
  (by decide +kernel : ∀ t : Fin grid0.N, win0_2.index t = ![t.val, 0])

/-- One point's product. -/
theorem pay_at (v0 : Vec Ideal S1024x1024 .bf16) (v2 : Vec Ideal S1024x256 .bf16) (y : S1024x256.Idx) : k0_pay1 v0 v2 y = dotNN v0 v2 y := by
  rw [eq_ix2 y]
  unfold k0_pay1 dotNN
  pointwise

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S1024x256.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S9216x256.Idx =>
    dotNN (m ((c : Thread nD τ).loc main_arg0)) (m ((c : Thread nD τ).loc main_arg1)) y := by
  refine (dats m 0 c).arrAt_eq_of_covers 2 _ (by decide +kernel) fun t _ y => ?_
  rw [dotNN_nat]
  blk_simp
  rw [after0_2]
  frame_out
  refine (pay_at _ _ y).trans (dotNN_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel23Ideal_Reference23Ideal`: both programs run, and their results are equal. -/
theorem algebraic : Cert.algebraic_Kernel23Ideal_Reference23Ideal := by
  intro m ρ m' ρ' _ hagree
  refine ⟨fun c => dotNN (m ((c : Thread nD τ).loc main_arg0)) (m ((c : Thread nD τ).loc main_arg1)), ?_, ?_⟩
  · exact (θ_run Cert.Kernel23Ideal.defs _ _).mono (fun r h c => ⟨(h c).1.trans (array m c), (h c).2⟩) (Cert.Kernel23Ideal.Value.run_blocks m ρ)
  · refine (θ_run Cert.Reference23Ideal.defs _ _).mono (fun r h c => ⟨(h c).1.trans ?_, (h c).2⟩)
      (Cert.Reference23Ideal.Value.run (F := Ideal) m' ρ')
    rw [(hagree c).1, (hagree c).2]
    funext y
    rw [eq_ix2 y]
    unfold dotNN
    pointwise

end Cert.Kernel23Ideal.Mm
-- ==== Proof.Mm24.lean ====
/-
  The input projection's rotary key and step size columns: what the call leaves in its result.
-/
module

public import proofs.«01_k».proof.Proof.Gen.Kernel24Ideal.Value
public import proofs.«01_k».proof.Proof.Gen.Reference24Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel24Ideal.Mm
open Cert.Kernel24Ideal Cert.Kernel24Ideal.Gen Cert.Mm

theorem ix_0 : ∀ t : Fin cfg0.N, win0_0.index t = ![t.val, 0] :=
  (by decide +kernel : ∀ t : Fin grid0.N, win0_0.index t = ![t.val, 0])
theorem ix_1 : ∀ t : Fin cfg0.N, win0_1.index t = ![0, 0] :=
  (by decide +kernel : ∀ t : Fin grid0.N, win0_1.index t = ![0, 0])
theorem ix_2 : ∀ t : Fin cfg0.N, win0_2.index t = ![t.val, 0] :=
  (by decide +kernel : ∀ t : Fin grid0.N, win0_2.index t = ![t.val, 0])

/-- One point's product. -/
theorem pay_at (v0 : Vec Ideal S1024x1024 .bf16) (v2 : Vec Ideal S1024x128 .bf16) (y : S1024x128.Idx) : k0_pay1 v0 v2 y = dotNN v0 v2 y := by
  rw [eq_ix2 y]
  unfold k0_pay1 dotNN
  pointwise

section
variable (m : (ℓ : Loc nD τ sig) → Buf (Elt Ideal) ℓ) (c : Dev nD)

theorem v0_at (y : S9216x1024.Idx) : V m c main_v0 y = m ((c : Thread nD τ).loc main_arg0) y := by
  show StableHlo.after hostOps0 _ main_v0 y = _
  rw [eq_ix2 y]
  after_reads_at

theorem v1_at (y : S1024x128.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S9216x128.Idx =>
    dotNN (m ((c : Thread nD τ).loc main_arg0)) (m ((c : Thread nD τ).loc main_arg1)) y := by
  refine (dats m 0 c).arrAt_eq_of_covers 2 _ (by decide +kernel) fun t _ y => ?_
  rw [dotNN_nat]
  blk_simp
  rw [after0_2]
  frame_out
  refine (pay_at _ _ y).trans (dotNN_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel24Ideal_Reference24Ideal`: both programs run, and their results are equal. -/
theorem algebraic : Cert.algebraic_Kernel24Ideal_Reference24Ideal := by
  intro m ρ m' ρ' _ hagree
  refine ⟨fun c => dotNN (m ((c : Thread nD τ).loc main_arg0)) (m ((c : Thread nD τ).loc main_arg1)), ?_, ?_⟩
  · exact (θ_run Cert.Kernel24Ideal.defs _ _).mono (fun r h c => ⟨(h c).1.trans (array m c), (h c).2⟩) (Cert.Kernel24Ideal.Value.run_blocks m ρ)
  · refine (θ_run Cert.Reference24Ideal.defs _ _).mono (fun r h c => ⟨(h c).1.trans ?_, (h c).2⟩)
      (Cert.Reference24Ideal.Value.run (F := Ideal) m' ρ')
    rw [(hagree c).1, (hagree c).2]
    funext y
    rw [eq_ix2 y]
    unfold dotNN
    pointwise

end Cert.Kernel24Ideal.Mm
-- ==== Proof.Mm25.lean ====
/-
  The query up-projection: what the call leaves in its result.
-/
module

public import proofs.«01_k».proof.Proof.Gen.Kernel25Ideal.Value
public import proofs.«01_k».proof.Proof.Gen.Reference25Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel25Ideal.Mm
open Cert.Kernel25Ideal Cert.Kernel25Ideal.Gen Cert.Mm

theorem ix_0 : ∀ t : Fin cfg0.N, win0_0.index t = ![t.val / 4, 0] :=
  (by decide +kernel : ∀ t : Fin grid0.N, win0_0.index t = ![t.val / 4, 0])
theorem ix_1 : ∀ t : Fin cfg0.N, win0_1.index t = ![0, t.val % 4] :=
  (by decide +kernel : ∀ t : Fin grid0.N, win0_1.index t = ![0, t.val % 4])
theorem ix_2 : ∀ t : Fin cfg0.N, win0_2.index t = ![t.val / 4, t.val % 4] :=
  (by decide +kernel : ∀ t : Fin grid0.N, win0_2.index t = ![t.val / 4, t.val % 4])

/-- One point's product. -/
theorem pay_at (v0 : Vec Ideal S1024x384 .bf16) (v2 : Vec Ideal S384x512 .bf16) (y : S1024x512.Idx) : k0_pay1 v0 v2 y = dotNN v0 v2 y := by
  rw [eq_ix2 y]
  unfold k0_pay1 dotNN
  pointwise

section
variable (m : (ℓ : Loc nD τ sig) → Buf (Elt Ideal) ℓ) (c : Dev nD)

theorem v0_at (y : S8192x384.Idx) : V m c main_v0 y = m ((c : Thread nD τ).loc main_arg0) y := by
  show StableHlo.after hostOps0 _ main_v0 y = _
  rw [eq_ix2 y]
  after_reads_at

theorem v1_at (y : S384x2048.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S8192x2048.Idx =>
    dotNN (m ((c : Thread nD τ).loc main_arg0)) (m ((c : Thread nD τ).loc main_arg1)) y := by
  refine (dats m 0 c).arrAt_eq_of_covers 2 _ (by decide +kernel) fun t _ y => ?_
  rw [dotNN_nat]
  blk_simp
  rw [after0_2]
  frame_out
  refine (pay_at _ _ y).trans (dotNN_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

end

/-- `Cert.algebraic_Kernel25Ideal_Reference25Ideal`: both programs run, and their results are equal. -/
theorem algebraic : Cert.algebraic_Kernel25Ideal_Reference25Ideal := by
  intro m ρ m' ρ' _ hagree
  refine ⟨fun c => dotNN (m ((c : Thread nD τ).loc main_arg0)) (m ((c : Thread nD τ).loc main_arg1)), ?_, ?_⟩
  · exact (θ_run Cert.Kernel25Ideal.defs _ _).mono (fun r h c => ⟨(h c).1.trans (array m c), (h c).2⟩) (Cert.Kernel25Ideal.Value.run_blocks m ρ)
  · refine (θ_run Cert.Reference25Ideal.defs _ _).mono (fun r h c => ⟨(h c).1.trans ?_, (h c).2⟩)
      (Cert.Reference25Ideal.Value.run (F := Ideal) m' ρ')
    rw [(hagree c).1, (hagree c).2]
    funext y
    rw [eq_ix2 y]
    unfold dotNN
    pointwise

end Cert.Kernel25Ideal.Mm
-- ==== Proof.Mm26.lean ====
/-
  The key and value up-projection: what the call leaves in its result.
-/
module

public import proofs.«01_k».proof.Proof.Gen.Kernel26Ideal.Frame
public import proofs.«01_k».proof.Proof.Gen.Reference26Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel26Ideal.Mm
open Cert.Kernel26Ideal Cert.Kernel26Ideal.Gen Cert.Mm

theorem ix_0 : ∀ t : Fin cfg0.N, win0_0.index t = ![t.val / 4, 0] :=
  (by decide +kernel : ∀ t : Fin grid0.N, win0_0.index t = ![t.val / 4, 0])
theorem ix_1 : ∀ t : Fin cfg0.N, win0_1.index t = ![0, t.val % 4] :=
  (by decide +kernel : ∀ t : Fin grid0.N, win0_1.index t = ![0, t.val % 4])
theorem ix_2 : ∀ t : Fin cfg0.N, win0_2.index t = ![t.val / 4, t.val % 4] :=
  (by decide +kernel : ∀ t : Fin grid0.N, win0_2.index t = ![t.val / 4, t.val % 4])

/-- One point's product. -/
theorem pay_at (v0 : Vec Ideal S1024x256 .bf16) (v2 : Vec Ideal S256x512 .bf16) (y : S1024x512.Idx) : k0_pay1 v0 v2 y = dotNN v0 v2 y := by
  rw [eq_ix2 y]
  unfold k0_pay1 dotNN
  pointwise

section
variable (m : (ℓ : Loc nD τ sig) → Buf (Elt Ideal) ℓ) (c : Dev nD)

theorem v0_at (y : S9216x256.Idx) : V m c main_v0 y = m ((c : Thread nD τ).loc main_arg0) y := by
  show StableHlo.after hostOps0 _ main_v0 y = _
  rw [eq_ix2 y]
  after_reads_at

theorem v1_at (y : S256x2048.Idx) : V m c main_v1 y = m ((c : Thread nD τ).loc main_arg1) y := by
  show StableHlo.after hostOps0 _ main_v1 y = _
  rw [eq_ix2 y]
  after_reads_at

/-- The result array. -/
theorem array : (dats m 0 c).arrAt 2 cfg0.N = fun y : S9216x2048.Idx =>
    dotNN (m ((c : Thread nD τ).loc main_arg0)) (m ((c : Thread nD τ).loc main_arg1)) y := by
  refine (dats m 0 c).arrAt_eq_of_covers 2 _ (by decide +kernel) fun t _ y => ?_
  rw [dotNN_nat]
  blk_simp
  rw [after0_2]
  frame_out
  refine (pay_at _ _ y).trans (dotNN_blk _ _ _ (fun k => ?_) fun k => ?_)
  · blk_simp [iblk]
    rw [v0_at]
    refine nat2_of _ _ ?_ ?_ <;> blk_simp [ix_0, ix_2] <;> simp
  · blk_simp [iblk]
    rw [v1_at]
    refine nat2_of _ _ ?_ ?_ <;> blk_simp [ix_1, ix_2] <;> simp

/-- The program's result: the call's, in a wider format. -/
theorem result : Pipeline.afterTail₀ cfgs (dats m) 0 (V0 m) [hostOps1] c main_v3
    = fun y : S9216x2048.Idx => dotNN (m ((c : Thread nD τ).loc main_arg0)) (m ((c : Thread nD τ).loc main_arg1)) y := by
  refine funext fun y : S9216x2048.Idx => ?_
  refine Eq.trans ?_ (congrFun (array m c) y)
  rw [eq_ix2 y]
  unfold Pipeline.afterTail₀
  show StableHlo.after hostOps1 _ main_v3 (ix2 (y 0) (y 1)) = _
  after_reads_at
  exact congrFun (Pipeline.withArrays_arr spec0 (by decide) c (V0 m c) (fun w => (dats m 0 c).arrAt w cfg0.N) 2) _

/-- The run of the whole program. -/
theorem run (ρ : Dev nD → PrngReg) : θ_run defs (onTc (τ := τ) (main (F := Ideal))) ⟨m, fun _ => 0, ρ⟩ fun r => ∀ c : Dev nD,
      r.2.mem ((c : Thread nD τ).loc main_v3) = dotNN (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v3 (Pipeline.mem_restRefs_of main_v3 (by decide) (by decide))).trans (result m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end

/-- `Cert.algebraic_Kernel26Ideal_Reference26Ideal`: both programs run, and their results are equal. -/
theorem algebraic : Cert.algebraic_Kernel26Ideal_Reference26Ideal := by
  intro m ρ m' ρ' _ hagree
  refine ⟨fun c => dotNN (m ((c : Thread nD τ).loc main_arg0)) (m ((c : Thread nD τ).loc main_arg1)), ?_, ?_⟩
  · exact run m ρ
  · refine (θ_run Cert.Reference26Ideal.defs _ _).mono (fun r h c => ⟨(h c).1.trans ?_, (h c).2⟩)
      (Cert.Reference26Ideal.Value.run (F := Ideal) m' ρ')
    rw [(hagree c).1, (hagree c).2]
    funext y
    rw [eq_ix2 y]
    unfold dotNN
    pointwise

end Cert.Kernel26Ideal.Mm
-- ==== Proof.Mm27.lean ====
/-
  The weight gradient of the output projection's upper half: what the call leaves in its result.
-/
module

public import proofs.«01_k».proof.Proof.Gen.Kernel27Ideal.Value
public import proofs.«01_k».proof.Proof.Gen.Reference27Ideal.Run
public import proofs.«01_k».proof.Proof.Products
public import proofs.«01_k».proof.Defs
public import Idealize.ShloMosaic.Lib.Tactic
public import Idealize.ShloMosaic.Lib.MatmulPlain
public import Idealize.ShloMosaic.Lib.Pointwise
public import Idealize.ShloMosaic.Lib.ValueIdx
public import Idealize.ShloMosaic.Lib.Pipeline.Covers
public import Idealize.ShloMosaic.Lib.IdealHost
public import Idealize.ShloMosaic.Lib.KernelVsHost
public import Idealize.ShloMosaic.Lib.StableHlo.ReadAt

@[expose] public section

set_option maxRecDepth 16384

noncomputable section

open Idealize.ShloMosaic Idealize.ShloMosaic.TcCoe Idealize.SL.Sem

namespace Cert.Kernel27Ideal.Mm
open Cert.Kernel27Ideal Cert.Kernel27Ideal.Gen Cert.Mm

theorem ix_0 : ∀ t : Fin cfg0.N, win0_0.index t = ![t.val % 4, 0] :=
  (by decide +kernel : ∀ t : Fin grid0.N, win0_0.index t = ![t.val % 4, 0])
theorem ix_1 : ∀ t : Fin cfg0.N, win0_1.index t = ![t.val % 4, t.val / 4] :=
  (by decide +kernel : ∀ t : Fin grid0.N, win0_1.index t = ![t.val % 4, t.val / 4])
theorem ix_2 : ∀ t : Fin cfg0.N, win0_2.index t = ![0, t.val / 4] :=
  (by decide +kernel : ∀ t : Fin grid0.N, win0_2.index t = ![0, t.val / 4])

/-- One point's partial product, added to what the accumulator held. -/
theorem pay2_at (v3 : Vec Ideal S1024x512 .f32) (v4 : Vec Ideal S2048x1024 .f32) (v6 : Vec Ideal S2048x512 .bf16) (y : S1024x512.Idx) :
    k0_pay2 v3 v4 v6 y = v3 y + dotTN v4 v6 y := by
  rw [eq_ix2 y]
  unfold k0_pay2 dotTN
  pointwise

theorem pay1_at (y : S1024x512.Idx) : (k0_pay1 (F := Ideal)) y = 0 := by
  unfold k0_pay1
  pointwise

/-- The accumulator reads back as it was left. -/
theorem held (v : Vec Ideal S1024x512 .f32) (y : S1024x512.Idx) :
    View.read (Elt Ideal) (View.whole cc0_scratch0) ((Memref.isWhole_whole (sig := sig) (κ := .tc) cc0_scratch0).unread v) y = v y :=
  congrFun ((Memref.isWhole_whole (sig := sig) (κ := .tc) cc0_scratch0).read_unread v) y

section
variable (m : (ℓ : Loc nD τ sig) → Buf (Elt Ideal) ℓ) (c : Dev nD)

theorem v0_at (y : S8192x1024.Idx) : V m c main_arg0 y = m ((c : Thread nD τ).loc main_arg0) y := by
  show StableHlo.after hostOps0 _ main_arg0 y = _
  rw [eq_ix2 y]
  after_reads_at

theorem v1_at (y : S8192x1024.Idx) : V m c main_v0 y = m ((c : Thread nD τ).loc main_arg1) y := by
  show StableHlo.after hostOps0 _ main_v0 y = _
  rw [eq_ix2 y]
  after_reads_at

theorem blk_0 (t : Fin cfg0.N) (k : Fin 2048) (i : Fin 1024) : iblk m c 0 t (ix2 k i)
    = nat2 (m ((c : Thread nD τ).loc main_arg0)) (t.val % 4 * 2048 + k) i := by
  blk_simp [iblk]
  rw [v0_at]
  refine nat2_of _ _ ?_ ?_ <;> blk_simp [ix_0] <;> simp

theorem blk_1 (t : Fin cfg0.N) (k : Fin 2048) (j : Fin 512) : iblk m c 1 t (ix2 k j)
    = nat2 (m ((c : Thread nD τ).loc main_arg1)) (t.val % 4 * 2048 + k) (t.val / 4 * 512 + j) := by
  blk_simp [iblk]
  rw [v1_at]
  refine nat2_of _ _ ?_ ?_ <;> blk_simp [ix_1] <;> simp

/-- The products that an entry of the result sums. -/
def g (q : ℕ) (y : S1024x512.Idx) (k : ℕ) : EReal :=
  nat2 (m ((c : Thread nD τ).loc main_arg0)) k (y 0).val * nat2 (m ((c : Thread nD τ).loc main_arg1)) k (q * 512 + (y 1).val)

theorem part_at (t : Fin cfg0.N) (y : S1024x512.Idx) : dotTN (iblk m c 0 t) (iblk m c 1 t) y
    = ∑ k ∈ Finset.range 2048, g m c (t.val / 4) y (t.val % 4 * 2048 + k) := by
  rw [← Fin.sum_univ_eq_sum_range (fun k => g m c (t.val / 4) y (t.val % 4 * 2048 + k))]
  refine Finset.sum_congr rfl fun k _ => (congrArg₂ (fun a b : EReal => a * b) (blk_0 m c t k (y 0)) (blk_1 m c t k (y 1))).trans ?_
  rw [g]

theorem acc_at (t : Fin cfg0.N) (y : S1024x512.Idx) : (outsAt0 m c t.val t.isLt).2 y
    = ∑ k ∈ Finset.range ((t.val % 4 + 1) * 2048), g m c (t.val / 4) y k := by
  refine accumulate (P := 4) (fun n h => (outsAt0 m c n h).2) (g m c) (fun t h y => ?_) (fun t h y => ?_) t y
  · rw [outsAt0_A m c t h (by omega)]
    frame_out
    rw [pay2_at, pay1_at]
    exact congrArg _ (part_at m c t y)
  · by_cases hl : t.val % 4 = 3
    · rw [outsAt0_C m c t h hl]
      frame_out
      rw [pay2_at]
      exact congrArg₂ (fun a b : EReal => a + b) (held _ y) (part_at m c t y)
    · rw [outsAt0_B m c t h hl]
      frame_out
      rw [pay2_at]
      exact congrArg₂ (fun a b : EReal => a + b) (held _ y) (part_at m c t y)

/-- What a point that writes back writes is the accumulator. -/
theorem out_at (t : Fin cfg0.N) (hl : t.val % 4 = 3) : (outsAt0 m c t.val t.isLt).1 = (outsAt0 m c t.val t.isLt).2 := by
  rw [outsAt0_C m c t (by omega) hl]
  frame_out

/-- The result array. -/
theorem array : (dats m 0 c).arrAt 2 cfg0.N = fun y : S1024x1024.Idx =>
    dotTN (m ((c : Thread nD τ).loc main_arg0)) (m ((c : Thread nD τ).loc main_arg1)) y := by
  refine (dats m 0 c).arrAt_eq_of_covers 2 _ (by decide +kernel) fun t hf y => ?_
  have hl : t.val % 4 = 3 := (flush0_2 t).mp hf
  rw [dotTN_nat]
  blk_simp
  rw [after0_2, out_at m c t hl, acc_at, hl]
  unfold g
  blk_simp [ix_2]

end

/-- `Cert.algebraic_Kernel27Ideal_Reference27Ideal`: both programs run, and their results are equal. -/
theorem algebraic : Cert.algebraic_Kernel27Ideal_Reference27Ideal := by
  intro m ρ m' ρ' _ hagree
  refine ⟨fun c => dotTN (m ((c : Thread nD τ).loc main_arg0)) (m ((c : Thread nD τ).loc main_arg1)), ?_, ?_⟩
  · exact (θ_run Cert.Kernel27Ideal.defs _ _).mono (fun r h c => ⟨(h c).1.trans (array m c), (h c).2⟩) (Cert.Kernel27Ideal.Value.run_blocks m ρ)
  · refine (θ_run Cert.Reference27Ideal.defs _ _).mono (fun r h c => ⟨(h c).1.trans ?_, (h c).2⟩)
      (Cert.Reference27Ideal.Value.run (F := Ideal) m' ρ')
    rw [(hagree c).1, (hagree c).2]
    funext y
    rw [eq_ix2 y]
    unfold dotTN
    pointwise
    exact Finset.sum_congr rfl fun k _ => mul_comm _ _

end Cert.Kernel27Ideal.Mm
-- ==== Proof.lean ====
/-
  The proof of `Cert.Claim`: for each program the frames of the kernel and its idealization, the reference's frame, the
  named constants, and the equality of the idealized kernel's results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.GluAlgebraic
public import proofs.«01_k».proof.Proof.Algebraic
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Mm17
public import proofs.«01_k».proof.Proof.Mm18
public import proofs.«01_k».proof.Proof.Mm19
public import proofs.«01_k».proof.Proof.Mm20
public import proofs.«01_k».proof.Proof.Mm21
public import proofs.«01_k».proof.Proof.Mm22
public import proofs.«01_k».proof.Proof.Mm23
public import proofs.«01_k».proof.Proof.Mm24
public import proofs.«01_k».proof.Proof.Mm25
public import proofs.«01_k».proof.Proof.Mm26
public import proofs.«01_k».proof.Proof.Mm27
public import Idealize.ShloMosaic.Adequacy
public import Idealize.ShloMosaic.Init

@[expose] public section

noncomputable section

namespace Cert.Proof

open Idealize.ShloMosaic Idealize.SL.Sem

/-- The kernel runs from every memory, leaves its arguments as they were, and ends with every counter at zero. -/
theorem frame_kernel : Cert.quiescent_Kernel := fun m ρ _ => Cert.Kernel.Gen.frame m ρ

/-- The same of the idealized kernel. -/
theorem frame_ideal : Cert.quiescent_KernelIdeal := fun m ρ _ => Cert.KernelIdeal.Gen.frame m ρ

/-- The same of the reference, which has no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The two named constants: each is a constant of the printed module, named at its exact value. -/
theorem preserves : Cert.preserves_Kernel_KernelIdeal :=
  ⟨IdealRules.named_const.statement _ _ _ _ _ rfl, IdealRules.named_const.statement _ _ _ _ _ rfl⟩

/-- The gated layer's own frames, and its named constants. -/
theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

theorem preserves2 : Cert.preserves_Kernel2_Kernel2Ideal :=
  ⟨IdealRules.named_const.statement _ _ _ _ _ rfl, IdealRules.named_const.statement _ _ _ _ _ rfl⟩

/-- The frames of the product with the second weight. -/
theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The frames of its weight gradient. -/
theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The frames of the first product's weight gradient. -/
theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The frames of the gradient of the first product's input. -/
theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The frames of program 7: the weight gradient of the output projection's lower half. -/
theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The frames of program 8: the gradient of either input of the output projection. -/
theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The frames of program 9: the gradient of the input projection's input. -/
theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

/-- The frames of program 10: the weight gradient of the input projection's gate columns. -/
theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- The frames of program 11: the weight gradient of the input projection's scan columns. -/
theorem frame_kernel11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- The frames of program 12: the weight gradient of the input projection's query columns. -/
theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

/-- The frames of program 13: the weight gradient of the input projection's key and value columns. -/
theorem frame_kernel13 : Cert.quiescent_Kernel13 := fun m ρ _ => Cert.Kernel13.Gen.frame m ρ

theorem frame_ideal13 : Cert.quiescent_Kernel13Ideal := fun m ρ _ => Cert.Kernel13Ideal.Gen.frame m ρ

theorem frame_reference13 : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

/-- The frames of program 14: the weight gradient of the input projection's rotary key and step size columns. -/
theorem frame_kernel14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

/-- The frames of program 15: the weight gradient of the query up-projection. -/
theorem frame_kernel15 : Cert.quiescent_Kernel15 := fun m ρ _ => Cert.Kernel15.Gen.frame m ρ

theorem frame_ideal15 : Cert.quiescent_Kernel15Ideal := fun m ρ _ => Cert.Kernel15Ideal.Gen.frame m ρ

theorem frame_reference15 : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

/-- The frames of program 16: the gradient of the query up-projection's input. -/
theorem frame_kernel16 : Cert.quiescent_Kernel16 := fun m ρ _ => Cert.Kernel16.Gen.frame m ρ

theorem frame_ideal16 : Cert.quiescent_Kernel16Ideal := fun m ρ _ => Cert.Kernel16Ideal.Gen.frame m ρ

theorem frame_reference16 : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run (F := Ideal) m ρ)

/-- The frames of program 17: the weight gradient of the key and value up-projection. -/
theorem frame_kernel17 : Cert.quiescent_Kernel17 := fun m ρ _ => Cert.Kernel17.Gen.frame m ρ

theorem frame_ideal17 : Cert.quiescent_Kernel17Ideal := fun m ρ _ => Cert.Kernel17Ideal.Gen.frame m ρ

theorem frame_reference17 : Cert.quiescent_Reference17Ideal := fun m ρ _ =>
  (θ_run Cert.Reference17Ideal.defs _ _).mono
    (fun r h => ⟨fun c => (h c).2, sem_eq_zero_of_no_sems (by decide) r.2⟩)
    (Cert.Reference17Ideal.Value.run (F := Ideal) m ρ)

/-- The frames of program 18: the gradient of the key and value up-projection's input. -/
theorem frame_kernel18 : Cert.quiescent_Kernel18 := fun m ρ _ => Cert.Kernel18.Gen.frame m ρ

theorem frame_ideal18 : Cert.quiescent_Kernel18Ideal := fun m ρ _ => Cert.Kernel18Ideal.Gen.frame m ρ

theorem frame_reference18 : Cert.quiescent_Reference18Ideal := fun m ρ _ =>
  (θ_run Cert.Reference18Ideal.defs _ _).mono
    (fun r h => ⟨fun c => (h c).2, sem_eq_zero_of_no_sems (by decide) r.2⟩)
    (Cert.Reference18Ideal.Value.run (F := Ideal) m ρ)

/-- The frames of program 19: the output projection. -/
theorem frame_kernel19 : Cert.quiescent_Kernel19 := fun m ρ _ => Cert.Kernel19.Gen.frame m ρ

theorem frame_ideal19 : Cert.quiescent_Kernel19Ideal := fun m ρ _ => Cert.Kernel19Ideal.Gen.frame m ρ

theorem frame_reference19 : Cert.quiescent_Reference19Ideal := fun m ρ _ =>
  (θ_run Cert.Reference19Ideal.defs _ _).mono
    (fun r h => ⟨fun c => (h c).2, sem_eq_zero_of_no_sems (by decide) r.2⟩)
    (Cert.Reference19Ideal.Value.run (F := Ideal) m ρ)

/-- The frames of program 20: the input projection's gate columns. -/
theorem frame_kernel20 : Cert.quiescent_Kernel20 := fun m ρ _ => Cert.Kernel20.Gen.frame m ρ

theorem frame_ideal20 : Cert.quiescent_Kernel20Ideal := fun m ρ _ => Cert.Kernel20Ideal.Gen.frame m ρ

theorem frame_reference20 : Cert.quiescent_Reference20Ideal := fun m ρ _ =>
  (θ_run Cert.Reference20Ideal.defs _ _).mono
    (fun r h => ⟨fun c => (h c).2, sem_eq_zero_of_no_sems (by decide) r.2⟩)
    (Cert.Reference20Ideal.Value.run (F := Ideal) m ρ)

/-- The frames of program 21: the input projection's scan columns. -/
theorem frame_kernel21 : Cert.quiescent_Kernel21 := fun m ρ _ => Cert.Kernel21.Gen.frame m ρ

theorem frame_ideal21 : Cert.quiescent_Kernel21Ideal := fun m ρ _ => Cert.Kernel21Ideal.Gen.frame m ρ

theorem frame_reference21 : Cert.quiescent_Reference21Ideal := fun m ρ _ =>
  (θ_run Cert.Reference21Ideal.defs _ _).mono
    (fun r h => ⟨fun c => (h c).2, sem_eq_zero_of_no_sems (by decide) r.2⟩)
    (Cert.Reference21Ideal.Value.run (F := Ideal) m ρ)

/-- The frames of program 22: the input projection's query columns. -/
theorem frame_kernel22 : Cert.quiescent_Kernel22 := fun m ρ _ => Cert.Kernel22.Gen.frame m ρ

theorem frame_ideal22 : Cert.quiescent_Kernel22Ideal := fun m ρ _ => Cert.Kernel22Ideal.Gen.frame m ρ

theorem frame_reference22 : Cert.quiescent_Reference22Ideal := fun m ρ _ =>
  (θ_run Cert.Reference22Ideal.defs _ _).mono
    (fun r h => ⟨fun c => (h c).2, sem_eq_zero_of_no_sems (by decide) r.2⟩)
    (Cert.Reference22Ideal.Value.run (F := Ideal) m ρ)

/-- The frames of program 23: the input projection's key and value columns. -/
theorem frame_kernel23 : Cert.quiescent_Kernel23 := fun m ρ _ => Cert.Kernel23.Gen.frame m ρ

theorem frame_ideal23 : Cert.quiescent_Kernel23Ideal := fun m ρ _ => Cert.Kernel23Ideal.Gen.frame m ρ

theorem frame_reference23 : Cert.quiescent_Reference23Ideal := fun m ρ _ =>
  (θ_run Cert.Reference23Ideal.defs _ _).mono
    (fun r h => ⟨fun c => (h c).2, sem_eq_zero_of_no_sems (by decide) r.2⟩)
    (Cert.Reference23Ideal.Value.run (F := Ideal) m ρ)

/-- The frames of program 24: the input projection's rotary key and step size columns. -/
theorem frame_kernel24 : Cert.quiescent_Kernel24 := fun m ρ _ => Cert.Kernel24.Gen.frame m ρ

theorem frame_ideal24 : Cert.quiescent_Kernel24Ideal := fun m ρ _ => Cert.Kernel24Ideal.Gen.frame m ρ

theorem frame_reference24 : Cert.quiescent_Reference24Ideal := fun m ρ _ =>
  (θ_run Cert.Reference24Ideal.defs _ _).mono
    (fun r h => ⟨fun c => (h c).2, sem_eq_zero_of_no_sems (by decide) r.2⟩)
    (Cert.Reference24Ideal.Value.run (F := Ideal) m ρ)

/-- The frames of program 25: the query up-projection. -/
theorem frame_kernel25 : Cert.quiescent_Kernel25 := fun m ρ _ => Cert.Kernel25.Gen.frame m ρ

theorem frame_ideal25 : Cert.quiescent_Kernel25Ideal := fun m ρ _ => Cert.Kernel25Ideal.Gen.frame m ρ

theorem frame_reference25 : Cert.quiescent_Reference25Ideal := fun m ρ _ =>
  (θ_run Cert.Reference25Ideal.defs _ _).mono
    (fun r h => ⟨fun c => (h c).2, sem_eq_zero_of_no_sems (by decide) r.2⟩)
    (Cert.Reference25Ideal.Value.run (F := Ideal) m ρ)

/-- The frames of program 26: the key and value up-projection. -/
theorem frame_kernel26 : Cert.quiescent_Kernel26 := fun m ρ _ => Cert.Kernel26.Gen.frame m ρ

theorem frame_ideal26 : Cert.quiescent_Kernel26Ideal := fun m ρ _ => Cert.Kernel26Ideal.Gen.frame m ρ

theorem frame_reference26 : Cert.quiescent_Reference26Ideal := fun m ρ _ =>
  (θ_run Cert.Reference26Ideal.defs _ _).mono
    (fun r h => ⟨fun c => (h c).2, sem_eq_zero_of_no_sems (by decide) r.2⟩)
    (Cert.Reference26Ideal.Value.run (F := Ideal) m ρ)

/-- The frames of program 27: the weight gradient of the output projection's upper half. -/
theorem frame_kernel27 : Cert.quiescent_Kernel27 := fun m ρ _ => Cert.Kernel27.Gen.frame m ρ

theorem frame_ideal27 : Cert.quiescent_Kernel27Ideal := fun m ρ _ => Cert.Kernel27Ideal.Gen.frame m ρ

theorem frame_reference27 : Cert.quiescent_Reference27Ideal := fun m ρ _ =>
  (θ_run Cert.Reference27Ideal.defs _ _).mono
    (fun r h => ⟨fun c => (h c).2, sem_eq_zero_of_no_sems (by decide) r.2⟩)
    (Cert.Reference27Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Pre_finite.Att.facts, Cert.Pre_finite2.Glu.facts, frame_kernel, frame_ideal, fun m ρ _ => frame_ideal m ρ trivial,
  frame_reference, fun m ρ _ => frame_reference m ρ trivial,
  frame_kernel2, frame_ideal2, fun m ρ _ => frame_ideal2 m ρ trivial,
  frame_reference2, fun m ρ _ => frame_reference2 m ρ trivial,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_reference18,
  frame_kernel19, frame_ideal19, frame_reference19,
  frame_kernel20, frame_ideal20, frame_reference20,
  frame_kernel21, frame_ideal21, frame_reference21,
  frame_kernel22, frame_ideal22, frame_reference22,
  frame_kernel23, frame_ideal23, frame_reference23,
  frame_kernel24, frame_ideal24, frame_reference24,
  frame_kernel25, frame_ideal25, frame_reference25,
  frame_kernel26, frame_ideal26, frame_reference26,
  frame_kernel27, frame_ideal27, frame_reference27,
  preserves, Cert.Att.algebraic, preserves2, Cert.Glu.algebraic,
  trivial, Cert.Kernel3Ideal.Mm.algebraic,
  trivial, Cert.Kernel4Ideal.Mm.algebraic,
  trivial, Cert.Kernel5Ideal.Mm.algebraic,
  trivial, Cert.Kernel6Ideal.Mm.algebraic,
  trivial, Cert.Kernel7Ideal.Mm.algebraic,
  trivial, Cert.Kernel8Ideal.Mm.algebraic,
  trivial, Cert.Kernel9Ideal.Mm.algebraic,
  trivial, Cert.Kernel10Ideal.Mm.algebraic,
  trivial, Cert.Kernel11Ideal.Mm.algebraic,
  trivial, Cert.Kernel12Ideal.Mm.algebraic,
  trivial, Cert.Kernel13Ideal.Mm.algebraic,
  trivial, Cert.Kernel14Ideal.Mm.algebraic,
  trivial, Cert.Kernel15Ideal.Mm.algebraic,
  trivial, Cert.Kernel16Ideal.Mm.algebraic,
  trivial, Cert.Kernel17Ideal.Mm.algebraic,
  trivial, Cert.Kernel18Ideal.Mm.algebraic,
  trivial, Cert.Kernel19Ideal.Mm.algebraic,
  trivial, Cert.Kernel20Ideal.Mm.algebraic,
  trivial, Cert.Kernel21Ideal.Mm.algebraic,
  trivial, Cert.Kernel22Ideal.Mm.algebraic,
  trivial, Cert.Kernel23Ideal.Mm.algebraic,
  trivial, Cert.Kernel24Ideal.Mm.algebraic,
  trivial, Cert.Kernel25Ideal.Mm.algebraic,
  trivial, Cert.Kernel26Ideal.Mm.algebraic,
  trivial, Cert.Kernel27Ideal.Mm.algebraic⟩

end Cert.Proof

end
